-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "score_log2e" .f32 0x3E0293EE#32 (((11863283 / 134217728) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v15_0)) (v2 : (c : Dev Cert.KernelIdeal.nD) → Buf (Elt Ideal) ((c.tc : Thread Cert.KernelIdeal.nD Cert.KernelIdeal.τ).loc Cert.KernelIdeal.main_v15_1)) (v3 : (c : Dev Cert.KernelIdeal.nD) → Buf (Elt Ideal) ((c.tc : Thread Cert.KernelIdeal.nD Cert.KernelIdeal.τ).loc Cert.KernelIdeal.main_v17)) (v4 : (c : Dev Cert.KernelIdeal.nD) → Buf (Elt Ideal) ((c.tc : Thread Cert.KernelIdeal.nD Cert.KernelIdeal.τ).loc Cert.KernelIdeal.main_v18)) (v5 : (c : Dev Cert.KernelIdeal.nD) → Buf (Elt Ideal) ((c.tc : Thread Cert.KernelIdeal.nD Cert.KernelIdeal.τ).loc Cert.KernelIdeal.main_v15_5)) (v6 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v15_0) = v1 c
          ∧ r.2.mem ((c.tc : Thread Cert.KernelIdeal.nD Cert.KernelIdeal.τ).loc Cert.KernelIdeal.main_v15_1) = v2 c
          ∧ r.2.mem ((c.tc : Thread Cert.KernelIdeal.nD Cert.KernelIdeal.τ).loc Cert.KernelIdeal.main_v17) = v3 c
          ∧ r.2.mem ((c.tc : Thread Cert.KernelIdeal.nD Cert.KernelIdeal.τ).loc Cert.KernelIdeal.main_v18) = v4 c
          ∧ r.2.mem ((c.tc : Thread Cert.KernelIdeal.nD Cert.KernelIdeal.τ).loc Cert.KernelIdeal.main_v15_5) = v5 c
          ∧ r.2.mem ((c.tc : Thread Cert.KernelIdeal.nD Cert.KernelIdeal.τ).loc Cert.KernelIdeal.main_v19) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32_0) = v0 c
          ∧ r.2.mem ((c.tc : Thread Cert.ReferenceIdeal.nD Cert.ReferenceIdeal.τ).loc Cert.ReferenceIdeal.main_v32_1) = v1 c
          ∧ r.2.mem ((c.tc : Thread Cert.ReferenceIdeal.nD Cert.ReferenceIdeal.τ).loc Cert.ReferenceIdeal.main_v32_2) = v2 c
          ∧ r.2.mem ((c.tc : Thread Cert.ReferenceIdeal.nD Cert.ReferenceIdeal.τ).loc Cert.ReferenceIdeal.main_v32_3) = v3 c
          ∧ r.2.mem ((c.tc : Thread Cert.ReferenceIdeal.nD Cert.ReferenceIdeal.τ).loc Cert.ReferenceIdeal.main_v32_4) = v4 c
          ∧ r.2.mem ((c.tc : Thread Cert.ReferenceIdeal.nD Cert.ReferenceIdeal.τ).loc Cert.ReferenceIdeal.main_v32_5) = v5 c
          ∧ r.2.mem ((c.tc : Thread Cert.ReferenceIdeal.nD Cert.ReferenceIdeal.τ).loc Cert.ReferenceIdeal.main_v32_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x3584 : Shape := ⟨3, ![2, 1024, 3584]⟩
abbrev S3584x4608 : Shape := ⟨2, ![3584, 4608]⟩
abbrev S4608 : Shape := ⟨1, ![4608]⟩
abbrev S3x2x1024 : Shape := ⟨3, ![3, 2, 1024]⟩
abbrev S1x4608 : Shape := ⟨2, ![1, 4608]⟩
abbrev S64 : Shape := ⟨1, ![64]⟩
abbrev S_ : Shape := ⟨0, ![]⟩
abbrev S64x1 : Shape := ⟨2, ![64, 1]⟩
abbrev S64x128 : Shape := ⟨2, ![64, 128]⟩
abbrev S2x1024 : Shape := ⟨2, ![2, 1024]⟩
abbrev S2x1024x128 : Shape := ⟨3, ![2, 1024, 128]⟩
abbrev S2x1024x4x128 : Shape := ⟨4, ![2, 1024, 4, 128]⟩
abbrev S2x4x1024x128 : Shape := ⟨4, ![2, 4, 1024, 128]⟩
abbrev S2x4x1024 : Shape := ⟨3, ![2, 4, 1024]⟩
abbrev S2x512x1024 : Shape := ⟨3, ![2, 512, 1024]⟩
abbrev S1x512x3584 : Shape := ⟨3, ![1, 512, 3584]⟩
abbrev S3584x512 : Shape := ⟨2, ![3584, 512]⟩
abbrev S1x512 : Shape := ⟨2, ![1, 512]⟩
abbrev S1x512x128 : Shape := ⟨3, ![1, 512, 128]⟩
abbrev S1x512x4x128 : Shape := ⟨4, ![1, 512, 4, 128]⟩
abbrev S1x4x512x128 : Shape := ⟨4, ![1, 4, 512, 128]⟩
abbrev S1x4x512 : Shape := ⟨3, ![1, 4, 512]⟩
abbrev S1x512x512 : Shape := ⟨3, ![1, 512, 512]⟩
abbrev S512x3584 : Shape := ⟨2, ![512, 3584]⟩
abbrev S512 : Shape := ⟨1, ![512]⟩
abbrev S512x1 : Shape := ⟨2, ![512, 1]⟩
abbrev S1x247 : Shape := ⟨2, ![1, 247]⟩
abbrev S512x247 : Shape := ⟨2, ![512, 247]⟩
abbrev S512x128 : Shape := ⟨2, ![512, 128]⟩
abbrev S128x512 : Shape := ⟨2, ![128, 512]⟩
abbrev S1x1x512 : Shape := ⟨3, ![1, 1, 512]⟩
abbrev S16x512 : Shape := ⟨2, ![16, 512]⟩
abbrev S24x512 : Shape := ⟨2, ![24, 512]⟩
abbrev S64x512 : Shape := ⟨2, ![64, 512]⟩
abbrev S512x512 : Shape := ⟨2, ![512, 512]⟩
abbrev S1x1x512x128 : Shape := ⟨4, ![1, 1, 512, 128]⟩
abbrev S1x512x1x128 : Shape := ⟨4, ![1, 512, 1, 128]⟩
abbrev S2x28x1024x128 : Shape := ⟨4, ![2, 28, 1024, 128]⟩
abbrev S28x2x1024 : Shape := ⟨3, ![28, 2, 1024]⟩
abbrev S3584x256 : Shape := ⟨2, ![3584, 256]⟩
abbrev S1x256 : Shape := ⟨2, ![1, 256]⟩
abbrev S1x1024x256 : Shape := ⟨3, ![1, 1024, 256]⟩
abbrev S1x2x1024x128 : Shape := ⟨4, ![1, 2, 1024, 128]⟩
abbrev S2x2x1024 : Shape := ⟨3, ![2, 2, 1024]⟩
abbrev S1x1024x3584 : Shape := ⟨3, ![1, 1024, 3584]⟩
abbrev S1024x3584 : Shape := ⟨2, ![1024, 3584]⟩
abbrev S1024x256 : Shape := ⟨2, ![1024, 256]⟩
abbrev S1x1024x128 : Shape := ⟨3, ![1, 1024, 128]⟩
abbrev S1024x128 : Shape := ⟨2, ![1024, 128]⟩
abbrev S1x128 : Shape := ⟨2, ![1, 128]⟩
abbrev S1024 : Shape := ⟨1, ![1024]⟩
abbrev S1024x1 : Shape := ⟨2, ![1024, 1]⟩
abbrev S1024x247 : Shape := ⟨2, ![1024, 247]⟩
abbrev S1x1x1024x128 : Shape := ⟨4, ![1, 1, 1024, 128]⟩
abbrev S128x1024 : Shape := ⟨2, ![128, 1024]⟩
abbrev S1x1024 : Shape := ⟨2, ![1, 1024]⟩
abbrev S1x1x1024 : Shape := ⟨3, ![1, 1, 1024]⟩
abbrev S1x1x256x128 : Shape := ⟨4, ![1, 1, 256, 128]⟩
abbrev S256x128 : Shape := ⟨2, ![256, 128]⟩
abbrev S256x256 : Shape := ⟨2, ![256, 256]⟩
abbrev S256 : Shape := ⟨1, ![256]⟩
abbrev S1x128x256 : Shape := ⟨3, ![1, 128, 256]⟩
abbrev S128x256 : Shape := ⟨2, ![128, 256]⟩
abbrev S1x256x128 : Shape := ⟨3, ![1, 256, 128]⟩
abbrev S512x256 : Shape := ⟨2, ![512, 256]⟩
abbrev S1x128x512 : Shape := ⟨3, ![1, 128, 512]⟩
abbrev S1x1x768x128 : Shape := ⟨4, ![1, 1, 768, 128]⟩
abbrev S768x128 : Shape := ⟨2, ![768, 128]⟩
abbrev S768x256 : Shape := ⟨2, ![768, 256]⟩
abbrev S1x128x768 : Shape := ⟨3, ![1, 128, 768]⟩
abbrev S128x768 : Shape := ⟨2, ![128, 768]⟩
abbrev S1x128x1024 : Shape := ⟨3, ![1, 128, 1024]⟩
abbrev S2x1024x28x128 : Shape := ⟨4, ![2, 1024, 28, 128]⟩
abbrev S2x1024x28 : Shape := ⟨3, ![2, 1024, 28]⟩
abbrev S2x1024x4 : Shape := ⟨3, ![2, 1024, 4]⟩

abbrev nBuf : Space → Nat
  | .hbm => 41
  | .vmem => 48
  | .smem => 0
  | _ => 0

abbrev bufTy : (tb : Table) → Fin (tcTables nBuf tb) → BufTy
  | .hbm, ⟨0, _⟩ => ⟨S2x1024x3584, .bf16⟩
  | .hbm, ⟨1, _⟩ => ⟨S3584x4608, .fp8e4m3⟩
  | .hbm, ⟨2, _⟩ => ⟨S4608, .f32⟩
  | .hbm, ⟨3, _⟩ => ⟨S4608, .f32⟩
  | .hbm, ⟨4, _⟩ => ⟨S3x2x1024, .i32⟩
  | .hbm, ⟨5, _⟩ => ⟨S1x4608, .f32⟩
  | .hbm, ⟨6, _⟩ => ⟨S1x4608, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S64x1, .f32⟩
  | .hbm, ⟨24, _⟩ => ⟨S64x128, .f32⟩
  | .hbm, ⟨25, _⟩ => ⟨S2x1024x3584, .fp8e4m3⟩
  | .hbm, ⟨26, _⟩ => ⟨S2x1024, .f32⟩
  | .hbm, ⟨27, _⟩ => ⟨S2x1024x128, .f32⟩
  | .hbm, ⟨28, _⟩ => ⟨S2x1024x128, .f32⟩
  | .hbm, ⟨29, _⟩ => ⟨S2x1024x128, .f32⟩
  | .hbm, ⟨30, _⟩ => ⟨S2x1024x4x128, .fp8e4m3⟩
  | .hbm, ⟨31, _⟩ => ⟨S2x4x1024x128, .fp8e4m3⟩
  | .hbm, ⟨32, _⟩ => ⟨S2x4x1024, .f32⟩
  | .hbm, ⟨33, _⟩ => ⟨S2x4x1024x128, .f32⟩
  | .hbm, ⟨34, _⟩ => ⟨S2x512x1024, .bf16⟩
  | .hbm, ⟨35, _⟩ => ⟨S2x1024x3584, .bf16⟩
  | .hbm, ⟨36, _⟩ => ⟨S2x28x1024x128, .fp8e4m3⟩
  | .hbm, ⟨37, _⟩ => ⟨S28x2x1024, .f32⟩
  | .hbm, ⟨38, _⟩ => ⟨S2x1024x28x128, .fp8e4m3⟩
  | .hbm, ⟨39, _⟩ => ⟨S2x1024x28, .f32⟩
  | .hbm, ⟨40, _⟩ => ⟨S2x1024x4, .f32⟩
  | .local _ .vmem, ⟨0, _⟩ => ⟨S3x2x1024, .i32⟩
  | .local _ .vmem, ⟨1, _⟩ => ⟨S64x128, .f32⟩
  | .local _ .vmem, ⟨2, _⟩ => ⟨S1x512x3584, .bf16⟩
  | .local _ .vmem, ⟨3, _⟩ => ⟨S1x512x3584, .bf16⟩
  | .local _ .vmem, ⟨4, _⟩ => ⟨S3584x512, .fp8e4m3⟩
  | .local _ .vmem, ⟨5, _⟩ => ⟨S3584x512, .fp8e4m3⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512x3584, .fp8e4m3⟩
  | .local _ .vmem, ⟨11, _⟩ => ⟨S1x512x3584, .fp8e4m3⟩
  | .local _ .vmem, ⟨12, _⟩ => ⟨S2x1024, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | .local _ .vmem, ⟨18, _⟩ => ⟨S1x512x128, .f32⟩
  | .local _ .vmem, ⟨19, _⟩ => ⟨S1x512x4x128, .fp8e4m3⟩
  | .local _ .vmem, ⟨20, _⟩ => ⟨S1x512x4x128, .fp8e4m3⟩
  | .local _ .vmem, ⟨21, _⟩ => ⟨S1x4x512x128, .fp8e4m3⟩
  | .local _ .vmem, ⟨22, _⟩ => ⟨S1x4x512x128, .fp8e4m3⟩
  | .local _ .vmem, ⟨23, _⟩ => ⟨S1x4x512, .f32⟩
  | .local _ .vmem, ⟨24, _⟩ => ⟨S1x4x512, .f32⟩
  | .local _ .vmem, ⟨25, _⟩ => ⟨S1x4x512x128, .f32⟩
  | .local _ .vmem, ⟨26, _⟩ => ⟨S1x4x512x128, .f32⟩
  | .local _ .vmem, ⟨27, _⟩ => ⟨S1x512x512, .bf16⟩
  | .local _ .vmem, ⟨28, _⟩ => ⟨S1x512x512, .bf16⟩
  | .local _ .vmem, ⟨29, _⟩ => ⟨S2x1024x3584, .fp8e4m3⟩
  | .local _ .vmem, ⟨30, _⟩ => ⟨S3584x256, .fp8e4m3⟩
  | .local _ .vmem, ⟨31, _⟩ => ⟨S3584x256, .fp8e4m3⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S2x1024x128, .f32⟩
  | .local _ .vmem, ⟨37, _⟩ => ⟨S2x1024x128, .f32⟩
  | .local _ .vmem, ⟨38, _⟩ => ⟨S2x1024x128, .f32⟩
  | .local _ .vmem, ⟨39, _⟩ => ⟨S2x4x1024x128, .fp8e4m3⟩
  | .local _ .vmem, ⟨40, _⟩ => ⟨S2x4x1024x128, .f32⟩
  | .local _ .vmem, ⟨41, _⟩ => ⟨S2x512x1024, .bf16⟩
  | .local _ .vmem, ⟨42, _⟩ => ⟨S1x1024x256, .bf16⟩
  | .local _ .vmem, ⟨43, _⟩ => ⟨S1x1024x256, .bf16⟩
  | .local _ .vmem, ⟨44, _⟩ => ⟨S1x2x1024x128, .fp8e4m3⟩
  | .local _ .vmem, ⟨45, _⟩ => ⟨S1x2x1024x128, .fp8e4m3⟩
  | .local _ .vmem, ⟨46, _⟩ => ⟨S2x2x1024, .f32⟩
  | .local _ .vmem, ⟨47, _⟩ => ⟨S2x2x1024, .f32⟩
  | _, _ => ⟨S2x1024x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev main_v15_3 : Ref sig .tc := ⟨.hbm, 28, rfl⟩
abbrev main_v15_4 : Ref sig .tc := ⟨.hbm, 29, rfl⟩
abbrev main_v15_5 : Ref sig .tc := ⟨.hbm, 30, rfl⟩
abbrev main_v15_6 : Ref sig .tc := ⟨.hbm, 31, rfl⟩
abbrev main_v15_7 : Ref sig .tc := ⟨.hbm, 32, rfl⟩
abbrev main_v15_8 : Ref sig .tc := ⟨.hbm, 33, rfl⟩
abbrev main_v15_9 : Ref sig .tc := ⟨.hbm, 34, rfl⟩
abbrev main_v16_0 : Ref sig .tc := ⟨.hbm, 35, rfl⟩
abbrev main_v16_1 : Ref sig .tc := ⟨.hbm, 36, rfl⟩
abbrev main_v16_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc1_stg0_0 : Ref sig .tc := ⟨.vmem, 29, rfl⟩
abbrev cc1_stg1_0 : Ref sig .tc := ⟨.vmem, 30, rfl⟩
abbrev cc1_stg1_1 : Ref sig .tc := ⟨.vmem, 31, rfl⟩
abbrev cc1_stg2_0 : Ref sig .tc := ⟨.vmem, 32, rfl⟩
abbrev cc1_stg2_1 : Ref sig .tc := ⟨.vmem, 33, rfl⟩
abbrev cc1_stg3_0 : Ref sig .tc := ⟨.vmem, 34, rfl⟩
abbrev cc1_stg3_1 : Ref sig .tc := ⟨.vmem, 35, rfl⟩
abbrev cc1_stg4_0 : Ref sig .tc := ⟨.vmem, 36, rfl⟩
abbrev cc1_stg5_0 : Ref sig .tc := ⟨.vmem, 37, rfl⟩
abbrev cc1_stg6_0 : Ref sig .tc := ⟨.vmem, 38, rfl⟩
abbrev cc1_stg7_0 : Ref sig .tc := ⟨.vmem, 39, rfl⟩
abbrev cc1_stg8_0 : Ref sig .tc := ⟨.vmem, 40, rfl⟩
abbrev cc1_stg9_0 : Ref sig .tc := ⟨.vmem, 41, rfl⟩
abbrev cc1_stg10_0 : Ref sig .tc := ⟨.vmem, 42, rfl⟩
abbrev cc1_stg10_1 : Ref sig .tc := ⟨.vmem, 43, rfl⟩
abbrev cc1_stg11_0 : Ref sig .tc := ⟨.vmem, 44, rfl⟩
abbrev cc1_stg11_1 : Ref sig .tc := ⟨.vmem, 45, rfl⟩
abbrev cc1_stg12_0 : Ref sig .tc := ⟨.vmem, 46, rfl⟩
abbrev cc1_stg12_1 : Ref sig .tc := ⟨.vmem, 47, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc1_sem0_0 : DmaSem sig := 29
abbrev cc1_sem1_0 : DmaSem sig := 30
abbrev cc1_sem1_1 : DmaSem sig := 31
abbrev cc1_sem2_0 : DmaSem sig := 32
abbrev cc1_sem2_1 : DmaSem sig := 33
abbrev cc1_sem3_0 : DmaSem sig := 34
abbrev cc1_sem3_1 : DmaSem sig := 35
abbrev cc1_sem4_0 : DmaSem sig := 36
abbrev cc1_sem5_0 : DmaSem sig := 37
abbrev cc1_sem6_0 : DmaSem sig := 38
abbrev cc1_sem7_0 : DmaSem sig := 39
abbrev cc1_sem8_0 : DmaSem sig := 40
abbrev cc1_sem9_0 : DmaSem sig := 41
abbrev cc1_sem10_0 : DmaSem sig := 42
abbrev cc1_sem10_1 : DmaSem sig := 43
abbrev cc1_sem11_0 : DmaSem sig := 44
abbrev cc1_sem11_1 : DmaSem sig := 45
abbrev cc1_sem12_0 : DmaSem sig := 46
abbrev cc1_sem12_1 : DmaSem sig := 47

abbrev nD : Nat := 1
abbrev τ : Topo := Topo.v7x

variable {F : FTy → Type} [FloatOps F]

abbrev grid0 : Pipeline.Grid := ⟨2, ![2, 2], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 2 → Nat :=
  let arg0 : BitVec 32 := BitVec.ofNat 32 (i 0).val
  let v59 : Index := Scalar.indexCast arg0
  let arg1 : BitVec 32 := BitVec.ofNat 32 (i 1).val
  let c512_i32 : BitVec 32 := 512#32
  let v0 : BitVec 32 := Scalar.muli arg1 c512_i32
  let v1 : BitVec 32 := v0
  let v60 : Index := Scalar.indexCast v1
  ![v59.toNat, v60.toNat]
def k0_off2 (i : grid0.Coords) : Fin 3 → Nat :=
  let c0_18 : Index := 0#32
  let arg0 : BitVec 32 := BitVec.ofNat 32 (i 0).val
  let v62 : Index := Scalar.indexCast arg0
  let arg1 : BitVec 32 := BitVec.ofNat 32 (i 1).val
  let c512_i32 : BitVec 32 := 512#32
  let v0 : BitVec 32 := Scalar.muli arg1 c512_i32
  let v1 : BitVec 32 := v0
  let v63 : Index := Scalar.indexCast v1
  ![0, v62.toNat, v63.toNat]
def k0_off3 (i : grid0.Coords) : Fin 3 → Nat :=
  let c1 : Index := 1#32
  let arg0 : BitVec 32 := BitVec.ofNat 32 (i 0).val
  let v68 : Index := Scalar.indexCast arg0
  let arg1 : BitVec 32 := BitVec.ofNat 32 (i 1).val
  let c512_i32 : BitVec 32 := 512#32
  let v0 : BitVec 32 := Scalar.muli arg1 c512_i32
  let v1 : BitVec 32 := v0
  let v69 : Index := Scalar.indexCast v1
  ![1, v68.toNat, v69.toNat]
def k0_off4 (i : grid0.Coords) : Fin 3 → Nat :=
  let c2 : Index := 2#32
  let arg0 : BitVec 32 := BitVec.ofNat 32 (i 0).val
  let v74 : Index := Scalar.indexCast arg0
  let arg1 : BitVec 32 := BitVec.ofNat 32 (i 1).val
  let c512_i32 : BitVec 32 := 512#32
  let v0 : BitVec 32 := Scalar.muli arg1 c512_i32
  let v1 : BitVec 32 := v0
  let v75 : Index := Scalar.indexCast v1
  ![2, v74.toNat, v75.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c7_i32 : BitVec 32 := 7#32
  let c0_i32_0 : BitVec 32 := 0#32
  ![c0_i32.toNat, c7_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c8_i32 : BitVec 32 := 8#32
  let c0_i32_0 : BitVec 32 := 0#32
  ![c0_i32.toNat, c8_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c7_i32 : BitVec 32 := 7#32
  let c0_i32_0 : BitVec 32 := 0#32
  ![c0_i32.toNat, c7_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c8_i32 : BitVec 32 := 8#32
  let c0_i32_0 : BitVec 32 := 0#32
  ![c0_i32.toNat, c8_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c7_i32 : BitVec 32 := 7#32
  let c0_i32_0 : BitVec 32 := 0#32
  ![c0_i32.toNat, c7_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c8_i32 : BitVec 32 := 8#32
  let c0_i32_0 : BitVec 32 := 0#32
  ![c0_i32.toNat, c8_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S3x2x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3584x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3584x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x3584 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x4x128 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x512x128 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x4x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x4x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev grid1 : Pipeline.Grid := ⟨2, ![14, 2], ![false, false]⟩

def k1_off1 (i : grid1.Coords) : Fin 3 → Nat :=
  let arg1 : BitVec 32 := BitVec.ofNat 32 (i 1).val
  let v0 : Index := Scalar.indexCast arg1
  let c0 : Index := 0#32
  let c0_0 : Index := 0#32
  ![v0.toNat, 0, 0]
def k1_off2 (i : grid1.Coords) : Fin 3 → Nat :=
  let arg1 : BitVec 32 := BitVec.ofNat 32 (i 1).val
  let v5 : Index := Scalar.indexCast arg1
  let c0_3 : Index := 0#32
  let c0_4 : Index := 0#32
  ![v5.toNat, 0, 0]
def k1_off3 (i : grid1.Coords) : Fin 3 → Nat :=
  let c0_28 : Index := 0#32
  let arg1 : BitVec 32 := BitVec.ofNat 32 (i 1).val
  let v76 : Index := Scalar.indexCast arg1
  let c0_29 : Index := 0#32
  ![0, v76.toNat, 0]
def k1_off4 (i : grid1.Coords) (c0_i32 : BitVec 32) : Fin 4 → Nat :=
  let arg1 : BitVec 32 := BitVec.ofNat 32 (i 1).val
  let v101 : Index := Scalar.indexCast arg1
  let arg0 : BitVec 32 := BitVec.ofNat 32 (i 0).val
  let c2_i32 : BitVec 32 := 2#32
  let v82 : BitVec 32 := Scalar.muli arg0 c2_i32
  let v83 : BitVec 32 := Scalar.addi v82 c0_i32
  let c0_i32_31 : BitVec 32 := 0#32
  let v85 : BitVec 1 := Scalar.cmpi .sgt v83 c0_i32_31
  let v86 : BitVec 32 := Scalar.extui v85
  let c0_i32_32 : BitVec 32 := 0#32
  let v87 : BitVec 1 := Scalar.cmpi .slt v83 c0_i32_32
  let v88 : BitVec 32 := Scalar.extui v87
  let v89 : BitVec 32 := Scalar.subi v86 v88
  let c7_i32 : BitVec 32 := 7#32
  let c0_i32_33 : BitVec 32 := 0#32
  let v90 : BitVec 1 := Scalar.cmpi .sgt c7_i32 c0_i32_33
  let v91 : BitVec 32 := Scalar.extui v90
  let c0_i32_34 : BitVec 32 := 0#32
  let v92 : BitVec 1 := Scalar.cmpi .slt c7_i32 c0_i32_34
  let v93 : BitVec 32 := Scalar.extui v92
  let v94 : BitVec 32 := Scalar.subi v91 v93
  let v95 : BitVec 1 := Scalar.cmpi .ne v89 v94
  let v96 : BitVec 32 := Scalar.remsi v83 c7_i32
  let c0_i32_35 : BitVec 32 := 0#32
  let v97 : BitVec 1 := Scalar.cmpi .ne v96 c0_i32_35
  let v98 : BitVec 1 := Scalar.andi v95 v97
  let v84 : BitVec 32 := Scalar.divsi v83 c7_i32
  let c1_i32_36 : BitVec 32 := 1#32
  let v99 : BitVec 32 := Scalar.subi v84 c1_i32_36
  let v100 : BitVec 32 := Scalar.select v98 v99 v84
  let v102 : Index := Scalar.indexCast v100
  let c0_37 : Index := 0#32
  let c0_38 : Index := 0#32
  ![v101.toNat, v102.toNat, 0, 0]
def k1_mult1 (i : grid1.Coords) : BitVec 32 :=
  let arg0 : BitVec 32 := BitVec.ofNat 32 (i 0).val
  let c2_i32 : BitVec 32 := 2#32
  let v82 : BitVec 32 := Scalar.muli arg0 c2_i32
  let c0_i32 : BitVec 32 := 0#32
  let v83 : BitVec 32 := Scalar.addi v82 c0_i32
  let c0_i32_31 : BitVec 32 := 0#32
  let v85 : BitVec 1 := Scalar.cmpi .sgt v83 c0_i32_31
  let v86 : BitVec 32 := Scalar.extui v85
  let c0_i32_32 : BitVec 32 := 0#32
  let v87 : BitVec 1 := Scalar.cmpi .slt v83 c0_i32_32
  let v88 : BitVec 32 := Scalar.extui v87
  let v89 : BitVec 32 := Scalar.subi v86 v88
  let c7_i32 : BitVec 32 := 7#32
  let c0_i32_33 : BitVec 32 := 0#32
  let v90 : BitVec 1 := Scalar.cmpi .sgt c7_i32 c0_i32_33
  let v91 : BitVec 32 := Scalar.extui v90
  let c0_i32_34 : BitVec 32 := 0#32
  let v92 : BitVec 1 := Scalar.cmpi .slt c7_i32 c0_i32_34
  let v93 : BitVec 32 := Scalar.extui v92
  let v94 : BitVec 32 := Scalar.subi v91 v93
  let v95 : BitVec 1 := Scalar.cmpi .ne v89 v94
  let v96 : BitVec 32 := Scalar.remsi v83 c7_i32
  let c0_i32_35 : BitVec 32 := 0#32
  let v97 : BitVec 1 := Scalar.cmpi .ne v96 c0_i32_35
  let v98 : BitVec 1 := Scalar.andi v95 v97
  let v84 : BitVec 32 := Scalar.divsi v83 c7_i32
  let c1_i32_36 : BitVec 32 := 1#32
  let v99 : BitVec 32 := Scalar.subi v84 c1_i32_36
  let v100 : BitVec 32 := Scalar.select v98 v99 v84
  let c128_i32 : BitVec 32 := 128#32
  let v128 : BitVec 32 := Scalar.muli v100 c128_i32
  v128
def k1_off5 (i : grid1.Coords) (c0_i32 : BitVec 32) : Fin 3 → Nat :=
  let arg1 : BitVec 32 := BitVec.ofNat 32 (i 1).val
  let v130 : Index := Scalar.indexCast arg1
  let arg0 : BitVec 32 := BitVec.ofNat 32 (i 0).val
  let c2_i32 : BitVec 32 := 2#32
  let v82 : BitVec 32 := Scalar.muli arg0 c2_i32
  let v83 : BitVec 32 := Scalar.addi v82 c0_i32
  let c0_i32_31 : BitVec 32 := 0#32
  let v85 : BitVec 1 := Scalar.cmpi .sgt v83 c0_i32_31
  let v86 : BitVec 32 := Scalar.extui v85
  let c0_i32_32 : BitVec 32 := 0#32
  let v87 : BitVec 1 := Scalar.cmpi .slt v83 c0_i32_32
  let v88 : BitVec 32 := Scalar.extui v87
  let v89 : BitVec 32 := Scalar.subi v86 v88
  let c7_i32 : BitVec 32 := 7#32
  let c0_i32_33 : BitVec 32 := 0#32
  let v90 : BitVec 1 := Scalar.cmpi .sgt c7_i32 c0_i32_33
  let v91 : BitVec 32 := Scalar.extui v90
  let c0_i32_34 : BitVec 32 := 0#32
  let v92 : BitVec 1 := Scalar.cmpi .slt c7_i32 c0_i32_34
  let v93 : BitVec 32 := Scalar.extui v92
  let v94 : BitVec 32 := Scalar.subi v91 v93
  let v95 : BitVec 1 := Scalar.cmpi .ne v89 v94
  let v96 : BitVec 32 := Scalar.remsi v83 c7_i32
  let c0_i32_35 : BitVec 32 := 0#32
  let v97 : BitVec 1 := Scalar.cmpi .ne v96 c0_i32_35
  let v98 : BitVec 1 := Scalar.andi v95 v97
  let v84 : BitVec 32 := Scalar.divsi v83 c7_i32
  let c1_i32_36 : BitVec 32 := 1#32
  let v99 : BitVec 32 := Scalar.subi v84 c1_i32_36
  let v100 : BitVec 32 := Scalar.select v98 v99 v84
  let c128_i32 : BitVec 32 := 128#32
  let v128 : BitVec 32 := Scalar.muli v100 c128_i32
  let v129 : BitVec 32 := v128
  let v131 : Index := Scalar.indexCast v129
  let c0_45 : Index := 0#32
  ![v130.toNat, v131.toNat, 0]
def k1_off6 (i : grid1.Coords) (c0_i32 : BitVec 32) : Fin 4 → Nat :=
  let arg1 : BitVec 32 := BitVec.ofNat 32 (i 1).val
  let v145 : Index := Scalar.indexCast arg1
  let arg0 : BitVec 32 := BitVec.ofNat 32 (i 0).val
  let c2_i32 : BitVec 32 := 2#32
  let v82 : BitVec 32 := Scalar.muli arg0 c2_i32
  let v83 : BitVec 32 := Scalar.addi v82 c0_i32
  let c0_i32_31 : BitVec 32 := 0#32
  let v85 : BitVec 1 := Scalar.cmpi .sgt v83 c0_i32_31
  let v86 : BitVec 32 := Scalar.extui v85
  let c0_i32_32 : BitVec 32 := 0#32
  let v87 : BitVec 1 := Scalar.cmpi .slt v83 c0_i32_32
  let v88 : BitVec 32 := Scalar.extui v87
  let v89 : BitVec 32 := Scalar.subi v86 v88
  let c7_i32 : BitVec 32 := 7#32
  let c0_i32_33 : BitVec 32 := 0#32
  let v90 : BitVec 1 := Scalar.cmpi .sgt c7_i32 c0_i32_33
  let v91 : BitVec 32 := Scalar.extui v90
  let c0_i32_34 : BitVec 32 := 0#32
  let v92 : BitVec 1 := Scalar.cmpi .slt c7_i32 c0_i32_34
  let v93 : BitVec 32 := Scalar.extui v92
  let v94 : BitVec 32 := Scalar.subi v91 v93
  let v95 : BitVec 1 := Scalar.cmpi .ne v89 v94
  let v96 : BitVec 32 := Scalar.remsi v83 c7_i32
  let c0_i32_35 : BitVec 32 := 0#32
  let v97 : BitVec 1 := Scalar.cmpi .ne v96 c0_i32_35
  let v98 : BitVec 1 := Scalar.andi v95 v97
  let v84 : BitVec 32 := Scalar.divsi v83 c7_i32
  let c1_i32_36 : BitVec 32 := 1#32
  let v99 : BitVec 32 := Scalar.subi v84 c1_i32_36
  let v100 : BitVec 32 := Scalar.select v98 v99 v84
  let v146 : Index := Scalar.indexCast v100
  let c0_51 : Index := 0#32
  let c0_52 : Index := 0#32
  ![v145.toNat, v146.toNat, 0, 0]
def k1_mult2 (i : grid1.Coords) : BitVec 32 :=
  let arg0 : BitVec 32 := BitVec.ofNat 32 (i 0).val
  let c2_i32 : BitVec 32 := 2#32
  let v82 : BitVec 32 := Scalar.muli arg0 c2_i32
  let c0_i32 : BitVec 32 := 0#32
  let v83 : BitVec 32 := Scalar.addi v82 c0_i32
  let c0_i32_31 : BitVec 32 := 0#32
  let v85 : BitVec 1 := Scalar.cmpi .sgt v83 c0_i32_31
  let v86 : BitVec 32 := Scalar.extui v85
  let c0_i32_32 : BitVec 32 := 0#32
  let v87 : BitVec 1 := Scalar.cmpi .slt v83 c0_i32_32
  let v88 : BitVec 32 := Scalar.extui v87
  let v89 : BitVec 32 := Scalar.subi v86 v88
  let c7_i32 : BitVec 32 := 7#32
  let c0_i32_33 : BitVec 32 := 0#32
  let v90 : BitVec 1 := Scalar.cmpi .sgt c7_i32 c0_i32_33
  let v91 : BitVec 32 := Scalar.extui v90
  let c0_i32_34 : BitVec 32 := 0#32
  let v92 : BitVec 1 := Scalar.cmpi .slt c7_i32 c0_i32_34
  let v93 : BitVec 32 := Scalar.extui v92
  let v94 : BitVec 32 := Scalar.subi v91 v93
  let v95 : BitVec 1 := Scalar.cmpi .ne v89 v94
  let v96 : BitVec 32 := Scalar.remsi v83 c7_i32
  let c0_i32_35 : BitVec 32 := 0#32
  let v97 : BitVec 1 := Scalar.cmpi .ne v96 c0_i32_35
  let v98 : BitVec 1 := Scalar.andi v95 v97
  let v84 : BitVec 32 := Scalar.divsi v83 c7_i32
  let c1_i32_36 : BitVec 32 := 1#32
  let v99 : BitVec 32 := Scalar.subi v84 c1_i32_36
  let v100 : BitVec 32 := Scalar.select v98 v99 v84
  let c128_i32_59 : BitVec 32 := 128#32
  let v175 : BitVec 32 := Scalar.muli v100 c128_i32_59
  v175
def k1_off7 (i : grid1.Coords) (c0_i32 : BitVec 32) : Fin 3 → Nat :=
  let arg1 : BitVec 32 := BitVec.ofNat 32 (i 1).val
  let v177 : Index := Scalar.indexCast arg1
  let arg0 : BitVec 32 := BitVec.ofNat 32 (i 0).val
  let c2_i32 : BitVec 32 := 2#32
  let v82 : BitVec 32 := Scalar.muli arg0 c2_i32
  let v83 : BitVec 32 := Scalar.addi v82 c0_i32
  let c0_i32_31 : BitVec 32 := 0#32
  let v85 : BitVec 1 := Scalar.cmpi .sgt v83 c0_i32_31
  let v86 : BitVec 32 := Scalar.extui v85
  let c0_i32_32 : BitVec 32 := 0#32
  let v87 : BitVec 1 := Scalar.cmpi .slt v83 c0_i32_32
  let v88 : BitVec 32 := Scalar.extui v87
  let v89 : BitVec 32 := Scalar.subi v86 v88
  let c7_i32 : BitVec 32 := 7#32
  let c0_i32_33 : BitVec 32 := 0#32
  let v90 : BitVec 1 := Scalar.cmpi .sgt c7_i32 c0_i32_33
  let v91 : BitVec 32 := Scalar.extui v90
  let c0_i32_34 : BitVec 32 := 0#32
  let v92 : BitVec 1 := Scalar.cmpi .slt c7_i32 c0_i32_34
  let v93 : BitVec 32 := Scalar.extui v92
  let v94 : BitVec 32 := Scalar.subi v91 v93
  let v95 : BitVec 1 := Scalar.cmpi .ne v89 v94
  let v96 : BitVec 32 := Scalar.remsi v83 c7_i32
  let c0_i32_35 : BitVec 32 := 0#32
  let v97 : BitVec 1 := Scalar.cmpi .ne v96 c0_i32_35
  let v98 : BitVec 1 := Scalar.andi v95 v97
  let v84 : BitVec 32 := Scalar.divsi v83 c7_i32
  let c1_i32_36 : BitVec 32 := 1#32
  let v99 : BitVec 32 := Scalar.subi v84 c1_i32_36
  let v100 : BitVec 32 := Scalar.select v98 v99 v84
  let c128_i32_59 : BitVec 32 := 128#32
  let v175 : BitVec 32 := Scalar.muli v100 c128_i32_59
  let v176 : BitVec 32 := v175
  let v178 : Index := Scalar.indexCast v176
  let c0_60 : Index := 0#32
  ![v177.toNat, v178.toNat, 0]
def k1_off8 (i : grid1.Coords) (c0_i32 : BitVec 32) : Fin 4 → Nat :=
  let arg1 : BitVec 32 := BitVec.ofNat 32 (i 1).val
  let v192 : Index := Scalar.indexCast arg1
  let arg0 : BitVec 32 := BitVec.ofNat 32 (i 0).val
  let c2_i32 : BitVec 32 := 2#32
  let v82 : BitVec 32 := Scalar.muli arg0 c2_i32
  let v83 : BitVec 32 := Scalar.addi v82 c0_i32
  let c0_i32_31 : BitVec 32 := 0#32
  let v85 : BitVec 1 := Scalar.cmpi .sgt v83 c0_i32_31
  let v86 : BitVec 32 := Scalar.extui v85
  let c0_i32_32 : BitVec 32 := 0#32
  let v87 : BitVec 1 := Scalar.cmpi .slt v83 c0_i32_32
  let v88 : BitVec 32 := Scalar.extui v87
  let v89 : BitVec 32 := Scalar.subi v86 v88
  let c7_i32 : BitVec 32 := 7#32
  let c0_i32_33 : BitVec 32 := 0#32
  let v90 : BitVec 1 := Scalar.cmpi .sgt c7_i32 c0_i32_33
  let v91 : BitVec 32 := Scalar.extui v90
  let c0_i32_34 : BitVec 32 := 0#32
  let v92 : BitVec 1 := Scalar.cmpi .slt c7_i32 c0_i32_34
  let v93 : BitVec 32 := Scalar.extui v92
  let v94 : BitVec 32 := Scalar.subi v91 v93
  let v95 : BitVec 1 := Scalar.cmpi .ne v89 v94
  let v96 : BitVec 32 := Scalar.remsi v83 c7_i32
  let c0_i32_35 : BitVec 32 := 0#32
  let v97 : BitVec 1 := Scalar.cmpi .ne v96 c0_i32_35
  let v98 : BitVec 1 := Scalar.andi v95 v97
  let v84 : BitVec 32 := Scalar.divsi v83 c7_i32
  let c1_i32_36 : BitVec 32 := 1#32
  let v99 : BitVec 32 := Scalar.subi v84 c1_i32_36
  let v100 : BitVec 32 := Scalar.select v98 v99 v84
  let v193 : Index := Scalar.indexCast v100
  let c0_65 : Index := 0#32
  let c0_66 : Index := 0#32
  ![v192.toNat, v193.toNat, 0, 0]
def k1_mult3 (i : grid1.Coords) : BitVec 32 :=
  let arg0 : BitVec 32 := BitVec.ofNat 32 (i 0).val
  let c2_i32 : BitVec 32 := 2#32
  let v82 : BitVec 32 := Scalar.muli arg0 c2_i32
  let c0_i32 : BitVec 32 := 0#32
  let v83 : BitVec 32 := Scalar.addi v82 c0_i32
  let c0_i32_31 : BitVec 32 := 0#32
  let v85 : BitVec 1 := Scalar.cmpi .sgt v83 c0_i32_31
  let v86 : BitVec 32 := Scalar.extui v85
  let c0_i32_32 : BitVec 32 := 0#32
  let v87 : BitVec 1 := Scalar.cmpi .slt v83 c0_i32_32
  let v88 : BitVec 32 := Scalar.extui v87
  let v89 : BitVec 32 := Scalar.subi v86 v88
  let c7_i32 : BitVec 32 := 7#32
  let c0_i32_33 : BitVec 32 := 0#32
  let v90 : BitVec 1 := Scalar.cmpi .sgt c7_i32 c0_i32_33
  let v91 : BitVec 32 := Scalar.extui v90
  let c0_i32_34 : BitVec 32 := 0#32
  let v92 : BitVec 1 := Scalar.cmpi .slt c7_i32 c0_i32_34
  let v93 : BitVec 32 := Scalar.extui v92
  let v94 : BitVec 32 := Scalar.subi v91 v93
  let v95 : BitVec 1 := Scalar.cmpi .ne v89 v94
  let v96 : BitVec 32 := Scalar.remsi v83 c7_i32
  let c0_i32_35 : BitVec 32 := 0#32
  let v97 : BitVec 1 := Scalar.cmpi .ne v96 c0_i32_35
  let v98 : BitVec 1 := Scalar.andi v95 v97
  let v84 : BitVec 32 := Scalar.divsi v83 c7_i32
  let c1_i32_36 : BitVec 32 := 1#32
  let v99 : BitVec 32 := Scalar.subi v84 c1_i32_36
  let v100 : BitVec 32 := Scalar.select v98 v99 v84
  let c128_i32_73 : BitVec 32 := 128#32
  let v222 : BitVec 32 := Scalar.muli v100 c128_i32_73
  v222
def k1_off9 (i : grid1.Coords) (c0_i32 : BitVec 32) : Fin 3 → Nat :=
  let arg1 : BitVec 32 := BitVec.ofNat 32 (i 1).val
  let v224 : Index := Scalar.indexCast arg1
  let arg0 : BitVec 32 := BitVec.ofNat 32 (i 0).val
  let c2_i32 : BitVec 32 := 2#32
  let v82 : BitVec 32 := Scalar.muli arg0 c2_i32
  let v83 : BitVec 32 := Scalar.addi v82 c0_i32
  let c0_i32_31 : BitVec 32 := 0#32
  let v85 : BitVec 1 := Scalar.cmpi .sgt v83 c0_i32_31
  let v86 : BitVec 32 := Scalar.extui v85
  let c0_i32_32 : BitVec 32 := 0#32
  let v87 : BitVec 1 := Scalar.cmpi .slt v83 c0_i32_32
  let v88 : BitVec 32 := Scalar.extui v87
  let v89 : BitVec 32 := Scalar.subi v86 v88
  let c7_i32 : BitVec 32 := 7#32
  let c0_i32_33 : BitVec 32 := 0#32
  let v90 : BitVec 1 := Scalar.cmpi .sgt c7_i32 c0_i32_33
  let v91 : BitVec 32 := Scalar.extui v90
  let c0_i32_34 : BitVec 32 := 0#32
  let v92 : BitVec 1 := Scalar.cmpi .slt c7_i32 c0_i32_34
  let v93 : BitVec 32 := Scalar.extui v92
  let v94 : BitVec 32 := Scalar.subi v91 v93
  let v95 : BitVec 1 := Scalar.cmpi .ne v89 v94
  let v96 : BitVec 32 := Scalar.remsi v83 c7_i32
  let c0_i32_35 : BitVec 32 := 0#32
  let v97 : BitVec 1 := Scalar.cmpi .ne v96 c0_i32_35
  let v98 : BitVec 1 := Scalar.andi v95 v97
  let v84 : BitVec 32 := Scalar.divsi v83 c7_i32
  let c1_i32_36 : BitVec 32 := 1#32
  let v99 : BitVec 32 := Scalar.subi v84 c1_i32_36
  let v100 : BitVec 32 := Scalar.select v98 v99 v84
  let c128_i32_73 : BitVec 32 := 128#32
  let v222 : BitVec 32 := Scalar.muli v100 c128_i32_73
  let v223 : BitVec 32 := v222
  let v225 : Index := Scalar.indexCast v223
  let c0_74 : Index := 0#32
  ![v224.toNat, v225.toNat, 0]
def k1_off10 (i : grid1.Coords) (c0_i32 : BitVec 32) : Fin 4 → Nat :=
  let arg1 : BitVec 32 := BitVec.ofNat 32 (i 1).val
  let v239 : Index := Scalar.indexCast arg1
  let arg0 : BitVec 32 := BitVec.ofNat 32 (i 0).val
  let c2_i32 : BitVec 32 := 2#32
  let v82 : BitVec 32 := Scalar.muli arg0 c2_i32
  let v83 : BitVec 32 := Scalar.addi v82 c0_i32
  let c0_i32_31 : BitVec 32 := 0#32
  let v85 : BitVec 1 := Scalar.cmpi .sgt v83 c0_i32_31
  let v86 : BitVec 32 := Scalar.extui v85
  let c0_i32_32 : BitVec 32 := 0#32
  let v87 : BitVec 1 := Scalar.cmpi .slt v83 c0_i32_32
  let v88 : BitVec 32 := Scalar.extui v87
  let v89 : BitVec 32 := Scalar.subi v86 v88
  let c7_i32 : BitVec 32 := 7#32
  let c0_i32_33 : BitVec 32 := 0#32
  let v90 : BitVec 1 := Scalar.cmpi .sgt c7_i32 c0_i32_33
  let v91 : BitVec 32 := Scalar.extui v90
  let c0_i32_34 : BitVec 32 := 0#32
  let v92 : BitVec 1 := Scalar.cmpi .slt c7_i32 c0_i32_34
  let v93 : BitVec 32 := Scalar.extui v92
  let v94 : BitVec 32 := Scalar.subi v91 v93
  let v95 : BitVec 1 := Scalar.cmpi .ne v89 v94
  let v96 : BitVec 32 := Scalar.remsi v83 c7_i32
  let c0_i32_35 : BitVec 32 := 0#32
  let v97 : BitVec 1 := Scalar.cmpi .ne v96 c0_i32_35
  let v98 : BitVec 1 := Scalar.andi v95 v97
  let v84 : BitVec 32 := Scalar.divsi v83 c7_i32
  let c1_i32_36 : BitVec 32 := 1#32
  let v99 : BitVec 32 := Scalar.subi v84 c1_i32_36
  let v100 : BitVec 32 := Scalar.select v98 v99 v84
  let v240 : Index := Scalar.indexCast v100
  let c0_79 : Index := 0#32
  let c0_80 : Index := 0#32
  ![v239.toNat, v240.toNat, 0, 0]
def k1_mult4 (i : grid1.Coords) : BitVec 32 :=
  let arg0 : BitVec 32 := BitVec.ofNat 32 (i 0).val
  let c2_i32 : BitVec 32 := 2#32
  let v82 : BitVec 32 := Scalar.muli arg0 c2_i32
  let c0_i32 : BitVec 32 := 0#32
  let v83 : BitVec 32 := Scalar.addi v82 c0_i32
  let c0_i32_31 : BitVec 32 := 0#32
  let v85 : BitVec 1 := Scalar.cmpi .sgt v83 c0_i32_31
  let v86 : BitVec 32 := Scalar.extui v85
  let c0_i32_32 : BitVec 32 := 0#32
  let v87 : BitVec 1 := Scalar.cmpi .slt v83 c0_i32_32
  let v88 : BitVec 32 := Scalar.extui v87
  let v89 : BitVec 32 := Scalar.subi v86 v88
  let c7_i32 : BitVec 32 := 7#32
  let c0_i32_33 : BitVec 32 := 0#32
  let v90 : BitVec 1 := Scalar.cmpi .sgt c7_i32 c0_i32_33
  let v91 : BitVec 32 := Scalar.extui v90
  let c0_i32_34 : BitVec 32 := 0#32
  let v92 : BitVec 1 := Scalar.cmpi .slt c7_i32 c0_i32_34
  let v93 : BitVec 32 := Scalar.extui v92
  let v94 : BitVec 32 := Scalar.subi v91 v93
  let v95 : BitVec 1 := Scalar.cmpi .ne v89 v94
  let v96 : BitVec 32 := Scalar.remsi v83 c7_i32
  let c0_i32_35 : BitVec 32 := 0#32
  let v97 : BitVec 1 := Scalar.cmpi .ne v96 c0_i32_35
  let v98 : BitVec 1 := Scalar.andi v95 v97
  let v84 : BitVec 32 := Scalar.divsi v83 c7_i32
  let c1_i32_36 : BitVec 32 := 1#32
  let v99 : BitVec 32 := Scalar.subi v84 c1_i32_36
  let v100 : BitVec 32 := Scalar.select v98 v99 v84
  let c128_i32_87 : BitVec 32 := 128#32
  let v269 : BitVec 32 := Scalar.muli v100 c128_i32_87
  v269
def k1_off11 (i : grid1.Coords) (c0_i32 : BitVec 32) : Fin 3 → Nat :=
  let arg1 : BitVec 32 := BitVec.ofNat 32 (i 1).val
  let v271 : Index := Scalar.indexCast arg1
  let arg0 : BitVec 32 := BitVec.ofNat 32 (i 0).val
  let c2_i32 : BitVec 32 := 2#32
  let v82 : BitVec 32 := Scalar.muli arg0 c2_i32
  let v83 : BitVec 32 := Scalar.addi v82 c0_i32
  let c0_i32_31 : BitVec 32 := 0#32
  let v85 : BitVec 1 := Scalar.cmpi .sgt v83 c0_i32_31
  let v86 : BitVec 32 := Scalar.extui v85
  let c0_i32_32 : BitVec 32 := 0#32
  let v87 : BitVec 1 := Scalar.cmpi .slt v83 c0_i32_32
  let v88 : BitVec 32 := Scalar.extui v87
  let v89 : BitVec 32 := Scalar.subi v86 v88
  let c7_i32 : BitVec 32 := 7#32
  let c0_i32_33 : BitVec 32 := 0#32
  let v90 : BitVec 1 := Scalar.cmpi .sgt c7_i32 c0_i32_33
  let v91 : BitVec 32 := Scalar.extui v90
  let c0_i32_34 : BitVec 32 := 0#32
  let v92 : BitVec 1 := Scalar.cmpi .slt c7_i32 c0_i32_34
  let v93 : BitVec 32 := Scalar.extui v92
  let v94 : BitVec 32 := Scalar.subi v91 v93
  let v95 : BitVec 1 := Scalar.cmpi .ne v89 v94
  let v96 : BitVec 32 := Scalar.remsi v83 c7_i32
  let c0_i32_35 : BitVec 32 := 0#32
  let v97 : BitVec 1 := Scalar.cmpi .ne v96 c0_i32_35
  let v98 : BitVec 1 := Scalar.andi v95 v97
  let v84 : BitVec 32 := Scalar.divsi v83 c7_i32
  let c1_i32_36 : BitVec 32 := 1#32
  let v99 : BitVec 32 := Scalar.subi v84 c1_i32_36
  let v100 : BitVec 32 := Scalar.select v98 v99 v84
  let c128_i32_87 : BitVec 32 := 128#32
  let v269 : BitVec 32 := Scalar.muli v100 c128_i32_87
  let v270 : BitVec 32 := v269
  let v272 : Index := Scalar.indexCast v270
  let c0_88 : Index := 0#32
  ![v271.toNat, v272.toNat, 0]
def k1_off12 (i : grid1.Coords) : Fin 3 → Nat :=
  let c1_115 : Index := 1#32
  let arg1 : BitVec 32 := BitVec.ofNat 32 (i 1).val
  let v348 : Index := Scalar.indexCast arg1
  let c0_116 : Index := 0#32
  ![1, v348.toNat, 0]
def k1_mult5 (i : grid1.Coords) : BitVec 32 :=
  let arg0 : BitVec 32 := BitVec.ofNat 32 (i 0).val
  let c2_i32_118 : BitVec 32 := 2#32
  let v354 : BitVec 32 := Scalar.muli arg0 c2_i32_118
  let c1_i32_119 : BitVec 32 := 1#32
  let v355 : BitVec 32 := Scalar.addi v354 c1_i32_119
  let c0_i32_121 : BitVec 32 := 0#32
  let v357 : BitVec 1 := Scalar.cmpi .sgt v355 c0_i32_121
  let v358 : BitVec 32 := Scalar.extui v357
  let c0_i32_122 : BitVec 32 := 0#32
  let v359 : BitVec 1 := Scalar.cmpi .slt v355 c0_i32_122
  let v360 : BitVec 32 := Scalar.extui v359
  let v361 : BitVec 32 := Scalar.subi v358 v360
  let c7_i32_120 : BitVec 32 := 7#32
  let c0_i32_123 : BitVec 32 := 0#32
  let v362 : BitVec 1 := Scalar.cmpi .sgt c7_i32_120 c0_i32_123
  let v363 : BitVec 32 := Scalar.extui v362
  let c0_i32_124 : BitVec 32 := 0#32
  let v364 : BitVec 1 := Scalar.cmpi .slt c7_i32_120 c0_i32_124
  let v365 : BitVec 32 := Scalar.extui v364
  let v366 : BitVec 32 := Scalar.subi v363 v365
  let v367 : BitVec 1 := Scalar.cmpi .ne v361 v366
  let v368 : BitVec 32 := Scalar.remsi v355 c7_i32_120
  let c0_i32_125 : BitVec 32 := 0#32
  let v369 : BitVec 1 := Scalar.cmpi .ne v368 c0_i32_125
  let v370 : BitVec 1 := Scalar.andi v367 v369
  let v356 : BitVec 32 := Scalar.divsi v355 c7_i32_120
  let c1_i32_126 : BitVec 32 := 1#32
  let v371 : BitVec 32 := Scalar.subi v356 c1_i32_126
  let v372 : BitVec 32 := Scalar.select v370 v371 v356
  let c128_i32_135 : BitVec 32 := 128#32
  let v400 : BitVec 32 := Scalar.muli v372 c128_i32_135
  v400
def k1_mult6 (i : grid1.Coords) : BitVec 32 :=
  let arg0 : BitVec 32 := BitVec.ofNat 32 (i 0).val
  let c2_i32_118 : BitVec 32 := 2#32
  let v354 : BitVec 32 := Scalar.muli arg0 c2_i32_118
  let c1_i32_119 : BitVec 32 := 1#32
  let v355 : BitVec 32 := Scalar.addi v354 c1_i32_119
  let c0_i32_121 : BitVec 32 := 0#32
  let v357 : BitVec 1 := Scalar.cmpi .sgt v355 c0_i32_121
  let v358 : BitVec 32 := Scalar.extui v357
  let c0_i32_122 : BitVec 32 := 0#32
  let v359 : BitVec 1 := Scalar.cmpi .slt v355 c0_i32_122
  let v360 : BitVec 32 := Scalar.extui v359
  let v361 : BitVec 32 := Scalar.subi v358 v360
  let c7_i32_120 : BitVec 32 := 7#32
  let c0_i32_123 : BitVec 32 := 0#32
  let v362 : BitVec 1 := Scalar.cmpi .sgt c7_i32_120 c0_i32_123
  let v363 : BitVec 32 := Scalar.extui v362
  let c0_i32_124 : BitVec 32 := 0#32
  let v364 : BitVec 1 := Scalar.cmpi .slt c7_i32_120 c0_i32_124
  let v365 : BitVec 32 := Scalar.extui v364
  let v366 : BitVec 32 := Scalar.subi v363 v365
  let v367 : BitVec 1 := Scalar.cmpi .ne v361 v366
  let v368 : BitVec 32 := Scalar.remsi v355 c7_i32_120
  let c0_i32_125 : BitVec 32 := 0#32
  let v369 : BitVec 1 := Scalar.cmpi .ne v368 c0_i32_125
  let v370 : BitVec 1 := Scalar.andi v367 v369
  let v356 : BitVec 32 := Scalar.divsi v355 c7_i32_120
  let c1_i32_126 : BitVec 32 := 1#32
  let v371 : BitVec 32 := Scalar.subi v356 c1_i32_126
  let v372 : BitVec 32 := Scalar.select v370 v371 v356
  let c128_i32_150 : BitVec 32 := 128#32
  let v447 : BitVec 32 := Scalar.muli v372 c128_i32_150
  v447
def k1_mult7 (i : grid1.Coords) : BitVec 32 :=
  let arg0 : BitVec 32 := BitVec.ofNat 32 (i 0).val
  let c2_i32_118 : BitVec 32 := 2#32
  let v354 : BitVec 32 := Scalar.muli arg0 c2_i32_118
  let c1_i32_119 : BitVec 32 := 1#32
  let v355 : BitVec 32 := Scalar.addi v354 c1_i32_119
  let c0_i32_121 : BitVec 32 := 0#32
  let v357 : BitVec 1 := Scalar.cmpi .sgt v355 c0_i32_121
  let v358 : BitVec 32 := Scalar.extui v357
  let c0_i32_122 : BitVec 32 := 0#32
  let v359 : BitVec 1 := Scalar.cmpi .slt v355 c0_i32_122
  let v360 : BitVec 32 := Scalar.extui v359
  let v361 : BitVec 32 := Scalar.subi v358 v360
  let c7_i32_120 : BitVec 32 := 7#32
  let c0_i32_123 : BitVec 32 := 0#32
  let v362 : BitVec 1 := Scalar.cmpi .sgt c7_i32_120 c0_i32_123
  let v363 : BitVec 32 := Scalar.extui v362
  let c0_i32_124 : BitVec 32 := 0#32
  let v364 : BitVec 1 := Scalar.cmpi .slt c7_i32_120 c0_i32_124
  let v365 : BitVec 32 := Scalar.extui v364
  let v366 : BitVec 32 := Scalar.subi v363 v365
  let v367 : BitVec 1 := Scalar.cmpi .ne v361 v366
  let v368 : BitVec 32 := Scalar.remsi v355 c7_i32_120
  let c0_i32_125 : BitVec 32 := 0#32
  let v369 : BitVec 1 := Scalar.cmpi .ne v368 c0_i32_125
  let v370 : BitVec 1 := Scalar.andi v367 v369
  let v356 : BitVec 32 := Scalar.divsi v355 c7_i32_120
  let c1_i32_126 : BitVec 32 := 1#32
  let v371 : BitVec 32 := Scalar.subi v356 c1_i32_126
  let v372 : BitVec 32 := Scalar.select v370 v371 v356
  let c128_i32_165 : BitVec 32 := 128#32
  let v494 : BitVec 32 := Scalar.muli v372 c128_i32_165
  v494
def k1_mult8 (i : grid1.Coords) : BitVec 32 :=
  let arg0 : BitVec 32 := BitVec.ofNat 32 (i 0).val
  let c2_i32_118 : BitVec 32 := 2#32
  let v354 : BitVec 32 := Scalar.muli arg0 c2_i32_118
  let c1_i32_119 : BitVec 32 := 1#32
  let v355 : BitVec 32 := Scalar.addi v354 c1_i32_119
  let c0_i32_121 : BitVec 32 := 0#32
  let v357 : BitVec 1 := Scalar.cmpi .sgt v355 c0_i32_121
  let v358 : BitVec 32 := Scalar.extui v357
  let c0_i32_122 : BitVec 32 := 0#32
  let v359 : BitVec 1 := Scalar.cmpi .slt v355 c0_i32_122
  let v360 : BitVec 32 := Scalar.extui v359
  let v361 : BitVec 32 := Scalar.subi v358 v360
  let c7_i32_120 : BitVec 32 := 7#32
  let c0_i32_123 : BitVec 32 := 0#32
  let v362 : BitVec 1 := Scalar.cmpi .sgt c7_i32_120 c0_i32_123
  let v363 : BitVec 32 := Scalar.extui v362
  let c0_i32_124 : BitVec 32 := 0#32
  let v364 : BitVec 1 := Scalar.cmpi .slt c7_i32_120 c0_i32_124
  let v365 : BitVec 32 := Scalar.extui v364
  let v366 : BitVec 32 := Scalar.subi v363 v365
  let v367 : BitVec 1 := Scalar.cmpi .ne v361 v366
  let v368 : BitVec 32 := Scalar.remsi v355 c7_i32_120
  let c0_i32_125 : BitVec 32 := 0#32
  let v369 : BitVec 1 := Scalar.cmpi .ne v368 c0_i32_125
  let v370 : BitVec 1 := Scalar.andi v367 v369
  let v356 : BitVec 32 := Scalar.divsi v355 c7_i32_120
  let c1_i32_126 : BitVec 32 := 1#32
  let v371 : BitVec 32 := Scalar.subi v356 c1_i32_126
  let v372 : BitVec 32 := Scalar.select v370 v371 v356
  let c128_i32_180 : BitVec 32 := 128#32
  let v541 : BitVec 32 := Scalar.muli v372 c128_i32_180
  v541
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_8 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_11 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S2x1024x3584 .fp8e4m3 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S3584x256 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S2x1024x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S2x1024x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S2x1024x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S2x4x1024x128 .fp8e4m3 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S2x4x1024x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S2x512x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S1x1024x256 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x2x1024x128 .fp8e4m3 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S2x2x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]
-- ==== KernelIdeal.lean ====
variable {F : FTy → Type} [FloatOps F] [Named F]
def κ : String → Option EReal := fun
  | "score_log2e" => some (((11863283 / 134217728) * (Real.log 2)⁻¹ : ℝ) : EReal)
  | _ => none
-- ==== ReferenceIdeal.lean ====
abbrev S2x1024x3584 : Shape := ⟨3, ![2, 1024, 3584]⟩
abbrev S3584x4608 : Shape := ⟨2, ![3584, 4608]⟩
abbrev S4608 : Shape := ⟨1, ![4608]⟩
abbrev S3x2x1024 : Shape := ⟨3, ![3, 2, 1024]⟩
abbrev S64 : Shape := ⟨1, ![64]⟩
abbrev S_ : Shape := ⟨0, ![]⟩
abbrev S1x2x1024 : Shape := ⟨3, ![1, 2, 1024]⟩
abbrev S2x1024 : Shape := ⟨2, ![2, 1024]⟩
abbrev S2x1024x1 : Shape := ⟨3, ![2, 1024, 1]⟩
abbrev S2x1024x16 : Shape := ⟨3, ![2, 1024, 16]⟩
abbrev S2x1024x24 : Shape := ⟨3, ![2, 1024, 24]⟩
abbrev S2x1024x64 : Shape := ⟨3, ![2, 1024, 64]⟩
abbrev S1x1x64 : Shape := ⟨3, ![1, 1, 64]⟩
abbrev S2x1024x128 : Shape := ⟨3, ![2, 1024, 128]⟩
abbrev S2x1024x28x128 : Shape := ⟨4, ![2, 1024, 28, 128]⟩
abbrev S2x1024x28 : Shape := ⟨3, ![2, 1024, 28]⟩
abbrev S2x1024x4x128 : Shape := ⟨4, ![2, 1024, 4, 128]⟩
abbrev S2x1024x4 : Shape := ⟨3, ![2, 1024, 4]⟩
abbrev S2048x3584 : Shape := ⟨2, ![2048, 3584]⟩
abbrev S2048x4608 : Shape := ⟨2, ![2048, 4608]⟩
abbrev S2x1024x4608 : Shape := ⟨3, ![2, 1024, 4608]⟩
abbrev S1x1x4608 : Shape := ⟨3, ![1, 1, 4608]⟩
abbrev S2x1024x512 : Shape := ⟨3, ![2, 1024, 512]⟩
abbrev S2x1024x1x128 : Shape := ⟨4, ![2, 1024, 1, 128]⟩
abbrev S2x1024x28x64 : Shape := ⟨4, ![2, 1024, 28, 64]⟩
abbrev S2x1024x28x1 : Shape := ⟨4, ![2, 1024, 28, 1]⟩
abbrev S2x1024x4x64 : Shape := ⟨4, ![2, 1024, 4, 64]⟩
abbrev S2x1024x4x1 : Shape := ⟨4, ![2, 1024, 4, 1]⟩
abbrev S2x1024x4x7x128 : Shape := ⟨5, ![2, 1024, 4, 7, 128]⟩
abbrev S2x4x7x1024x128 : Shape := ⟨5, ![2, 4, 7, 1024, 128]⟩
abbrev S8x7168x128 : Shape := ⟨3, ![8, 7168, 128]⟩
abbrev S2x1024x4x7 : Shape := ⟨4, ![2, 1024, 4, 7]⟩
abbrev S2x4x7x1024 : Shape := ⟨4, ![2, 4, 7, 1024]⟩
abbrev S2x4x1024x128 : Shape := ⟨4, ![2, 4, 1024, 128]⟩
abbrev S8x1024x128 : Shape := ⟨3, ![8, 1024, 128]⟩
abbrev S2x4x1024 : Shape := ⟨3, ![2, 4, 1024]⟩
abbrev S8x7168x1024 : Shape := ⟨3, ![8, 7168, 1024]⟩
abbrev S2x4x7x1024x1024 : Shape := ⟨5, ![2, 4, 7, 1024, 1024]⟩
abbrev S2x4x7x1024x1 : Shape := ⟨5, ![2, 4, 7, 1024, 1]⟩
abbrev S2x4x1x1x1024 : Shape := ⟨5, ![2, 4, 1, 1, 1024]⟩
abbrev S1024x1024 : Shape := ⟨2, ![1024, 1024]⟩
abbrev S1x1x1x1024x1024 : Shape := ⟨5, ![1, 1, 1, 1024, 1024]⟩

abbrev nBuf : Space → Nat
  | .hbm => 49
  | .vmem => 13
  | .smem => 0
  | _ => 0

abbrev bufTy : (tb : Table) → Fin (tcTables nBuf tb) → BufTy
  | .hbm, ⟨0, _⟩ => ⟨S2x1024x3584, .bf16⟩
  | .hbm, ⟨1, _⟩ => ⟨S3584x4608, .fp8e4m3⟩
  | .hbm, ⟨2, _⟩ => ⟨S4608, .f32⟩
  | .hbm, ⟨3, _⟩ => ⟨S4608, .f32⟩
  | .hbm, ⟨4, _⟩ => ⟨S3x2x1024, .i32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S1x2x1024, .i32⟩
  | .hbm, ⟨22, _⟩ => ⟨S2x1024, .i32⟩
  | .hbm, ⟨23, _⟩ => ⟨S2x1024x1, .i32⟩
  | .hbm, ⟨24, _⟩ => ⟨S2x1024x16, .i32⟩
  | .hbm, ⟨25, _⟩ => ⟨S1x2x1024, .i32⟩
  | .hbm, ⟨26, _⟩ => ⟨S2x1024, .i32⟩
  | .hbm, ⟨27, _⟩ => ⟨S2x1024x1, .i32⟩
  | .hbm, ⟨28, _⟩ => ⟨S2x1024x24, .i32⟩
  | .hbm, ⟨29, _⟩ => ⟨S1x2x1024, .i32⟩
  | .hbm, ⟨30, _⟩ => ⟨S2x1024, .i32⟩
  | .hbm, ⟨31, _⟩ => ⟨S2x1024x1, .i32⟩
  | .hbm, ⟨32, _⟩ => ⟨S2x1024x24, .i32⟩
  | .hbm, ⟨33, _⟩ => ⟨S2x1024x64, .i32⟩
  | .hbm, ⟨34, _⟩ => ⟨S2x1024x64, .f32⟩
  | .hbm, ⟨35, _⟩ => ⟨S1x1x64, .f32⟩
  | .hbm, ⟨36, _⟩ => ⟨S2x1024x64, .f32⟩
  | .hbm, ⟨37, _⟩ => ⟨S2x1024x64, .f32⟩
  | .hbm, ⟨38, _⟩ => ⟨S2x1024x64, .f32⟩
  | .hbm, ⟨39, _⟩ => ⟨S2x1024x64, .f32⟩
  | .hbm, ⟨40, _⟩ => ⟨S2x1024x128, .f32⟩
  | .hbm, ⟨41, _⟩ => ⟨S2x1024x128, .f32⟩
  | .hbm, ⟨42, _⟩ => ⟨S2x1024x3584, .bf16⟩
  | .hbm, ⟨43, _⟩ => ⟨S2x1024x3584, .fp8e4m3⟩
  | .hbm, ⟨44, _⟩ => ⟨S2x1024, .f32⟩
  | .hbm, ⟨45, _⟩ => ⟨S2x1024x28x128, .fp8e4m3⟩
  | .hbm, ⟨46, _⟩ => ⟨S2x1024x28, .f32⟩
  | .hbm, ⟨47, _⟩ => ⟨S2x1024x4x128, .fp8e4m3⟩
  | .hbm, ⟨48, _⟩ => ⟨S2x1024x4, .f32⟩
  | .local _ .vmem, ⟨0, _⟩ => ⟨S2x1024x3584, .bf16⟩
  | .local _ .vmem, ⟨1, _⟩ => ⟨S3584x4608, .fp8e4m3⟩
  | .local _ .vmem, ⟨2, _⟩ => ⟨S4608, .f32⟩
  | .local _ .vmem, ⟨3, _⟩ => ⟨S4608, .f32⟩
  | .local _ .vmem, ⟨4, _⟩ => ⟨S2x1024x128, .f32⟩
  | .local _ .vmem, ⟨5, _⟩ => ⟨S2x1024x128, .f32⟩
  | .local _ .vmem, ⟨6, _⟩ => ⟨S2x1024x3584, .bf16⟩
  | .local _ .vmem, ⟨7, _⟩ => ⟨S2x1024x3584, .fp8e4m3⟩
  | .local _ .vmem, ⟨8, _⟩ => ⟨S2x1024, .f32⟩
  | .local _ .vmem, ⟨9, _⟩ => ⟨S2x1024x28x128, .fp8e4m3⟩
  | .local _ .vmem, ⟨10, _⟩ => ⟨S2x1024x28, .f32⟩
  | .local _ .vmem, ⟨11, _⟩ => ⟨S2x1024x4x128, .fp8e4m3⟩
  | .local _ .vmem, ⟨12, _⟩ => ⟨S2x1024x4, .f32⟩
  | _, _ => ⟨S2x1024x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32_0 : Ref sig .tc := ⟨.hbm, 42, rfl⟩
abbrev main_v32_1 : Ref sig .tc := ⟨.hbm, 43, rfl⟩
abbrev main_v32_2 : Ref sig .tc := ⟨.hbm, 44, rfl⟩
abbrev main_v32_3 : Ref sig .tc := ⟨.hbm, 45, rfl⟩
abbrev main_v32_4 : Ref sig .tc := ⟨.hbm, 46, rfl⟩
abbrev main_v32_5 : Ref sig .tc := ⟨.hbm, 47, rfl⟩
abbrev main_v32_6 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S2x1024x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x4608 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024x3584 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024x3584 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024x28x128 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024x28 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1024x4x128 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024x4 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.KRun0.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ (UR sig nD τ) ℕ

-- the definition's epilogue walks the run's large proof term past the default budget
set_option maxHeartbeats 1000000 in
noncomputable def kernelRun0 (c : Dev nD) (i : grid0.Coords) (arg2 : Memref sig .tc .vmem S3x2x1024 .i32) (harg2 : arg2.IsWhole) (arg3 : Memref sig .tc .vmem S64x128 .f32) (harg3 : arg3.IsWhole) (arg4 : Memref sig .tc .vmem S1x512x3584 .bf16) (harg4 : arg4.IsWhole) (arg5 : Memref sig .tc .vmem S3584x512 .fp8e4m3) (harg5 : arg5.IsWhole) (arg6 : Memref sig .tc .vmem S3584x512 .fp8e4m3) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512x3584 .fp8e4m3) (harg11 : arg11.IsWhole) (arg12 : Memref sig .tc .vmem S2x1024 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S1x512x4x128 .fp8e4m3) (harg16 : arg16.IsWhole) (arg17 : Memref sig .tc .vmem S1x4x512x128 .fp8e4m3) (harg17 : arg17.IsWhole) (arg18 : Memref sig .tc .vmem S1x4x512 .f32) (harg18 : arg18.IsWhole) (arg19 : Memref sig .tc .vmem S1x4x512x128 .f32) (harg19 : arg19.IsWhole) (arg20 : Memref sig .tc .vmem S1x512x512 .bf16) (harg20 : arg20.IsWhole)
    (x0 : Vec F S3x2x1024 .i32) (x1 : Vec F S64x128 .f32) (x2 : Vec F S1x512x3584 .bf16) (x3 : Vec F S3584x512 .fp8e4m3) (x4 : Vec F S3584x512 .fp8e4m3) (x5 : Vec F S1x512 .f32) (x6 : Vec F S1x512 .f32) (x7 : Vec F S1x512 .f32) (x8 : Vec F S1x512 .f32) (x10 : Vec F S2x1024 .f32) (x14 : Vec F S1x512x4x128 .fp8e4m3) :
    Σ' (L9 : List (View.Piece (Elt F) S1x512x3584 .fp8e4m3)), Σ' (L10 : List (View.Piece (Elt F) S2x1024 .f32)), Σ' (L11 : List (View.Piece (Elt F) S1x512x128 .f32)), Σ' (L12 : List (View.Piece (Elt F) S1x512x128 .f32)), Σ' (L13 : List (View.Piece (Elt F) S1x512x128 .f32)), Σ' (L14 : List (View.Piece (Elt F) S1x512x4x128 .fp8e4m3)), Σ' (L15 : List (View.Piece (Elt F) S1x4x512x128 .fp8e4m3)), Σ' (L16 : List (View.Piece (Elt F) S1x4x512 .f32)), Σ' (L17 : List (View.Piece (Elt F) S1x4x512x128 .f32)), { L18 : List (View.Piece (Elt F) S1x512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (arg12.view.loc (c : Thread nD τ) ↦[arg12.view.set]{fullShare} arg12.view.writes (Elt F) (harg12.unread x10) L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18)) -∗ K ⟨⟩))
          ⊢ wp frame (wpE (defs₀ (F := F)) Variants.none c none) E (cc0_kv_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, ?_, ?_, ?_, ?_, fun E K => ?run⟩
  case run =>
    simp only [cc0_kv_proj_eq_skeleton]; unfold cc0_kv_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%d13, %f13, -, H13⟩, ⟨%f14, %hf14, H14⟩, ⟨%d15, %f15, -, H15⟩, ⟨%d16, %f16, -, H16⟩, ⟨%d17, %f17, -, H17⟩, ⟨%d18, %f18, -, H18⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg16.eq_unread hf14
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexact H10
    isplitl [H11]; · iexists _; iexact H11
    isplitl [H12]; · iexists _; iexact H12
    isplitl [H13]; · iexists _; iexact H13
    isplitl [H14]; · iexists (harg16.unread x14); iexact H14
    isplitl [H15]; · iexists _; iexact H15
    isplitl [H16]; · iexists _; iexact H16
    isplitl [H17]; · iexists _; iexact H17
    iexists _; iexact H18

end Cert.Kernel.Hand
end
end
-- ==== Proof.Accum.lean ====
/-
  Windows that a pipeline fills piece by piece over several grid points. Such a window is written back once, when its last piece is
  in; until then the unwritten part of its staging buffer holds whatever was there before. The facts below let the frame say
  "the part written so far is what the pieces say", which is exact at the write-back.
-/
module

public import Idealize.ShloMosaic.Lib.Pipeline.FrameBody
public import Idealize.ShloMosaic.Lib.Pipeline.DatRel
public import Idealize.ShloMosaic.Lib.Pipeline.ArrRel
public import Idealize.ShloMosaic.Lib.WritesUnit

@[expose] public section

noncomputable section

namespace Cert.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg)

/-! ## Lists of pieces -/

/-- The pieces written since the last point divisible by `P`, up to point `n`, newest first. -/
def accum {α : Type} (N P : ℕ) (L : Fin N → List α) : ℕ → List α
  | 0 => if h : 0 < N then L ⟨0, h⟩ else []
  | n + 1 => if h : n + 1 < N then (if (n + 1) % P = 0 then L ⟨n + 1, h⟩ else L ⟨n + 1, h⟩ ++ accum N P L n) else []

theorem accum_start {α : Type} {N P : ℕ} {L : Fin N → List α} (t : Fin N) (h : t.val % P = 0) : accum N P L t.val = L t := by
  obtain ⟨n, hn⟩ := t
  cases n with
  | zero => exact dif_pos hn
  | succ n => exact (dif_pos hn).trans (if_pos h)

theorem accum_next {α : Type} {N P : ℕ} {L : Fin N → List α} (t : Fin N) (h : ¬ t.val % P = 0) :
    accum N P L t.val = L t ++ accum N P L (t.val - 1) := by
  obtain ⟨n, hn⟩ := t
  cases n with
  | zero => exact absurd (Nat.zero_mod P) h
  | succ n => exact (dif_pos hn).trans (if_neg h)

/-- Every piece of a point since the start is there, as long as no start lies in between. -/
theorem mem_accum {α : Type} {N P : ℕ} {L : Fin N → List α} (hP : N ≤ P) (u v : Fin N) (h : u.val ≤ v.val) {p : α} (hp : p ∈ L u) :
    p ∈ accum N P L v.val := by
  obtain ⟨v, hv⟩ := v
  induction v with
  | zero =>
    have : u = ⟨0, hv⟩ := Fin.ext (Nat.le_zero.mp h)
    subst this
    exact (accum_start (L := L) ⟨0, hv⟩ (Nat.zero_mod P)).symm ▸ hp
  | succ v ih =>
    have hm : ¬ (v + 1) % P = 0 := by rw [Nat.mod_eq_of_lt (Nat.lt_of_lt_of_le hv hP)]; exact Nat.succ_ne_zero v
    rw [accum_next (L := L) ⟨v + 1, hv⟩ hm]
    by_cases he : u = ⟨v + 1, hv⟩
    · subst he; exact List.mem_append_left _ hp
    · refine List.mem_append_right _ (ih (Nat.lt_of_succ_lt hv) ?_)
      have : u.val ≠ v + 1 := fun e => he (Fin.ext e)
      exact Nat.lt_succ_iff.mp (Nat.lt_of_le_of_ne h this)

section Pieces
variable {sig : RefSig} {κ : Kind} {sp : Space} {s : Shape} {e : EltTy} {Val : EltTy → Type} [∀ e, Nonempty (Val e)]

/-- A buffer agrees with a list of pieces wherever the list covers it. -/
def Agrees (L : List (View.Piece Val s e)) (X : s.Idx → Val e) : Prop :=
  ∀ y, (∃ p ∈ L, y ∈ p.1.set) → X y = View.canon L y

/-- Writing further pieces over a buffer that agrees with `L'` gives one that agrees with both lists. -/
theorem Agrees.writes (v : View sig κ sp s e) (f : v.ty.Contents Val) (L' : List (View.Piece Val s e))
    (h : Agrees L' (v.read Val f)) :
    ∀ L : List (View.Piece Val s e), Agrees (L ++ L') (v.read Val (v.writes Val f L))
  | [] => by rw [View.writes_nil]; exact h
  | p :: L => by
    intro y hy
    by_cases hp : y ∈ p.1.set
    · obtain ⟨r, w⟩ := p
      obtain ⟨x, rfl⟩ : ∃ x, r.emb x = y := r.exists_idx_of_mem hp
      rw [View.read_writes_cons_emb, List.cons_append, View.canon_cons_emb]
    · have hL : ∃ p' ∈ L ++ L', y ∈ p'.1.set := by
        obtain ⟨p', hm, hy'⟩ := hy
        rcases List.mem_cons.mp hm with rfl | hm
        · exact absurd hy' hp
        · exact ⟨p', hm, hy'⟩
      have hy' : y ∉ Finset.univ.map p.1.emb := by rwa [Rect.map_emb_univ]
      rw [View.writes_cons, View.read_slice_write_of_not_mem p.1 _ _ _ hy', List.cons_append, View.canon_cons_of_not_mem p _ hp]
      exact Agrees.writes v f L' h L y hL

/-- The same over a buffer of which nothing is known. -/
theorem agrees_writes (v : View sig κ sp s e) (f : v.ty.Contents Val) (L : List (View.Piece Val s e)) :
    Agrees L (v.read Val (v.writes Val f L)) :=
  fun y hy => View.read_writes_apply_eq_canon v f y L hy

/-- Where the pieces cover the buffer, agreeing with them is equality. -/
theorem Agrees.eq_canon {L : List (View.Piece Val s e)} {X : s.Idx → Val e} (h : Agrees L X)
    (hc : ∀ y, ∃ p ∈ L, y ∈ p.1.set) : X = View.canon L := funext fun y => h y (hc y)

theorem emb_full {off : Fin s.rank → ℕ} (inb : ∀ a, off a + s.size a ≤ s.size a) (y : s.Idx) :
    (Rect.unit off s.size inb).emb y = y :=
  funext fun a => Fin.ext (by
    show off a + 1 * (y a).val = (y a).val
    have := inb a
    omega)

/-- After a piece that is the whole shape, the buffer is that piece, -/
theorem canon_full {off : Fin s.rank → ℕ} (inb : ∀ a, off a + s.size a ≤ s.size a)
    (w : (Rect.unit off s.size inb).shape.Idx → Val e) (L : List (View.Piece Val s e)) :
    View.canon ((⟨Rect.unit off s.size inb, w⟩ : View.Piece Val s e) :: L) = w := by
  funext y
  exact (congrArg (View.canon ((⟨Rect.unit off s.size inb, w⟩ : View.Piece Val s e) :: L)) (emb_full inb y).symm).trans
    (View.canon_cons_emb _ w L y)

/-- and reading the whole shape back reads what the pieces say. -/
theorem readCov_full (v : View sig κ sp s e) {off : Fin s.rank → ℕ} (inb : ∀ a, off a + s.size a ≤ s.size a)
    (L : List (View.Piece Val s e)) : v.readCov L (Rect.unit off s.size inb).toLoadRect = View.canon L := by
  rw [View.readCov_eq_canon']
  funext y
  exact congrArg (View.canon L) (emb_full inb y)

end Pieces

/-! ## Arrays of a window that is exact at its write-backs -/

section Arr
variable {nD : Nat} {τ : Topo} {sig : RefSig} {Val : EltTy → Type} {Λ₀ : Idealize.SL.Sem.Labels} [∀ e, Nonempty (Val e)]
variable {Ix : Type} [DecidableEq Ix] {Name : Type} [DecidableEq Name] {U : Type} [URA U] {Lvl : Type}

local notation "𝕄" => MT nD τ sig Ix Val Name U Lvl

variable {cfg : Cfg sig Λ₀} {c : Dev nD} (dat : Dat τ Val Ix Name U Lvl cfg c)

/-- If the marked windows hold what the exact data name whenever they are written back, the arrays end as the exact data say. -/
theorem arraysAt_of_exact_at_flush {fgt : Fin cfg.W → Bool}
    {Rl : (w : Fin cfg.W) → Fin cfg.N → ((cfg.win w).block.Idx → Val (cfg.win w).elt) → Prop}
    (h : ∀ w u X, fgt w = true → (cfg.win w).flush u = true → Rl w u X → dat.after w u = X) (n : Nat) :
    (dat.toRRel fgt Rl).arraysAt n ⊢ (dat.arrays (dat.arrAt · n) : sProp 𝕄) :=
  BI.bigSep_mono fun w _ =>
    show iprop(∃ F, ⌜(dat.toRRel fgt Rl).ArrAt w n F⌝ ∗ (cfg.win w).arr.view.loc (c.tc : Thread nD τ) ↦[(cfg.win w).arr.view.set]{dat.toR.share w} F)
        ⊢ ((cfg.win w).arr.view.loc (c.tc : Thread nD τ) ↦[(cfg.win w).arr.view.set]{dat.share w} dat.arrAt w n : sProp 𝕄) from by
      iintro ⟨%F, %hF, H⟩
      have hF' : F = dat.arrAt w n := by
        cases hw : fgt w
        · exact ((dat.toR.override_arrAt (by simp only [hw]) n F).trans (dat.toR_arrAt_iff w n F)).mp hF
        · obtain ⟨X, hX, hA⟩ := RDat.ArrAt.exists_exact hF
          exact hA dat.after fun u hu hfu => h w u (X u) hw hfu (dat.toRRel_leaves hw (hX u hu hfu))
      rw [hF']; iexact H

end Arr

end Cert.Hand
end
end
-- ==== Proof.KReg0.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.WordCmp
public import proofs.«01_k».proof.Proof.KRun0
public import proofs.«01_k».proof.Proof.Accum

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Hand
open Idealize.ShloMosaic.Pipeline (Dat Cfg Window BodyObligation BodyObligationRel cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's staging buffer holds its block at every point, fetched there or not, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! Each window's staging memref at point `t`, and its wholeness. -/
abbrev ms0_0 (t : Fin cfg0.N) : Memref sig .tc .vmem S3x2x1024 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x3584 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3584x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3584x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x3584 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x512x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x512x4x128 .fp8e4m3 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x4x512x128 .fp8e4m3 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x4x512 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x4x512x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x512x512 .bf16 := win0_18.stage (cfg0.slots t 18)
abbrev hs0_18 (t : Fin cfg0.N) : (ms0_18 t).IsWhole := hstage0_18 ((cfg0.slots t 18).cast nbuf0_18)

/-- The body's run at point `t`, on the point's memrefs and input blocks. -/
abbrev run0 (c : Dev nD) (t : Fin cfg0.N) (x10 : Vec F S2x1024 .f32) (x14 : Vec F S1x512x4x128 .fp8e4m3) :=
  kernelRun0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t)
    (iblk0 V c 0 t) (iblk0 V c 1 t) (iblk0 V c 2 t) (iblk0 V c 3 t) (iblk0 V c 4 t) (iblk0 V c 5 t) (iblk0 V c 6 t) (iblk0 V c 7 t) (iblk0 V c 8 t) x10 x14

/-! What the body writes into each output window at point `t`, as pieces, newest first. -/
def L0_9 (c : Dev nD) (t : Fin cfg0.N) : List (View.Piece (Elt F) S1x512x3584 .fp8e4m3) := (run0 V c t (View.canon []) (View.canon [])).1
def L0_10 (c : Dev nD) (t : Fin cfg0.N) : List (View.Piece (Elt F) S2x1024 .f32) := (run0 V c t (View.canon []) (View.canon [])).2.1
def L0_11 (c : Dev nD) (t : Fin cfg0.N) : List (View.Piece (Elt F) S1x512x128 .f32) := (run0 V c t (View.canon []) (View.canon [])).2.2.1
def L0_12 (c : Dev nD) (t : Fin cfg0.N) : List (View.Piece (Elt F) S1x512x128 .f32) := (run0 V c t (View.canon []) (View.canon [])).2.2.2.1
def L0_13 (c : Dev nD) (t : Fin cfg0.N) : List (View.Piece (Elt F) S1x512x128 .f32) := (run0 V c t (View.canon []) (View.canon [])).2.2.2.2.1
def L0_14 (c : Dev nD) (t : Fin cfg0.N) : List (View.Piece (Elt F) S1x512x4x128 .fp8e4m3) := (run0 V c t (View.canon []) (View.canon [])).2.2.2.2.2.1
def L0_15 (c : Dev nD) (t : Fin cfg0.N) : List (View.Piece (Elt F) S1x4x512x128 .fp8e4m3) := (run0 V c t (View.canon []) (View.canon [])).2.2.2.2.2.2.1
def L0_16 (c : Dev nD) (t : Fin cfg0.N) : List (View.Piece (Elt F) S1x4x512 .f32) := (run0 V c t (View.canon []) (View.canon [])).2.2.2.2.2.2.2.1
def L0_17 (c : Dev nD) (t : Fin cfg0.N) : List (View.Piece (Elt F) S1x4x512x128 .f32) := (run0 V c t (View.canon []) (View.canon [])).2.2.2.2.2.2.2.2.1
def L0_18 (c : Dev nD) (t : Fin cfg0.N) : List (View.Piece (Elt F) S1x512x512 .bf16) := (run0 V c t (View.canon []) (View.canon [])).2.2.2.2.2.2.2.2.2.1

/-! The pieces do not depend on what the windows held before. -/
theorem L0_9_eq (c : Dev nD) (t : Fin cfg0.N) (x10 : Vec F S2x1024 .f32) (x14 : Vec F S1x512x4x128 .fp8e4m3) : (run0 V c t x10 x14).1 = L0_9 V c t := rfl
theorem L0_10_eq (c : Dev nD) (t : Fin cfg0.N) (x10 : Vec F S2x1024 .f32) (x14 : Vec F S1x512x4x128 .fp8e4m3) : (run0 V c t x10 x14).2.1 = L0_10 V c t := rfl
theorem L0_11_eq (c : Dev nD) (t : Fin cfg0.N) (x10 : Vec F S2x1024 .f32) (x14 : Vec F S1x512x4x128 .fp8e4m3) : (run0 V c t x10 x14).2.2.1 = L0_11 V c t := rfl
theorem L0_12_eq (c : Dev nD) (t : Fin cfg0.N) (x10 : Vec F S2x1024 .f32) (x14 : Vec F S1x512x4x128 .fp8e4m3) : (run0 V c t x10 x14).2.2.2.1 = L0_12 V c t := rfl
theorem L0_13_eq (c : Dev nD) (t : Fin cfg0.N) (x10 : Vec F S2x1024 .f32) (x14 : Vec F S1x512x4x128 .fp8e4m3) : (run0 V c t x10 x14).2.2.2.2.1 = L0_13 V c t := rfl
theorem L0_15_eq (c : Dev nD) (t : Fin cfg0.N) (x10 : Vec F S2x1024 .f32) (x14 : Vec F S1x512x4x128 .fp8e4m3) : (run0 V c t x10 x14).2.2.2.2.2.2.1 = L0_15 V c t := rfl
theorem L0_16_eq (c : Dev nD) (t : Fin cfg0.N) (x10 : Vec F S2x1024 .f32) (x14 : Vec F S1x512x4x128 .fp8e4m3) : (run0 V c t x10 x14).2.2.2.2.2.2.2.1 = L0_16 V c t := rfl
theorem L0_17_eq (c : Dev nD) (t : Fin cfg0.N) (x10 : Vec F S2x1024 .f32) (x14 : Vec F S1x512x4x128 .fp8e4m3) : (run0 V c t x10 x14).2.2.2.2.2.2.2.2.1 = L0_17 V c t := rfl
theorem L0_18_eq (c : Dev nD) (t : Fin cfg0.N) (x10 : Vec F S2x1024 .f32) (x14 : Vec F S1x512x4x128 .fp8e4m3) : (run0 V c t x10 x14).2.2.2.2.2.2.2.2.2.1 = L0_18 V c t := rfl

/-! The pieces cover their window. -/
theorem cover0_9 (c : Dev nD) (t : Fin cfg0.N) (y : Shape.Idx S1x512x3584) : ∃ p ∈ L0_9 V c t, y ∈ p.1.set :=
  View.cover_of_tiledL (L0_9 V c t) S1x512x3584.size (by sl_kernel_rfl) y
theorem cover0_11 (c : Dev nD) (t : Fin cfg0.N) (y : Shape.Idx S1x512x128) : ∃ p ∈ L0_11 V c t, y ∈ p.1.set :=
  View.cover_of_tiledL (L0_11 V c t) S1x512x128.size (by sl_kernel_rfl) y
theorem cover0_12 (c : Dev nD) (t : Fin cfg0.N) (y : Shape.Idx S1x512x128) : ∃ p ∈ L0_12 V c t, y ∈ p.1.set :=
  View.cover_of_tiledL (L0_12 V c t) S1x512x128.size (by sl_kernel_rfl) y
theorem cover0_13 (c : Dev nD) (t : Fin cfg0.N) (y : Shape.Idx S1x512x128) : ∃ p ∈ L0_13 V c t, y ∈ p.1.set :=
  View.cover_of_tiledL (L0_13 V c t) S1x512x128.size (by sl_kernel_rfl) y
theorem cover0_14 (c : Dev nD) (t : Fin cfg0.N) (y : Shape.Idx S1x512x4x128) : ∃ p ∈ L0_14 V c t, y ∈ p.1.set :=
  View.cover_of_tiledL (L0_14 V c t) S1x512x4x128.size (by sl_kernel_rfl) y
theorem cover0_15 (c : Dev nD) (t : Fin cfg0.N) (y : Shape.Idx S1x4x512x128) : ∃ p ∈ L0_15 V c t, y ∈ p.1.set :=
  View.cover_of_tiledL (L0_15 V c t) S1x1x512x128.size (by sl_kernel_rfl) y
theorem cover0_16 (c : Dev nD) (t : Fin cfg0.N) (y : Shape.Idx S1x4x512) : ∃ p ∈ L0_16 V c t, y ∈ p.1.set :=
  View.cover_of_tiledL (L0_16 V c t) S1x1x512.size (by sl_kernel_rfl) y
theorem cover0_17 (c : Dev nD) (t : Fin cfg0.N) (y : Shape.Idx S1x4x512x128) : ∃ p ∈ L0_17 V c t, y ∈ p.1.set :=
  View.cover_of_tiledL (L0_17 V c t) S1x1x512x128.size (by sl_kernel_rfl) y
theorem cover0_18 (c : Dev nD) (t : Fin cfg0.N) (y : Shape.Idx S1x512x512) : ∃ p ∈ L0_18 V c t, y ∈ p.1.set :=
  View.cover_of_tiledL (L0_18 V c t) S1x512x512.size (by sl_kernel_rfl) y

theorem updateSlice_slab {e : EltTy} (x : Vec F S1x512x4x128 e) (w : Vec F S1x512x1x128 e) (h : ℕ)
    (hs : S1x512x4x128.Slices ![0, 0, h, 0] S1x512x1x128) (y : Shape.Idx S1x512x4x128) :
    updateSlice x w ![0, 0, h, 0] hs y = if (y 2).val = h then w (fun a => match a with
    | ⟨0, _⟩ => y 0
    | ⟨1, _⟩ => y 1
    | ⟨2, _⟩ => ⟨0, Nat.one_pos⟩
    | ⟨3, _⟩ => y 3) else x y := by
  have h0 : (y 0).val < 1 := (y 0).isLt
  have h1 : (y 1).val < 512 := (y 1).isLt
  have h3 : (y 3).val < 128 := (y 3).isLt
  unfold updateSlice
  by_cases hy : (y 2).val = h
  · rw [if_pos hy, dif_pos]
    · congr 1; funext a
      match a with
      | ⟨0, _⟩ => exact Fin.ext (show (y 0).val - 0 = (y 0).val by omega)
      | ⟨1, _⟩ => exact Fin.ext (show (y 1).val - 0 = (y 1).val by omega)
      | ⟨2, _⟩ => exact Fin.ext (show (y 2).val - h = 0 by omega)
      | ⟨3, _⟩ => exact Fin.ext (show (y 3).val - 0 = (y 3).val by omega)
    · intro a
      match a with
      | ⟨0, _⟩ => show 0 ≤ (y 0).val ∧ (y 0).val < 0 + 1; omega
      | ⟨1, _⟩ => show 0 ≤ (y 1).val ∧ (y 1).val < 0 + 512; omega
      | ⟨2, _⟩ => show h ≤ (y 2).val ∧ (y 2).val < h + 1; omega
      | ⟨3, _⟩ => show 0 ≤ (y 3).val ∧ (y 3).val < 0 + 128; omega
  · rw [if_neg hy, dif_neg]
    intro hc
    have h2 : h ≤ (y 2).val ∧ (y 2).val < h + 1 := hc 2
    omega

/-- Two contents that agree on the first `k` positions of axis 2. -/
def SameTo (k : ℕ) {e : EltTy} (z z' : Vec F S1x512x4x128 e) : Prop := ∀ y : Shape.Idx S1x512x4x128, (y 2).val < k → z y = z' y

/-- Putting the same slab at position `k` into contents that agree below `k` gives contents that agree below `k + 1`. -/
theorem SameTo.step {k : ℕ} {e : EltTy} {z z' : Vec F S1x512x4x128 e} (h : SameTo k z z') (w : Vec F S1x512x1x128 e)
    (hs : S1x512x4x128.Slices ![0, 0, k, 0] S1x512x1x128) :
    SameTo (k + 1) (updateSlice z w ![0, 0, k, 0] hs) (updateSlice z' w ![0, 0, k, 0] hs) := by
  intro y hy
  rw [updateSlice_slab, updateSlice_slab]
  by_cases hk : (y 2).val = k
  · rw [if_pos hk, if_pos hk]
  · rw [if_neg hk, if_neg hk]; exact h y (by omega)

/-- The same, read back from the buffer. -/
theorem SameTo.stepCov {k : ℕ} {e : EltTy} {z z' : Vec F S1x512x4x128 e} (h : SameTo k z z') (w : Vec F S1x512x1x128 e)
    (hs : S1x512x4x128.Slices ![0, 0, k, 0] S1x512x1x128) {sp : Space} (v : View sig .tc sp S1x512x4x128 e)
    {off off' : Fin 4 → ℕ} (inb : ∀ a, off a + S1x512x4x128.size a ≤ S1x512x4x128.size a)
    (inb' : ∀ a, off' a + S1x512x4x128.size a ≤ S1x512x4x128.size a) (L L' : List (View.Piece (Elt F) S1x512x4x128 e)) :
    SameTo (k + 1)
      (v.readCov ((⟨Rect.unit off S1x512x4x128.size inb, updateSlice z w ![0, 0, k, 0] hs⟩ : View.Piece (Elt F) S1x512x4x128 e) :: L)
        (Rect.unit off' S1x512x4x128.size inb').toLoadRect)
      (v.readCov ((⟨Rect.unit off S1x512x4x128.size inb, updateSlice z' w ![0, 0, k, 0] hs⟩ : View.Piece (Elt F) S1x512x4x128 e) :: L')
        (Rect.unit off' S1x512x4x128.size inb').toLoadRect) := by
  rw [readCov_full, readCov_full, canon_full, canon_full]
  exact h.step w hs

theorem cover0_14_of (c : Dev nD) (t : Fin cfg0.N) (x10 : Vec F S2x1024 .f32) (x14 : Vec F S1x512x4x128 .fp8e4m3) (y : Shape.Idx S1x512x4x128) :
    ∃ p ∈ (run0 V c t x10 x14).2.2.2.2.2.1, y ∈ p.1.set :=
  View.cover_of_tiledL (run0 V c t x10 x14).2.2.2.2.2.1 S1x512x4x128.size (by sl_kernel_rfl) y

/-- What the body leaves in the window of key codes does not depend on what it found there: all four slabs are replaced. -/
theorem canon0_14 (c : Dev nD) (t : Fin cfg0.N) (x10 : Vec F S2x1024 .f32) (x14 : Vec F S1x512x4x128 .fp8e4m3) :
    View.canon (run0 V c t x10 x14).2.2.2.2.2.1 = View.canon (L0_14 V c t) := by
  refine (canon_full _ _ _).trans (Eq.trans ?_ (canon_full _ _ _).symm)
  have h4 : ∀ z z' : Vec F S1x512x4x128 .fp8e4m3, SameTo 4 z z' → z = z' := fun z z' h => funext fun y => h y (y 2).isLt
  refine h4 _ _ (SameTo.step (k := 3) ?_ _ _)
  refine SameTo.stepCov (k := 2) ?_ _ _ _ _ _ _ _
  refine SameTo.stepCov (k := 1) ?_ _ _ _ _ _ _ _
  refine SameTo.stepCov (k := 0) ?_ _ _ _ _ _ _ _
  exact fun y hy => absurd hy (Nat.not_lt_zero _)

/-- Where the body writes its row of scales. -/
theorem off0 : ∀ t : Fin cfg0.N, k0_off1 (grid0.coords t) = ![t.val / 2, 512 * (t.val % 2)] := by decide
theorem mem0 (c : Dev nD) (t : Fin cfg0.N) (y : Shape.Idx S2x1024) (h0 : (y 0).val = t.val / 2) (h1 : (y 1).val / 512 = t.val % 2) :
    ∃ p ∈ L0_10 V c t, y ∈ p.1.set := by
  refine ⟨_, List.mem_cons_self, ?_⟩
  rw [Rect.mem_set_unit]
  rw [off0]
  intro a
  match a with
  | ⟨0, _⟩ => show t.val / 2 ≤ (y 0).val ∧ (y 0).val < t.val / 2 + 1; omega
  | ⟨1, _⟩ => show 512 * (t.val % 2) ≤ (y 1).val ∧ (y 1).val < 512 * (t.val % 2) + 512; omega
/-- The four rows of scales cover the window when it is written back. -/
theorem coverAcc0 (c : Dev nD) (t : Fin cfg0.N) (ht : t.val % 4 = 3) (y : Shape.Idx S2x1024) :
    ∃ p ∈ accum cfg0.N 4 (L0_10 V c) t.val, y ∈ p.1.set := by
  have h0 : (y 0).val < 2 := (y 0).isLt
  have h1 : (y 1).val < 1024 := (y 1).isLt
  have hlt : t.val < 4 := t.isLt
  have hacc : ∀ u v : Fin cfg0.N, u.val ≤ v.val → (∃ p ∈ L0_10 V c u, y ∈ p.1.set) → ∃ p ∈ accum cfg0.N 4 (L0_10 V c) v.val, y ∈ p.1.set :=
    fun u v huv ⟨p, hp, hy⟩ => ⟨p, mem_accum (by decide) u v huv hp, hy⟩
  refine hacc ⟨2 * (y 0).val + (y 1).val / 512, by show _ < 4; omega⟩ t (by dsimp only; omega) (mem0 V c _ y (by dsimp only; omega) (by dsimp only; omega))

/-- The pieces window 10 has received since its block was last changed. -/
def acc0 (c : Dev nD) (n : ℕ) : List (View.Piece (Elt F) S2x1024 .f32) := accum cfg0.N 4 (L0_10 V c) n

/-- The proof data of pipeline 0 on core `c`: the arrays as the region finds them; after the body at point `t` each input's buffer at
    its block, each output's at what the pieces say. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => View.canon (L0_9 V c t)
    | ⟨10, _⟩ => View.canon (acc0 V c t.val)
    | ⟨11, _⟩ => View.canon (L0_11 V c t)
    | ⟨12, _⟩ => View.canon (L0_12 V c t)
    | ⟨13, _⟩ => View.canon (L0_13 V c t)
    | ⟨14, _⟩ => View.canon (L0_14 V c t)
    | ⟨15, _⟩ => View.canon (L0_15 V c t)
    | ⟨16, _⟩ => View.canon (L0_16 V c t)
    | ⟨17, _⟩ => View.canon (L0_17 V c t)
    | ⟨18, _⟩ => View.canon (L0_18 V c t)
    | ⟨_ + 19, h⟩ => absurd h (Nat.not_lt.2 (Nat.le_add_left _ _))
  Φ _ := Pipeline.ΦA spec0 c
  q w := Pipeline.shareOf spec0 w
  owed _ := 0

theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = View.canon (L0_9 V c t) := by dsimp only [dat0]
theorem after0_10 (c : Dev nD) (t : Fin cfg0.N) : (dat0 V c).after 10 t = View.canon (acc0 V c t.val) := by dsimp only [dat0]
theorem after0_11 (c : Dev nD) (t : Fin cfg0.N) : (dat0 V c).after 11 t = View.canon (L0_11 V c t) := by dsimp only [dat0]
theorem after0_12 (c : Dev nD) (t : Fin cfg0.N) : (dat0 V c).after 12 t = View.canon (L0_12 V c t) := by dsimp only [dat0]
theorem after0_13 (c : Dev nD) (t : Fin cfg0.N) : (dat0 V c).after 13 t = View.canon (L0_13 V c t) := by dsimp only [dat0]
theorem after0_14 (c : Dev nD) (t : Fin cfg0.N) : (dat0 V c).after 14 t = View.canon (L0_14 V c t) := by dsimp only [dat0]
theorem after0_15 (c : Dev nD) (t : Fin cfg0.N) : (dat0 V c).after 15 t = View.canon (L0_15 V c t) := by dsimp only [dat0]
theorem after0_16 (c : Dev nD) (t : Fin cfg0.N) : (dat0 V c).after 16 t = View.canon (L0_16 V c t) := by dsimp only [dat0]
theorem after0_17 (c : Dev nD) (t : Fin cfg0.N) : (dat0 V c).after 17 t = View.canon (L0_17 V c t) := by dsimp only [dat0]
theorem after0_18 (c : Dev nD) (t : Fin cfg0.N) : (dat0 V c).after 18 t = View.canon (L0_18 V c t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-- The window that is filled over several points. -/
def fgt0 : Fin cfg0.W → Bool := fun w => match w with
  | ⟨10, _⟩ => true
  | _ => false

/-- What is known of that window after point `t`: it agrees with the pieces written so far. -/
def Rl0 (c : Dev nD) (w : Fin cfg0.W) (t : Fin cfg0.N) : ((cfg0.win w).block.Idx → Elt F (cfg0.win w).elt) → Prop := match w with
  | ⟨10, _⟩ => fun X => Agrees (acc0 V c t.val) X
  | _ => fun _ => True

/-- What the body finds in that window and the pieces it writes give what is known after the point. -/
theorem step0 (c : Dev nD) (t : Fin cfg0.N) (Y : Vec F S2x1024 .f32) (hY : ((dat0 V c).toRRel fgt0 (Rl0 V c)).Finds 10 t Y) :
    Agrees (acc0 V c t.val) ((ms0_10 t).view.read (Elt F) ((ms0_10 t).view.writes (Elt F) ((hs0_10 t).unread Y) (L0_10 V c t))) := by
  unfold acc0
  by_cases ht : t.val % 4 = 0
  · rw [accum_start t ht]; exact agrees_writes _ _ _
  · rw [accum_next t ht]
    refine Agrees.writes _ _ _ ?_ _
    rw [(hs0_10 t).read_unread]
    have h0 : t.val ≠ 0 := fun h => ht (by rw [h])
    rcases (((dat0 V c).toRRel fgt0 (Rl0 V c)).finds_of_pos (w := 10) (Pipeline.Window.fetch_out _ rfl t) h0 Y).mp hY with h | h
    · exact absurd ((flush0_10 _).mp h) (by dsimp only; omega)
    · exact (dat0 V c).toRRel_leaves (fgt := fgt0) (Rl := Rl0 V c) (w := 10) rfl h

/-- When the window is written back it holds what the pieces say. -/
theorem exact0 (c : Dev nD) (w : Fin cfg0.W) (u : Fin cfg0.N) (X : (cfg0.win w).block.Idx → Elt F (cfg0.win w).elt)
    (hw : fgt0 w = true) (hf : (cfg0.win w).flush u = true) (h : Rl0 V c w u X) : (dat0 V c).after w u = X := by
  have : w = 10 := (show ∀ w : Fin cfg0.W, fgt0 w = true → w = 10 by decide) w hw
  subst this
  exact (Agrees.eq_canon h (coverAcc0 V c u ((flush0_10 u).mp hf))).symm

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ Y, ⌜((dat0 V c).toRRel fgt0 (Rl0 V c)).Finds 10 t Y⌝ ∗ owns (c : Thread nD τ) (ms0_10 t) fullShare Y)
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d))
    ∗ (∃ d, owns (c : Thread nD τ) (ms0_15 t) fullShare ((dat0 V c).before 15 t d))
    ∗ (∃ d, owns (c : Thread nD τ) (ms0_16 t) fullShare ((dat0 V c).before 16 t d))
    ∗ (∃ d, owns (c : Thread nD τ) (ms0_17 t) fullShare ((dat0 V c).before 17 t d))
    ∗ (∃ d, owns (c : Thread nD τ) (ms0_18 t) fullShare ((dat0 V c).before 18 t d)))

/-- and what it leaves. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ (∃ X, ⌜Rl0 V c 10 t X⌝ ∗ owns (c : Thread nD τ) (ms0_10 t) fullShare X)
    ∗ owns (c : Thread nD τ) (ms0_11 t) fullShare ((dat0 V c).after 11 t)
    ∗ owns (c : Thread nD τ) (ms0_12 t) fullShare ((dat0 V c).after 12 t)
    ∗ owns (c : Thread nD τ) (ms0_13 t) fullShare ((dat0 V c).after 13 t)
    ∗ owns (c : Thread nD τ) (ms0_14 t) fullShare ((dat0 V c).after 14 t)
    ∗ owns (c : Thread nD τ) (ms0_15 t) fullShare ((dat0 V c).after 15 t)
    ∗ owns (c : Thread nD τ) (ms0_16 t) fullShare ((dat0 V c).after 16 t)
    ∗ owns (c : Thread nD τ) (ms0_17 t) fullShare ((dat0 V c).after 17 t)
    ∗ owns (c : Thread nD τ) (ms0_18 t) fullShare ((dat0 V c).after 18 t))

/-- The body's triple at a generic point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_11, after0_12, after0_13, after0_14, after0_15, after0_16, after0_17, after0_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%x10, %hx10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((run0 V c t x10 ((dat0 V c).before 14 t d14)).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexists _; iexact H11
  isplitl [H12]; · iexists _; iexact H12
  isplitl [H13]; · iexists _; iexact H13
  isplitl [H14]; · iexact H14
  isplitl [H15]; · iexists _; iexact H15
  isplitl [H16]; · iexists _; iexact H16
  isplitl [H17]; · iexists _; iexact H17
  isplitl [H18]; · iexists _; iexact H18
  iintro ⟨H0, H1, H2, H3, H4, H5, H6, H7, H8, ⟨%e9, H9⟩, H10, ⟨%e11, H11⟩, ⟨%e12, H12⟩, ⟨%e13, H13⟩, ⟨%e14, H14⟩, ⟨%e15, H15⟩, ⟨%e16, H16⟩, ⟨%e17, H17⟩, ⟨%e18, H18⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_eq_canon _ _ _ (cover0_9 V c t)
  isplitl [H10]
  · iexists _; isplitr
    · ipureintro; exact step0 V c t x10 hx10
    unfold owns; iexists _; isplitr
    swap; · iexact H10
    ipureintro; rfl
  isplitl [H11]
  · unfold owns; iexists _; isplitr
    swap; · iexact H11
    ipureintro; exact View.read_writes_eq_canon _ _ _ (cover0_11 V c t)
  isplitl [H12]
  · unfold owns; iexists _; isplitr
    swap; · iexact H12
    ipureintro; exact View.read_writes_eq_canon _ _ _ (cover0_12 V c t)
  isplitl [H13]
  · unfold owns; iexists _; isplitr
    swap; · iexact H13
    ipureintro; exact View.read_writes_eq_canon _ _ _ (cover0_13 V c t)
  isplitl [H14]
  · unfold owns; iexists _; isplitr
    swap; · iexact H14
    ipureintro; exact (View.read_writes_eq_canon _ _ _ (cover0_14_of V c t x10 ((dat0 V c).before 14 t d14))).trans (canon0_14 V c t x10 ((dat0 V c).before 14 t d14))
  isplitl [H15]
  · unfold owns; iexists _; isplitr
    swap; · iexact H15
    ipureintro; exact View.read_writes_eq_canon _ _ _ (cover0_15 V c t)
  isplitl [H16]
  · unfold owns; iexists _; isplitr
    swap; · iexact H16
    ipureintro; exact View.read_writes_eq_canon _ _ _ (cover0_16 V c t)
  isplitl [H17]
  · unfold owns; iexists _; isplitr
    swap; · iexact H17
    ipureintro; exact View.read_writes_eq_canon _ _ _ (cover0_17 V c t)
  unfold owns; iexists _; isplitr
  swap; · iexact H18
  ipureintro; exact View.read_writes_eq_canon _ _ _ (cover0_18 V c t)

theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) :
    BodyObligationRel (dat0 (F := F) V c) (defs₀ (F := F)) Variants.none () Set.univ fgt0 (Rl0 V c) := fun t => by
  rw [bigSep_W0, bigSep_W0, defs₀_row0]
  exact triple_restated (sound_body0 V c t) rfl .rfl fun _ => .rfl

end Cert.Kernel.Hand
end
end
-- ==== Proof.KRun1.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ (UR sig nD τ) ℕ

-- the definition's epilogue walks the run's large proof term past the default budget
set_option maxHeartbeats 4000000 in
noncomputable def kernelRun1 (c : Dev nD) (i : grid1.Coords) (arg2 : Memref sig .tc .vmem S2x1024x3584 .fp8e4m3) (harg2 : arg2.IsWhole) (arg3 : Memref sig .tc .vmem S3584x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S2x1024x128 .f32) (harg6 : arg6.IsWhole) (arg7 : Memref sig .tc .vmem S2x1024x128 .f32) (harg7 : arg7.IsWhole) (arg8 : Memref sig .tc .vmem S2x1024x128 .f32) (harg8 : arg8.IsWhole) (arg9 : Memref sig .tc .vmem S2x4x1024x128 .fp8e4m3) (harg9 : arg9.IsWhole) (arg10 : Memref sig .tc .vmem S2x4x1024x128 .f32) (harg10 : arg10.IsWhole) (arg11 : Memref sig .tc .vmem S2x512x1024 .bf16) (harg11 : arg11.IsWhole) (arg12 : Memref sig .tc .vmem S1x1024x256 .bf16) (harg12 : arg12.IsWhole) (arg13 : Memref sig .tc .vmem S1x2x1024x128 .fp8e4m3) (harg13 : arg13.IsWhole) (arg14 : Memref sig .tc .vmem S2x2x1024 .f32) (harg14 : arg14.IsWhole)
    (x0 : Vec F S2x1024x3584 .fp8e4m3) (x1 : Vec F S3584x256 .fp8e4m3) (x2 : Vec F S1x256 .f32) (x3 : Vec F S1x256 .f32) (x4 : Vec F S2x1024x128 .f32) (x5 : Vec F S2x1024x128 .f32) (x6 : Vec F S2x1024x128 .f32) (x7 : Vec F S2x4x1024x128 .fp8e4m3) (x8 : Vec F S2x4x1024x128 .f32) (x9 : Vec F S2x512x1024 .bf16) (x12 : Vec F S2x2x1024 .f32) :
    Σ' (L10 : List (View.Piece (Elt F) S1x1024x256 .bf16)), Σ' (L11 : List (View.Piece (Elt F) S1x2x1024x128 .fp8e4m3)), { L12 : List (View.Piece (Elt F) S2x2x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare x12
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (arg14.view.loc (c : Thread nD τ) ↦[arg14.view.set]{fullShare} arg14.view.writes (Elt F) (harg14.unread x12) L12)) -∗ K ⟨⟩))
          ⊢ wp frame (wpE (defs₀ (F := F)) Variants.none c none) E (cc1_q_attn i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc1_q_attn_eq_skeleton]; unfold cc1_q_attn_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hf12
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    iexact H12

end Cert.Kernel.Hand
end
end
-- ==== Proof.KReg1.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.WordCmp
public import proofs.«01_k».proof.Proof.KRun1
public import proofs.«01_k».proof.Proof.Accum

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Hand
open Idealize.ShloMosaic.Pipeline (Dat Cfg Window BodyObligation BodyObligationRel cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's staging buffer holds its block at every point, fetched there or not, for any proof data whose array is `V`'s
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! Each window's staging memref at point `t`, and its wholeness. -/
abbrev ms1_0 (t : Fin cfg1.N) : Memref sig .tc .vmem S2x1024x3584 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3584x256 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2x1024x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2x1024x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2x1024x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2x4x1024x128 .fp8e4m3 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S2x4x1024x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S2x512x1024 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x1024x256 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x2x1024x128 .fp8e4m3 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S2x2x1024 .f32 := win1_12.stage (cfg1.slots t 12)
abbrev hs1_12 (t : Fin cfg1.N) : (ms1_12 t).IsWhole := hstage1_12 ((cfg1.slots t 12).cast nbuf1_12)

/-- The body's run at point `t`, on the point's memrefs and input blocks. -/
abbrev run1 (c : Dev nD) (t : Fin cfg1.N) (x12 : Vec F S2x2x1024 .f32) :=
  kernelRun1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t)
    (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) x12

/-! What the body writes into each output window at point `t`, as pieces, newest first. -/
def L1_10 (c : Dev nD) (t : Fin cfg1.N) : List (View.Piece (Elt F) S1x1024x256 .bf16) := (run1 V c t (View.canon [])).1
def L1_11 (c : Dev nD) (t : Fin cfg1.N) : List (View.Piece (Elt F) S1x2x1024x128 .fp8e4m3) := (run1 V c t (View.canon [])).2.1
def L1_12 (c : Dev nD) (t : Fin cfg1.N) : List (View.Piece (Elt F) S2x2x1024 .f32) := (run1 V c t (View.canon [])).2.2.1

/-! The pieces do not depend on what the windows held before. -/
theorem L1_10_eq (c : Dev nD) (t : Fin cfg1.N) (x12 : Vec F S2x2x1024 .f32) : (run1 V c t x12).1 = L1_10 V c t := rfl
theorem L1_11_eq (c : Dev nD) (t : Fin cfg1.N) (x12 : Vec F S2x2x1024 .f32) : (run1 V c t x12).2.1 = L1_11 V c t := rfl
theorem L1_12_eq (c : Dev nD) (t : Fin cfg1.N) (x12 : Vec F S2x2x1024 .f32) : (run1 V c t x12).2.2.1 = L1_12 V c t := rfl

/-! The pieces cover their window. -/
theorem cover1_10 (c : Dev nD) (t : Fin cfg1.N) (y : Shape.Idx S1x1024x256) : ∃ p ∈ L1_10 V c t, y ∈ p.1.set :=
  View.cover_of_tiledL (L1_10 V c t) S1x256x128.size (by sl_kernel_rfl) y
theorem cover1_11 (c : Dev nD) (t : Fin cfg1.N) (y : Shape.Idx S1x2x1024x128) : ∃ p ∈ L1_11 V c t, y ∈ p.1.set :=
  View.cover_of_tiledL (L1_11 V c t) S1x1x1024x128.size (by sl_kernel_rfl) y

/-- Where the body writes its row of scales. -/
theorem off1 : ∀ t : Fin cfg1.N, k1_off3 (grid1.coords t) = ![0, t.val % 2, 0] := by decide
theorem off1' : ∀ t : Fin cfg1.N, k1_off12 (grid1.coords t) = ![1, t.val % 2, 0] := by decide
theorem mem1 (c : Dev nD) (t : Fin cfg1.N) (y : Shape.Idx S2x2x1024) (h1 : (y 1).val = t.val % 2) :
    ∃ p ∈ L1_12 V c t, y ∈ p.1.set := by
  have h0 : (y 0).val < 2 := (y 0).isLt
  have h2 : (y 2).val < 1024 := (y 2).isLt
  by_cases hy : (y 0).val = 0
  · refine ⟨_, List.mem_cons_of_mem _ List.mem_cons_self, ?_⟩
    rw [Rect.mem_set_unit]
    rw [off1]
    intro a
    match a with
    | ⟨0, _⟩ => show 0 ≤ (y 0).val ∧ (y 0).val < 0 + 1; omega
    | ⟨1, _⟩ => show t.val % 2 ≤ (y 1).val ∧ (y 1).val < t.val % 2 + 1; omega
    | ⟨2, _⟩ => show 0 ≤ (y 2).val ∧ (y 2).val < 0 + 1024; omega
  · refine ⟨_, List.mem_cons_self, ?_⟩
    rw [Rect.mem_set_unit]
    rw [off1']
    intro a
    match a with
    | ⟨0, _⟩ => show 1 ≤ (y 0).val ∧ (y 0).val < 1 + 1; omega
    | ⟨1, _⟩ => show t.val % 2 ≤ (y 1).val ∧ (y 1).val < t.val % 2 + 1; omega
    | ⟨2, _⟩ => show 0 ≤ (y 2).val ∧ (y 2).val < 0 + 1024; omega
/-- The rows of scales of both batches cover the window when it is written back. -/
theorem coverAcc1 (c : Dev nD) (t : Fin cfg1.N) (ht : t.val % 2 = 1) (y : Shape.Idx S2x2x1024) :
    ∃ p ∈ accum cfg1.N 2 (L1_12 V c) t.val, y ∈ p.1.set := by
  have h1 : (y 1).val < 2 := (y 1).isLt
  have hlt : t.val < 28 := t.isLt
  rw [accum_next t (by omega)]
  by_cases h : (y 1).val = 1
  · obtain ⟨p, hp, hy⟩ := mem1 V c t y (by omega)
    exact ⟨p, List.mem_append_left _ hp, hy⟩
  · have ht' : t.val - 1 < cfg1.N := Nat.lt_of_le_of_lt (Nat.sub_le _ _) t.isLt
    obtain ⟨p, hp, hy⟩ := mem1 V c ⟨t.val - 1, ht'⟩ y (by dsimp only; omega)
    refine ⟨p, List.mem_append_right _ ?_, hy⟩
    exact (accum_start (P := 2) (L := L1_12 V c) ⟨t.val - 1, ht'⟩ (by dsimp only; omega)).symm ▸ hp

/-- The pieces window 12 has received since its block was last changed. -/
def acc1 (c : Dev nD) (n : ℕ) : List (View.Piece (Elt F) S2x2x1024 .f32) := accum cfg1.N 2 (L1_12 V c) n

/-- The proof data of pipeline 1 on core `c`: the arrays as the region finds them; after the body at point `t` each input's buffer at
    its block, each output's at what the pieces say. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => View.canon (L1_10 V c t)
    | ⟨11, _⟩ => View.canon (L1_11 V c t)
    | ⟨12, _⟩ => View.canon (acc1 V c t.val)
  Φ _ := Pipeline.ΦA spec1 c
  q _ := fullShare
  owed _ := 0

theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = View.canon (L1_10 V c t) := by dsimp only [dat1]
theorem after1_11 (c : Dev nD) (t : Fin cfg1.N) : (dat1 V c).after 11 t = View.canon (L1_11 V c t) := by dsimp only [dat1]
theorem after1_12 (c : Dev nD) (t : Fin cfg1.N) : (dat1 V c).after 12 t = View.canon (acc1 V c t.val) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-- The window that is filled over several points. -/
def fgt1 : Fin cfg1.W → Bool := fun w => match w with
  | ⟨12, _⟩ => true
  | _ => false

/-- What is known of that window after point `t`: it agrees with the pieces written so far. -/
def Rl1 (c : Dev nD) (w : Fin cfg1.W) (t : Fin cfg1.N) : ((cfg1.win w).block.Idx → Elt F (cfg1.win w).elt) → Prop := match w with
  | ⟨12, _⟩ => fun X => Agrees (acc1 V c t.val) X
  | _ => fun _ => True

/-- What the body finds in that window and the pieces it writes give what is known after the point. -/
theorem step1 (c : Dev nD) (t : Fin cfg1.N) (Y : Vec F S2x2x1024 .f32) (hY : ((dat1 V c).toRRel fgt1 (Rl1 V c)).Finds 12 t Y) :
    Agrees (acc1 V c t.val) ((ms1_12 t).view.read (Elt F) ((ms1_12 t).view.writes (Elt F) ((hs1_12 t).unread Y) (L1_12 V c t))) := by
  unfold acc1
  by_cases ht : t.val % 2 = 0
  · rw [accum_start t ht]; exact agrees_writes _ _ _
  · rw [accum_next t ht]
    refine Agrees.writes _ _ _ ?_ _
    rw [(hs1_12 t).read_unread]
    have h0 : t.val ≠ 0 := fun h => ht (by rw [h])
    rcases (((dat1 V c).toRRel fgt1 (Rl1 V c)).finds_of_pos (w := 12) (Pipeline.Window.fetch_out _ rfl t) h0 Y).mp hY with h | h
    · exact absurd ((flush1_12 _).mp h) (by dsimp only; omega)
    · exact (dat1 V c).toRRel_leaves (fgt := fgt1) (Rl := Rl1 V c) (w := 12) rfl h

/-- When the window is written back it holds what the pieces say. -/
theorem exact1 (c : Dev nD) (w : Fin cfg1.W) (u : Fin cfg1.N) (X : (cfg1.win w).block.Idx → Elt F (cfg1.win w).elt)
    (hw : fgt1 w = true) (hf : (cfg1.win w).flush u = true) (h : Rl1 V c w u X) : (dat1 V c).after w u = X := by
  have : w = 12 := (show ∀ w : Fin cfg1.W, fgt1 w = true → w = 12 by decide) w hw
  subst this
  exact (Agrees.eq_canon h (coverAcc1 V c u ((flush1_12 u).mp hf))).symm

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ Y, ⌜((dat1 V c).toRRel fgt1 (Rl1 V c)).Finds 12 t Y⌝ ∗ owns (c : Thread nD τ) (ms1_12 t) fullShare Y))

/-- and what it leaves. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ (∃ X, ⌜Rl1 V c 12 t X⌝ ∗ owns (c : Thread nD τ) (ms1_12 t) fullShare X))

/-- The body's triple at a generic point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%x12, %hx12, H12⟩⟩
  iapply ((run1 V c t x12).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexact H12
  iintro ⟨H0, H1, H2, H3, H4, H5, H6, H7, H8, H9, ⟨%e10, H10⟩, ⟨%e11, H11⟩, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_eq_canon _ _ _ (cover1_10 V c t)
  isplitl [H11]
  · unfold owns; iexists _; isplitr
    swap; · iexact H11
    ipureintro; exact View.read_writes_eq_canon _ _ _ (cover1_11 V c t)
  iexists _; isplitr
  · ipureintro; exact step1 V c t x12 hx12
  unfold owns; iexists _; isplitr
  swap; · iexact H12
  ipureintro; rfl

theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) :
    BodyObligationRel (dat1 (F := F) V c) (defs₀ (F := F)) Variants.none () Set.univ fgt1 (Rl1 V c) := fun t => by
  rw [bigSep_W1, bigSep_W1, defs₀_row1]
  exact triple_restated (sound_body1 V c t) rfl .rfl fun _ => .rfl

end Cert.Kernel.Hand
end
end
-- ==== Proof.KFrame.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.WordCmp
public import proofs.«01_k».proof.Proof.KReg0
public import proofs.«01_k».proof.Proof.KReg1
public import proofs.«01_k».proof.Proof.Accum

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Hand
open Idealize.ShloMosaic.Pipeline (Dat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_cst, main_v3, main_v4, main_cst_0, main_v5, main_v6, main_cst_1, main_v7, main_v8, main_cst_2, main_v9, main_v10, main_cst_3, main_v11, main_v12, main_v13, main_v14]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v17, main_v18, main_v19]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => m ((c : Dev nD), b)
theorem W0_args (c : Dev nD) : ∀ a ∈ argRefs, W0 m c (Proc.devRef .tc a) = m ((c : Thread nD τ).loc a) := fun _ _ => rfl
/-- After `hostOps0` (region 0's entry). -/
abbrev W1 : Dev nD → Valuation τ sig (Elt F) := fun c => StableHlo.after hostOps0 (W0 m c)
/-- A reference `hostOps0` does not write keeps its contents across it. -/
theorem W1_of (c : Dev nD) (r : Ref sig .tc) (h : r ∉ hostOps0_W) : W1 m c (Proc.devRef .tc r) = W0 m c (Proc.devRef .tc r) :=
  StableHlo.after_of_writes_sub hostOps0 _ hostOps0_writes h
theorem W1_args (c : Dev nD) : ∀ a ∈ argRefs, W1 m c (Proc.devRef .tc a) = m ((c : Thread nD τ).loc a) :=
  fun a ha => (W1_of m c a (hostOps0_args a ha)).trans (W0_args m c a ha)
/-- The same read at the TensorCore's references (what region 0's proof data take). -/
abbrev V1 : (c : Dev nD) → (b : Ref sig .tc) → Buf (Elt F) ((c : Thread nD τ).loc b) := fun c b => W1 m c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact (dat0 (V1 m) c).withArrays_arrAt launch₀0.sharedIn _ (A_eq0 (V1 m) c) w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (V1 m) c).arrAt_in w (h w rfl) _).trans (A_eq0 (V1 m) c w))
  · exact W2_of_ne m c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m c (Proc.devRef .tc a) = m ((c : Thread nD τ).loc a) :=
  fun a ha => (W2_of m c a (argsIn0 a ha)).trans (W1_args m c a ha)
/-- The same read at the TensorCore's references (region 0's exit contents). -/
abbrev V2 : (c : Dev nD) → (b : Ref sig .tc) → Buf (Elt F) ((c : Thread nD τ).loc b) := fun c b => W2 m c b
/-- At region 0's exit each of its arrays holds what the pipeline leaves (`hF0`) and every other buffer what it
    held at entry (`hrest0`): the two hypotheses of Lib/Pipeline/RegionsLoop.lean `unscopedBufs_of_arrays_shared`. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m c (Proc.devRef .tc r) = W2 m c (Proc.devRef .tc r) := by
  by_cases hw : ∃ w : Fin cfg1.W, Pipeline.arrRef spec1 w = r
  · obtain ⟨w, rfl⟩ := hw
    exact (W3_arr m c w).trans (((dat1 (V2 m) c).arrAt_in w (h w rfl) _).trans (A_eq1 (V2 m) c w))
  · exact W3_of_ne m c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m c (Proc.devRef .tc a) = m ((c : Thread nD τ).loc a) :=
  fun a ha => (W3_of m c a (argsIn1 a ha)).trans (W2_args m c a ha)
/-- The same read at the TensorCore's references (region 1's exit contents). -/
abbrev V3 : (c : Dev nD) → (b : Ref sig .tc) → Buf (Elt F) ((c : Thread nD τ).loc b) := fun c b => W3 m c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After `hostOps2`. -/
abbrev W4 : Dev nD → Valuation τ sig (Elt F) := fun c => StableHlo.after hostOps2 (W3 m c)
/-- A reference `hostOps2` does not write keeps its contents across it. -/
theorem W4_of (c : Dev nD) (r : Ref sig .tc) (h : r ∉ hostOps2_W) : W4 m c (Proc.devRef .tc r) = W3 m c (Proc.devRef .tc r) :=
  StableHlo.after_of_writes_sub hostOps2 _ hostOps2_writes h
theorem W4_args (c : Dev nD) : ∀ a ∈ argRefs, W4 m c (Proc.devRef .tc a) = m ((c : Thread nD τ).loc a) :=
  fun a ha => (W4_of m c a (hostOps2_args a ha)).trans (W3_args m c a ha)

/-! ### The arguments end as launched: no host stretch writes one and no region may change one (a region reads it
    through an input window or bypasses it) -/

theorem W4_main_arg0 (c : Dev nD) : W4 m c (Proc.devRef .tc main_arg0) = m ((c : Thread nD τ).loc main_arg0) :=
  W4_args m c main_arg0 (by decide)
theorem W4_main_arg1 (c : Dev nD) : W4 m c (Proc.devRef .tc main_arg1) = m ((c : Thread nD τ).loc main_arg1) :=
  W4_args m c main_arg1 (by decide)
theorem W4_main_arg2 (c : Dev nD) : W4 m c (Proc.devRef .tc main_arg2) = m ((c : Thread nD τ).loc main_arg2) :=
  W4_args m c main_arg2 (by decide)
theorem W4_main_arg3 (c : Dev nD) : W4 m c (Proc.devRef .tc main_arg3) = m ((c : Thread nD τ).loc main_arg3) :=
  W4_args m c main_arg3 (by decide)
theorem W4_main_arg4 (c : Dev nD) : W4 m c (Proc.devRef .tc main_arg4) = m ((c : Thread nD τ).loc main_arg4) :=
  W4_args m c main_arg4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
/-- The same data, the window that gathers its block over several points described by what the pieces stored so far fix. -/
def rdats : (p : Fin 2) → (c : Dev nD) → Pipeline.RDat τ (Elt F) Unit ℕ (UR sig nD τ) ℕ (Pipeline.pin (pcfgs (F := F)) adm p) c
  | ⟨0, _⟩ => fun c => (dat0 (V1 m) c).toRRel fgt0 (Rl0 (V1 m) c)
  | ⟨1, _⟩ => fun c => (dat1 (V2 m) c).toRRel fgt1 (Rl1 (V2 m) c)
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs_shared`) and put back at the exit contents (`unscopedBufs_of_arrays_shared`; its input windows on one array (`launch₀0.sharedIn`) each dealt their share of it, `Pipeline.shareOf`, by the proof data); the generator register into the
    class invariant `ΦA` and out; nothing owed; no semaphore of the kernel's own. -/
def reg0 : Pipeline.RDat.RegionSeg (pcfgs (F := F)) adm (rdats m) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V1 m) c).toRRel
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs_shared (p := 0) (pcfgs (F := F)) adm (pdats m) launch₀0.win launch₀0.sharedIn launch₀0.arr_whole c
      (fun _ _ => rfl) (V1 m c) (A_eq0 (V1 m) c)
    rw [Pipeline.unscopedBufs_held] at hsplit
    iintro ⟨⟨Hub, Hp, HO⟩, -, -⟩
    ihave H := hsplit $$ Hub
    icases H with ⟨Ha, Hrest⟩
    imodintro
    isplitl [Ha]
    · iapply (show (pdats m 0 c).arrays (fun x => (pdats m 0 c).arrAt x 0) ⊢ (rdats m 0 c).arrays (rdats m 0 c).A from .rfl)
      iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m) (fun _ _ => rfl)
      (V1 m c) (V2 m c) ((pdats m 0 c).arrAt · cfg0.N) (hF0 m c) (hrest0 m c)
    rw [Pipeline.unscopedBufs_held] at hjoin
    iintro ⟨Ha, HO, HY, Hrest⟩
    ihave Ha := (show (rdats m 0 c).arraysAt (Pipeline.pin (pcfgs (F := F)) adm 0).N ⊢ (pdats m 0 c).arrays ((pdats m 0 c).arrAt · cfg0.N) from
      arraysAt_of_exact_at_flush (dat0 (V1 m) c) (exact0 (V1 m) c) cfg0.N) $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).toRRel
  hwaits := Pipeline.RDat.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) (A_eq1 (V2 m) c)
    rw [Pipeline.unscopedBufs_held] at hsplit
    iintro ⟨⟨Hub, Hp, HO⟩, -, -⟩
    ihave H := hsplit $$ Hub
    icases H with ⟨Ha, Hrest⟩
    imodintro
    isplitl [Ha]
    · iapply (show (pdats m 1 c).arrays (fun x => (pdats m 1 c).arrAt x 0) ⊢ (rdats m 1 c).arrays (rdats m 1 c).A from .rfl)
      iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    ihave Ha := (show (rdats m 1 c).arraysAt (Pipeline.pin (pcfgs (F := F)) adm 1).N ⊢ (pdats m 1 c).arrays ((pdats m 1 c).arrAt · cfg1.N) from
      arraysAt_of_exact_at_flush (dat1 (V2 m) c) (exact1 (V2 m) c) cfg1.N) $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.RDat.Seg (pcfgs (F := F)) adm (rdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
/-- @main IS the run of the segments: `Gen.main_chain`, then the segments' run against that chain by the kernel's
    definitional check (`chain_rfl`). -/
theorem main_run (c : Dev nD) : main (F := F) c = Pipeline.RDat.Seg.run (segs m) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main terminates, nothing faulting, and
    ends with every unscoped buffer at the last boundary's contents `W4` and every semaphore counter at zero. -/
theorem run_W4 : θ_run defs (onTc (τ := τ) (main (F := F))) ⟨m, fun _ => 0, ρ⟩ (fun r => (∀ c : Dev nD,
      ∀ b ∈ Pipeline.ucRefs τ sig, r.2.mem (((c : Thread nD τ)).1, b) = W4 m c b) ∧ r.2.sem = fun _ => 0) :=
  Pipeline.RDat.θ_run_regions_kit_sems (pcfgs (F := F)) adm (rdats m) () cellOf_inj emb₁ defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      dsimp only [Pipeline.RDat.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h hz => ⟨h, funext fun g => hz g (.inr (no_unscoped g.2))⟩)

/-- THE FRAME: the argument arrays end as launched, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨(h.1 c _ (mem_uc main_arg0 (by decide))).trans (W4_main_arg0 m c),
       (h.1 c _ (mem_uc main_arg1 (by decide))).trans (W4_main_arg1 m c),
       (h.1 c _ (mem_uc main_arg2 (by decide))).trans (W4_main_arg2 m c),
       (h.1 c _ (mem_uc main_arg3 (by decide))).trans (W4_main_arg3 m c),
       (h.1 c _ (mem_uc main_arg4 (by decide))).trans (W4_main_arg4 m c)⟩, h.2⟩) (run_W4 m ρ)

end Cert.Kernel.Hand

end
-- ==== Proof.KIRun0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F] [Named F]

local notation "𝕄" => MT nD τ sig Unit (Elt F) ℕ (UR sig nD τ) ℕ

-- the definition's epilogue walks the run's large proof term past the default budget
set_option maxHeartbeats 1000000 in
noncomputable def kernelRun0 (c : Dev nD) (i : grid0.Coords) (arg2 : Memref sig .tc .vmem S3x2x1024 .i32) (harg2 : arg2.IsWhole) (arg3 : Memref sig .tc .vmem S64x128 .f32) (harg3 : arg3.IsWhole) (arg4 : Memref sig .tc .vmem S1x512x3584 .bf16) (harg4 : arg4.IsWhole) (arg5 : Memref sig .tc .vmem S3584x512 .fp8e4m3) (harg5 : arg5.IsWhole) (arg6 : Memref sig .tc .vmem S3584x512 .fp8e4m3) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512x3584 .fp8e4m3) (harg11 : arg11.IsWhole) (arg12 : Memref sig .tc .vmem S2x1024 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S1x512x4x128 .fp8e4m3) (harg16 : arg16.IsWhole) (arg17 : Memref sig .tc .vmem S1x4x512x128 .fp8e4m3) (harg17 : arg17.IsWhole) (arg18 : Memref sig .tc .vmem S1x4x512 .f32) (harg18 : arg18.IsWhole) (arg19 : Memref sig .tc .vmem S1x4x512x128 .f32) (harg19 : arg19.IsWhole) (arg20 : Memref sig .tc .vmem S1x512x512 .bf16) (harg20 : arg20.IsWhole)
    (x0 : Vec F S3x2x1024 .i32) (x1 : Vec F S64x128 .f32) (x2 : Vec F S1x512x3584 .bf16) (x3 : Vec F S3584x512 .fp8e4m3) (x4 : Vec F S3584x512 .fp8e4m3) (x5 : Vec F S1x512 .f32) (x6 : Vec F S1x512 .f32) (x7 : Vec F S1x512 .f32) (x8 : Vec F S1x512 .f32) (x10 : Vec F S2x1024 .f32) (x14 : Vec F S1x512x4x128 .fp8e4m3) :
    Σ' (L9 : List (View.Piece (Elt F) S1x512x3584 .fp8e4m3)), Σ' (L10 : List (View.Piece (Elt F) S2x1024 .f32)), Σ' (L11 : List (View.Piece (Elt F) S1x512x128 .f32)), Σ' (L12 : List (View.Piece (Elt F) S1x512x128 .f32)), Σ' (L13 : List (View.Piece (Elt F) S1x512x128 .f32)), Σ' (L14 : List (View.Piece (Elt F) S1x512x4x128 .fp8e4m3)), Σ' (L15 : List (View.Piece (Elt F) S1x4x512x128 .fp8e4m3)), Σ' (L16 : List (View.Piece (Elt F) S1x4x512 .f32)), Σ' (L17 : List (View.Piece (Elt F) S1x4x512x128 .f32)), { L18 : List (View.Piece (Elt F) S1x512x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (arg12.view.loc (c : Thread nD τ) ↦[arg12.view.set]{fullShare} arg12.view.writes (Elt F) (harg12.unread x10) L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18)) -∗ K ⟨⟩))
          ⊢ wp frame (wpE (defs₀ (F := F)) Variants.none c none) E (cc0_kv_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, ?_, ?_, ?_, ?_, fun E K => ?run⟩
  case run =>
    simp only [cc0_kv_proj_eq_skeleton]; unfold cc0_kv_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%d13, %f13, -, H13⟩, ⟨%f14, %hf14, H14⟩, ⟨%d15, %f15, -, H15⟩, ⟨%d16, %f16, -, H16⟩, ⟨%d17, %f17, -, H17⟩, ⟨%d18, %f18, -, H18⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hf10; obtain rfl := harg16.eq_unread hf14
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexact H10
    isplitl [H11]; · iexists _; iexact H11
    isplitl [H12]; · iexists _; iexact H12
    isplitl [H13]; · iexists _; iexact H13
    isplitl [H14]; · iexists (harg16.unread x14); iexact H14
    isplitl [H15]; · iexists _; iexact H15
    isplitl [H16]; · iexists _; iexact H16
    isplitl [H17]; · iexists _; iexact H17
    iexists _; iexact H18

end Cert.KernelIdeal.Hand
end
end
-- ==== Proof.KIReg0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.WordCmp
public import proofs.«01_k».proof.Proof.KIRun0
public import proofs.«01_k».proof.Proof.Accum

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Hand
open Idealize.ShloMosaic.Pipeline (Dat Cfg Window BodyObligation BodyObligationRel cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's staging buffer holds its block at every point, fetched there or not, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! Each window's staging memref at point `t`, and its wholeness. -/
abbrev ms0_0 (t : Fin cfg0.N) : Memref sig .tc .vmem S3x2x1024 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x3584 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3584x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3584x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x3584 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x512x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x512x4x128 .fp8e4m3 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x4x512x128 .fp8e4m3 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x4x512 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x4x512x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x512x512 .bf16 := win0_18.stage (cfg0.slots t 18)
abbrev hs0_18 (t : Fin cfg0.N) : (ms0_18 t).IsWhole := hstage0_18 ((cfg0.slots t 18).cast nbuf0_18)

/-- The body's run at point `t`, on the point's memrefs and input blocks. -/
abbrev run0 (c : Dev nD) (t : Fin cfg0.N) (x10 : Vec F S2x1024 .f32) (x14 : Vec F S1x512x4x128 .fp8e4m3) :=
  kernelRun0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t)
    (iblk0 V c 0 t) (iblk0 V c 1 t) (iblk0 V c 2 t) (iblk0 V c 3 t) (iblk0 V c 4 t) (iblk0 V c 5 t) (iblk0 V c 6 t) (iblk0 V c 7 t) (iblk0 V c 8 t) x10 x14

/-! What the body writes into each output window at point `t`, as pieces, newest first. -/
def L0_9 (c : Dev nD) (t : Fin cfg0.N) : List (View.Piece (Elt F) S1x512x3584 .fp8e4m3) := (run0 V c t (View.canon []) (View.canon [])).1
def L0_10 (c : Dev nD) (t : Fin cfg0.N) : List (View.Piece (Elt F) S2x1024 .f32) := (run0 V c t (View.canon []) (View.canon [])).2.1
def L0_11 (c : Dev nD) (t : Fin cfg0.N) : List (View.Piece (Elt F) S1x512x128 .f32) := (run0 V c t (View.canon []) (View.canon [])).2.2.1
def L0_12 (c : Dev nD) (t : Fin cfg0.N) : List (View.Piece (Elt F) S1x512x128 .f32) := (run0 V c t (View.canon []) (View.canon [])).2.2.2.1
def L0_13 (c : Dev nD) (t : Fin cfg0.N) : List (View.Piece (Elt F) S1x512x128 .f32) := (run0 V c t (View.canon []) (View.canon [])).2.2.2.2.1
def L0_14 (c : Dev nD) (t : Fin cfg0.N) : List (View.Piece (Elt F) S1x512x4x128 .fp8e4m3) := (run0 V c t (View.canon []) (View.canon [])).2.2.2.2.2.1
def L0_15 (c : Dev nD) (t : Fin cfg0.N) : List (View.Piece (Elt F) S1x4x512x128 .fp8e4m3) := (run0 V c t (View.canon []) (View.canon [])).2.2.2.2.2.2.1
def L0_16 (c : Dev nD) (t : Fin cfg0.N) : List (View.Piece (Elt F) S1x4x512 .f32) := (run0 V c t (View.canon []) (View.canon [])).2.2.2.2.2.2.2.1
def L0_17 (c : Dev nD) (t : Fin cfg0.N) : List (View.Piece (Elt F) S1x4x512x128 .f32) := (run0 V c t (View.canon []) (View.canon [])).2.2.2.2.2.2.2.2.1
def L0_18 (c : Dev nD) (t : Fin cfg0.N) : List (View.Piece (Elt F) S1x512x512 .bf16) := (run0 V c t (View.canon []) (View.canon [])).2.2.2.2.2.2.2.2.2.1

/-! The pieces do not depend on what the windows held before. -/
theorem L0_9_eq (c : Dev nD) (t : Fin cfg0.N) (x10 : Vec F S2x1024 .f32) (x14 : Vec F S1x512x4x128 .fp8e4m3) : (run0 V c t x10 x14).1 = L0_9 V c t := rfl
theorem L0_10_eq (c : Dev nD) (t : Fin cfg0.N) (x10 : Vec F S2x1024 .f32) (x14 : Vec F S1x512x4x128 .fp8e4m3) : (run0 V c t x10 x14).2.1 = L0_10 V c t := rfl
theorem L0_11_eq (c : Dev nD) (t : Fin cfg0.N) (x10 : Vec F S2x1024 .f32) (x14 : Vec F S1x512x4x128 .fp8e4m3) : (run0 V c t x10 x14).2.2.1 = L0_11 V c t := rfl
theorem L0_12_eq (c : Dev nD) (t : Fin cfg0.N) (x10 : Vec F S2x1024 .f32) (x14 : Vec F S1x512x4x128 .fp8e4m3) : (run0 V c t x10 x14).2.2.2.1 = L0_12 V c t := rfl
theorem L0_13_eq (c : Dev nD) (t : Fin cfg0.N) (x10 : Vec F S2x1024 .f32) (x14 : Vec F S1x512x4x128 .fp8e4m3) : (run0 V c t x10 x14).2.2.2.2.1 = L0_13 V c t := rfl
theorem L0_15_eq (c : Dev nD) (t : Fin cfg0.N) (x10 : Vec F S2x1024 .f32) (x14 : Vec F S1x512x4x128 .fp8e4m3) : (run0 V c t x10 x14).2.2.2.2.2.2.1 = L0_15 V c t := rfl
theorem L0_16_eq (c : Dev nD) (t : Fin cfg0.N) (x10 : Vec F S2x1024 .f32) (x14 : Vec F S1x512x4x128 .fp8e4m3) : (run0 V c t x10 x14).2.2.2.2.2.2.2.1 = L0_16 V c t := rfl
theorem L0_17_eq (c : Dev nD) (t : Fin cfg0.N) (x10 : Vec F S2x1024 .f32) (x14 : Vec F S1x512x4x128 .fp8e4m3) : (run0 V c t x10 x14).2.2.2.2.2.2.2.2.1 = L0_17 V c t := rfl
theorem L0_18_eq (c : Dev nD) (t : Fin cfg0.N) (x10 : Vec F S2x1024 .f32) (x14 : Vec F S1x512x4x128 .fp8e4m3) : (run0 V c t x10 x14).2.2.2.2.2.2.2.2.2.1 = L0_18 V c t := rfl

/-! The pieces cover their window. -/
theorem cover0_9 (c : Dev nD) (t : Fin cfg0.N) (y : Shape.Idx S1x512x3584) : ∃ p ∈ L0_9 V c t, y ∈ p.1.set :=
  View.cover_of_tiledL (L0_9 V c t) S1x512x3584.size (by sl_kernel_rfl) y
theorem cover0_11 (c : Dev nD) (t : Fin cfg0.N) (y : Shape.Idx S1x512x128) : ∃ p ∈ L0_11 V c t, y ∈ p.1.set :=
  View.cover_of_tiledL (L0_11 V c t) S1x512x128.size (by sl_kernel_rfl) y
theorem cover0_12 (c : Dev nD) (t : Fin cfg0.N) (y : Shape.Idx S1x512x128) : ∃ p ∈ L0_12 V c t, y ∈ p.1.set :=
  View.cover_of_tiledL (L0_12 V c t) S1x512x128.size (by sl_kernel_rfl) y
theorem cover0_13 (c : Dev nD) (t : Fin cfg0.N) (y : Shape.Idx S1x512x128) : ∃ p ∈ L0_13 V c t, y ∈ p.1.set :=
  View.cover_of_tiledL (L0_13 V c t) S1x512x128.size (by sl_kernel_rfl) y
theorem cover0_14 (c : Dev nD) (t : Fin cfg0.N) (y : Shape.Idx S1x512x4x128) : ∃ p ∈ L0_14 V c t, y ∈ p.1.set :=
  View.cover_of_tiledL (L0_14 V c t) S1x512x4x128.size (by sl_kernel_rfl) y
theorem cover0_15 (c : Dev nD) (t : Fin cfg0.N) (y : Shape.Idx S1x4x512x128) : ∃ p ∈ L0_15 V c t, y ∈ p.1.set :=
  View.cover_of_tiledL (L0_15 V c t) S1x1x512x128.size (by sl_kernel_rfl) y
theorem cover0_16 (c : Dev nD) (t : Fin cfg0.N) (y : Shape.Idx S1x4x512) : ∃ p ∈ L0_16 V c t, y ∈ p.1.set :=
  View.cover_of_tiledL (L0_16 V c t) S1x1x512.size (by sl_kernel_rfl) y
theorem cover0_17 (c : Dev nD) (t : Fin cfg0.N) (y : Shape.Idx S1x4x512x128) : ∃ p ∈ L0_17 V c t, y ∈ p.1.set :=
  View.cover_of_tiledL (L0_17 V c t) S1x1x512x128.size (by sl_kernel_rfl) y
theorem cover0_18 (c : Dev nD) (t : Fin cfg0.N) (y : Shape.Idx S1x512x512) : ∃ p ∈ L0_18 V c t, y ∈ p.1.set :=
  View.cover_of_tiledL (L0_18 V c t) S1x512x512.size (by sl_kernel_rfl) y

theorem updateSlice_slab {e : EltTy} (x : Vec F S1x512x4x128 e) (w : Vec F S1x512x1x128 e) (h : ℕ)
    (hs : S1x512x4x128.Slices ![0, 0, h, 0] S1x512x1x128) (y : Shape.Idx S1x512x4x128) :
    updateSlice x w ![0, 0, h, 0] hs y = if (y 2).val = h then w (fun a => match a with
    | ⟨0, _⟩ => y 0
    | ⟨1, _⟩ => y 1
    | ⟨2, _⟩ => ⟨0, Nat.one_pos⟩
    | ⟨3, _⟩ => y 3) else x y := by
  have h0 : (y 0).val < 1 := (y 0).isLt
  have h1 : (y 1).val < 512 := (y 1).isLt
  have h3 : (y 3).val < 128 := (y 3).isLt
  unfold updateSlice
  by_cases hy : (y 2).val = h
  · rw [if_pos hy, dif_pos]
    · congr 1; funext a
      match a with
      | ⟨0, _⟩ => exact Fin.ext (show (y 0).val - 0 = (y 0).val by omega)
      | ⟨1, _⟩ => exact Fin.ext (show (y 1).val - 0 = (y 1).val by omega)
      | ⟨2, _⟩ => exact Fin.ext (show (y 2).val - h = 0 by omega)
      | ⟨3, _⟩ => exact Fin.ext (show (y 3).val - 0 = (y 3).val by omega)
    · intro a
      match a with
      | ⟨0, _⟩ => show 0 ≤ (y 0).val ∧ (y 0).val < 0 + 1; omega
      | ⟨1, _⟩ => show 0 ≤ (y 1).val ∧ (y 1).val < 0 + 512; omega
      | ⟨2, _⟩ => show h ≤ (y 2).val ∧ (y 2).val < h + 1; omega
      | ⟨3, _⟩ => show 0 ≤ (y 3).val ∧ (y 3).val < 0 + 128; omega
  · rw [if_neg hy, dif_neg]
    intro hc
    have h2 : h ≤ (y 2).val ∧ (y 2).val < h + 1 := hc 2
    omega

/-- Two contents that agree on the first `k` positions of axis 2. -/
def SameTo (k : ℕ) {e : EltTy} (z z' : Vec F S1x512x4x128 e) : Prop := ∀ y : Shape.Idx S1x512x4x128, (y 2).val < k → z y = z' y

/-- Putting the same slab at position `k` into contents that agree below `k` gives contents that agree below `k + 1`. -/
theorem SameTo.step {k : ℕ} {e : EltTy} {z z' : Vec F S1x512x4x128 e} (h : SameTo k z z') (w : Vec F S1x512x1x128 e)
    (hs : S1x512x4x128.Slices ![0, 0, k, 0] S1x512x1x128) :
    SameTo (k + 1) (updateSlice z w ![0, 0, k, 0] hs) (updateSlice z' w ![0, 0, k, 0] hs) := by
  intro y hy
  rw [updateSlice_slab, updateSlice_slab]
  by_cases hk : (y 2).val = k
  · rw [if_pos hk, if_pos hk]
  · rw [if_neg hk, if_neg hk]; exact h y (by omega)

/-- The same, read back from the buffer. -/
theorem SameTo.stepCov {k : ℕ} {e : EltTy} {z z' : Vec F S1x512x4x128 e} (h : SameTo k z z') (w : Vec F S1x512x1x128 e)
    (hs : S1x512x4x128.Slices ![0, 0, k, 0] S1x512x1x128) {sp : Space} (v : View sig .tc sp S1x512x4x128 e)
    {off off' : Fin 4 → ℕ} (inb : ∀ a, off a + S1x512x4x128.size a ≤ S1x512x4x128.size a)
    (inb' : ∀ a, off' a + S1x512x4x128.size a ≤ S1x512x4x128.size a) (L L' : List (View.Piece (Elt F) S1x512x4x128 e)) :
    SameTo (k + 1)
      (v.readCov ((⟨Rect.unit off S1x512x4x128.size inb, updateSlice z w ![0, 0, k, 0] hs⟩ : View.Piece (Elt F) S1x512x4x128 e) :: L)
        (Rect.unit off' S1x512x4x128.size inb').toLoadRect)
      (v.readCov ((⟨Rect.unit off S1x512x4x128.size inb, updateSlice z' w ![0, 0, k, 0] hs⟩ : View.Piece (Elt F) S1x512x4x128 e) :: L')
        (Rect.unit off' S1x512x4x128.size inb').toLoadRect) := by
  rw [readCov_full, readCov_full, canon_full, canon_full]
  exact h.step w hs

theorem cover0_14_of (c : Dev nD) (t : Fin cfg0.N) (x10 : Vec F S2x1024 .f32) (x14 : Vec F S1x512x4x128 .fp8e4m3) (y : Shape.Idx S1x512x4x128) :
    ∃ p ∈ (run0 V c t x10 x14).2.2.2.2.2.1, y ∈ p.1.set :=
  View.cover_of_tiledL (run0 V c t x10 x14).2.2.2.2.2.1 S1x512x4x128.size (by sl_kernel_rfl) y

/-- What the body leaves in the window of key codes does not depend on what it found there: all four slabs are replaced. -/
theorem canon0_14 (c : Dev nD) (t : Fin cfg0.N) (x10 : Vec F S2x1024 .f32) (x14 : Vec F S1x512x4x128 .fp8e4m3) :
    View.canon (run0 V c t x10 x14).2.2.2.2.2.1 = View.canon (L0_14 V c t) := by
  refine (canon_full _ _ _).trans (Eq.trans ?_ (canon_full _ _ _).symm)
  have h4 : ∀ z z' : Vec F S1x512x4x128 .fp8e4m3, SameTo 4 z z' → z = z' := fun z z' h => funext fun y => h y (y 2).isLt
  refine h4 _ _ (SameTo.step (k := 3) ?_ _ _)
  refine SameTo.stepCov (k := 2) ?_ _ _ _ _ _ _ _
  refine SameTo.stepCov (k := 1) ?_ _ _ _ _ _ _ _
  refine SameTo.stepCov (k := 0) ?_ _ _ _ _ _ _ _
  exact fun y hy => absurd hy (Nat.not_lt_zero _)

/-- Where the body writes its row of scales. -/
theorem off0 : ∀ t : Fin cfg0.N, k0_off1 (grid0.coords t) = ![t.val / 2, 512 * (t.val % 2)] := by decide
theorem mem0 (c : Dev nD) (t : Fin cfg0.N) (y : Shape.Idx S2x1024) (h0 : (y 0).val = t.val / 2) (h1 : (y 1).val / 512 = t.val % 2) :
    ∃ p ∈ L0_10 V c t, y ∈ p.1.set := by
  refine ⟨_, List.mem_cons_self, ?_⟩
  rw [Rect.mem_set_unit]
  rw [off0]
  intro a
  match a with
  | ⟨0, _⟩ => show t.val / 2 ≤ (y 0).val ∧ (y 0).val < t.val / 2 + 1; omega
  | ⟨1, _⟩ => show 512 * (t.val % 2) ≤ (y 1).val ∧ (y 1).val < 512 * (t.val % 2) + 512; omega
/-- The four rows of scales cover the window when it is written back. -/
theorem coverAcc0 (c : Dev nD) (t : Fin cfg0.N) (ht : t.val % 4 = 3) (y : Shape.Idx S2x1024) :
    ∃ p ∈ accum cfg0.N 4 (L0_10 V c) t.val, y ∈ p.1.set := by
  have h0 : (y 0).val < 2 := (y 0).isLt
  have h1 : (y 1).val < 1024 := (y 1).isLt
  have hlt : t.val < 4 := t.isLt
  have hacc : ∀ u v : Fin cfg0.N, u.val ≤ v.val → (∃ p ∈ L0_10 V c u, y ∈ p.1.set) → ∃ p ∈ accum cfg0.N 4 (L0_10 V c) v.val, y ∈ p.1.set :=
    fun u v huv ⟨p, hp, hy⟩ => ⟨p, mem_accum (by decide) u v huv hp, hy⟩
  refine hacc ⟨2 * (y 0).val + (y 1).val / 512, by show _ < 4; omega⟩ t (by dsimp only; omega) (mem0 V c _ y (by dsimp only; omega) (by dsimp only; omega))

/-- The pieces window 10 has received since its block was last changed. -/
def acc0 (c : Dev nD) (n : ℕ) : List (View.Piece (Elt F) S2x1024 .f32) := accum cfg0.N 4 (L0_10 V c) n

/-- The proof data of pipeline 0 on core `c`: the arrays as the region finds them; after the body at point `t` each input's buffer at
    its block, each output's at what the pieces say. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => View.canon (L0_9 V c t)
    | ⟨10, _⟩ => View.canon (acc0 V c t.val)
    | ⟨11, _⟩ => View.canon (L0_11 V c t)
    | ⟨12, _⟩ => View.canon (L0_12 V c t)
    | ⟨13, _⟩ => View.canon (L0_13 V c t)
    | ⟨14, _⟩ => View.canon (L0_14 V c t)
    | ⟨15, _⟩ => View.canon (L0_15 V c t)
    | ⟨16, _⟩ => View.canon (L0_16 V c t)
    | ⟨17, _⟩ => View.canon (L0_17 V c t)
    | ⟨18, _⟩ => View.canon (L0_18 V c t)
    | ⟨_ + 19, h⟩ => absurd h (Nat.not_lt.2 (Nat.le_add_left _ _))
  Φ _ := Pipeline.ΦA spec0 c
  q w := Pipeline.shareOf spec0 w
  owed _ := 0

theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = View.canon (L0_9 V c t) := by dsimp only [dat0]
theorem after0_10 (c : Dev nD) (t : Fin cfg0.N) : (dat0 V c).after 10 t = View.canon (acc0 V c t.val) := by dsimp only [dat0]
theorem after0_11 (c : Dev nD) (t : Fin cfg0.N) : (dat0 V c).after 11 t = View.canon (L0_11 V c t) := by dsimp only [dat0]
theorem after0_12 (c : Dev nD) (t : Fin cfg0.N) : (dat0 V c).after 12 t = View.canon (L0_12 V c t) := by dsimp only [dat0]
theorem after0_13 (c : Dev nD) (t : Fin cfg0.N) : (dat0 V c).after 13 t = View.canon (L0_13 V c t) := by dsimp only [dat0]
theorem after0_14 (c : Dev nD) (t : Fin cfg0.N) : (dat0 V c).after 14 t = View.canon (L0_14 V c t) := by dsimp only [dat0]
theorem after0_15 (c : Dev nD) (t : Fin cfg0.N) : (dat0 V c).after 15 t = View.canon (L0_15 V c t) := by dsimp only [dat0]
theorem after0_16 (c : Dev nD) (t : Fin cfg0.N) : (dat0 V c).after 16 t = View.canon (L0_16 V c t) := by dsimp only [dat0]
theorem after0_17 (c : Dev nD) (t : Fin cfg0.N) : (dat0 V c).after 17 t = View.canon (L0_17 V c t) := by dsimp only [dat0]
theorem after0_18 (c : Dev nD) (t : Fin cfg0.N) : (dat0 V c).after 18 t = View.canon (L0_18 V c t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-- The window that is filled over several points. -/
def fgt0 : Fin cfg0.W → Bool := fun w => match w with
  | ⟨10, _⟩ => true
  | _ => false

/-- What is known of that window after point `t`: it agrees with the pieces written so far. -/
def Rl0 (c : Dev nD) (w : Fin cfg0.W) (t : Fin cfg0.N) : ((cfg0.win w).block.Idx → Elt F (cfg0.win w).elt) → Prop := match w with
  | ⟨10, _⟩ => fun X => Agrees (acc0 V c t.val) X
  | _ => fun _ => True

/-- What the body finds in that window and the pieces it writes give what is known after the point. -/
theorem step0 (c : Dev nD) (t : Fin cfg0.N) (Y : Vec F S2x1024 .f32) (hY : ((dat0 V c).toRRel fgt0 (Rl0 V c)).Finds 10 t Y) :
    Agrees (acc0 V c t.val) ((ms0_10 t).view.read (Elt F) ((ms0_10 t).view.writes (Elt F) ((hs0_10 t).unread Y) (L0_10 V c t))) := by
  unfold acc0
  by_cases ht : t.val % 4 = 0
  · rw [accum_start t ht]; exact agrees_writes _ _ _
  · rw [accum_next t ht]
    refine Agrees.writes _ _ _ ?_ _
    rw [(hs0_10 t).read_unread]
    have h0 : t.val ≠ 0 := fun h => ht (by rw [h])
    rcases (((dat0 V c).toRRel fgt0 (Rl0 V c)).finds_of_pos (w := 10) (Pipeline.Window.fetch_out _ rfl t) h0 Y).mp hY with h | h
    · exact absurd ((flush0_10 _).mp h) (by dsimp only; omega)
    · exact (dat0 V c).toRRel_leaves (fgt := fgt0) (Rl := Rl0 V c) (w := 10) rfl h

/-- When the window is written back it holds what the pieces say. -/
theorem exact0 (c : Dev nD) (w : Fin cfg0.W) (u : Fin cfg0.N) (X : (cfg0.win w).block.Idx → Elt F (cfg0.win w).elt)
    (hw : fgt0 w = true) (hf : (cfg0.win w).flush u = true) (h : Rl0 V c w u X) : (dat0 V c).after w u = X := by
  have : w = 10 := (show ∀ w : Fin cfg0.W, fgt0 w = true → w = 10 by decide) w hw
  subst this
  exact (Agrees.eq_canon h (coverAcc0 V c u ((flush0_10 u).mp hf))).symm

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ Y, ⌜((dat0 V c).toRRel fgt0 (Rl0 V c)).Finds 10 t Y⌝ ∗ owns (c : Thread nD τ) (ms0_10 t) fullShare Y)
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d))
    ∗ (∃ d, owns (c : Thread nD τ) (ms0_15 t) fullShare ((dat0 V c).before 15 t d))
    ∗ (∃ d, owns (c : Thread nD τ) (ms0_16 t) fullShare ((dat0 V c).before 16 t d))
    ∗ (∃ d, owns (c : Thread nD τ) (ms0_17 t) fullShare ((dat0 V c).before 17 t d))
    ∗ (∃ d, owns (c : Thread nD τ) (ms0_18 t) fullShare ((dat0 V c).before 18 t d)))

/-- and what it leaves. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ (∃ X, ⌜Rl0 V c 10 t X⌝ ∗ owns (c : Thread nD τ) (ms0_10 t) fullShare X)
    ∗ owns (c : Thread nD τ) (ms0_11 t) fullShare ((dat0 V c).after 11 t)
    ∗ owns (c : Thread nD τ) (ms0_12 t) fullShare ((dat0 V c).after 12 t)
    ∗ owns (c : Thread nD τ) (ms0_13 t) fullShare ((dat0 V c).after 13 t)
    ∗ owns (c : Thread nD τ) (ms0_14 t) fullShare ((dat0 V c).after 14 t)
    ∗ owns (c : Thread nD τ) (ms0_15 t) fullShare ((dat0 V c).after 15 t)
    ∗ owns (c : Thread nD τ) (ms0_16 t) fullShare ((dat0 V c).after 16 t)
    ∗ owns (c : Thread nD τ) (ms0_17 t) fullShare ((dat0 V c).after 17 t)
    ∗ owns (c : Thread nD τ) (ms0_18 t) fullShare ((dat0 V c).after 18 t))

/-- The body's triple at a generic point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_11, after0_12, after0_13, after0_14, after0_15, after0_16, after0_17, after0_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%x10, %hx10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((run0 V c t x10 ((dat0 V c).before 14 t d14)).2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexists _; iexact H11
  isplitl [H12]; · iexists _; iexact H12
  isplitl [H13]; · iexists _; iexact H13
  isplitl [H14]; · iexact H14
  isplitl [H15]; · iexists _; iexact H15
  isplitl [H16]; · iexists _; iexact H16
  isplitl [H17]; · iexists _; iexact H17
  isplitl [H18]; · iexists _; iexact H18
  iintro ⟨H0, H1, H2, H3, H4, H5, H6, H7, H8, ⟨%e9, H9⟩, H10, ⟨%e11, H11⟩, ⟨%e12, H12⟩, ⟨%e13, H13⟩, ⟨%e14, H14⟩, ⟨%e15, H15⟩, ⟨%e16, H16⟩, ⟨%e17, H17⟩, ⟨%e18, H18⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_eq_canon _ _ _ (cover0_9 V c t)
  isplitl [H10]
  · iexists _; isplitr
    · ipureintro; exact step0 V c t x10 hx10
    unfold owns; iexists _; isplitr
    swap; · iexact H10
    ipureintro; rfl
  isplitl [H11]
  · unfold owns; iexists _; isplitr
    swap; · iexact H11
    ipureintro; exact View.read_writes_eq_canon _ _ _ (cover0_11 V c t)
  isplitl [H12]
  · unfold owns; iexists _; isplitr
    swap; · iexact H12
    ipureintro; exact View.read_writes_eq_canon _ _ _ (cover0_12 V c t)
  isplitl [H13]
  · unfold owns; iexists _; isplitr
    swap; · iexact H13
    ipureintro; exact View.read_writes_eq_canon _ _ _ (cover0_13 V c t)
  isplitl [H14]
  · unfold owns; iexists _; isplitr
    swap; · iexact H14
    ipureintro; exact (View.read_writes_eq_canon _ _ _ (cover0_14_of V c t x10 ((dat0 V c).before 14 t d14))).trans (canon0_14 V c t x10 ((dat0 V c).before 14 t d14))
  isplitl [H15]
  · unfold owns; iexists _; isplitr
    swap; · iexact H15
    ipureintro; exact View.read_writes_eq_canon _ _ _ (cover0_15 V c t)
  isplitl [H16]
  · unfold owns; iexists _; isplitr
    swap; · iexact H16
    ipureintro; exact View.read_writes_eq_canon _ _ _ (cover0_16 V c t)
  isplitl [H17]
  · unfold owns; iexists _; isplitr
    swap; · iexact H17
    ipureintro; exact View.read_writes_eq_canon _ _ _ (cover0_17 V c t)
  unfold owns; iexists _; isplitr
  swap; · iexact H18
  ipureintro; exact View.read_writes_eq_canon _ _ _ (cover0_18 V c t)

theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) :
    BodyObligationRel (dat0 (F := F) V c) (defs₀ (F := F)) Variants.none () Set.univ fgt0 (Rl0 V c) := fun t => by
  rw [bigSep_W0, bigSep_W0, defs₀_row0]
  exact triple_restated (sound_body0 V c t) rfl .rfl fun _ => .rfl

end Cert.KernelIdeal.Hand
end
end
-- ==== Proof.KIRun1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F] [Named F]

local notation "𝕄" => MT nD τ sig Unit (Elt F) ℕ (UR sig nD τ) ℕ

-- the definition's epilogue walks the run's large proof term past the default budget
set_option maxHeartbeats 4000000 in
noncomputable def kernelRun1 (c : Dev nD) (i : grid1.Coords) (arg2 : Memref sig .tc .vmem S2x1024x3584 .fp8e4m3) (harg2 : arg2.IsWhole) (arg3 : Memref sig .tc .vmem S3584x256 .fp8e4m3) (harg3 : arg3.IsWhole) (arg4 : Memref sig .tc .vmem S1x256 .f32) (harg4 : arg4.IsWhole) (arg5 : Memref sig .tc .vmem S1x256 .f32) (harg5 : arg5.IsWhole) (arg6 : Memref sig .tc .vmem S2x1024x128 .f32) (harg6 : arg6.IsWhole) (arg7 : Memref sig .tc .vmem S2x1024x128 .f32) (harg7 : arg7.IsWhole) (arg8 : Memref sig .tc .vmem S2x1024x128 .f32) (harg8 : arg8.IsWhole) (arg9 : Memref sig .tc .vmem S2x4x1024x128 .fp8e4m3) (harg9 : arg9.IsWhole) (arg10 : Memref sig .tc .vmem S2x4x1024x128 .f32) (harg10 : arg10.IsWhole) (arg11 : Memref sig .tc .vmem S2x512x1024 .bf16) (harg11 : arg11.IsWhole) (arg12 : Memref sig .tc .vmem S1x1024x256 .bf16) (harg12 : arg12.IsWhole) (arg13 : Memref sig .tc .vmem S1x2x1024x128 .fp8e4m3) (harg13 : arg13.IsWhole) (arg14 : Memref sig .tc .vmem S2x2x1024 .f32) (harg14 : arg14.IsWhole)
    (x0 : Vec F S2x1024x3584 .fp8e4m3) (x1 : Vec F S3584x256 .fp8e4m3) (x2 : Vec F S1x256 .f32) (x3 : Vec F S1x256 .f32) (x4 : Vec F S2x1024x128 .f32) (x5 : Vec F S2x1024x128 .f32) (x6 : Vec F S2x1024x128 .f32) (x7 : Vec F S2x4x1024x128 .fp8e4m3) (x8 : Vec F S2x4x1024x128 .f32) (x9 : Vec F S2x512x1024 .bf16) (x12 : Vec F S2x2x1024 .f32) :
    Σ' (L10 : List (View.Piece (Elt F) S1x1024x256 .bf16)), Σ' (L11 : List (View.Piece (Elt F) S1x2x1024x128 .fp8e4m3)), { L12 : List (View.Piece (Elt F) S2x2x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare x12
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (arg14.view.loc (c : Thread nD τ) ↦[arg14.view.set]{fullShare} arg14.view.writes (Elt F) (harg14.unread x12) L12)) -∗ K ⟨⟩))
          ⊢ wp frame (wpE (defs₀ (F := F)) Variants.none c none) E (cc1_q_attn i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc1_q_attn_eq_skeleton]; unfold cc1_q_attn_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hf12
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    iexact H12

end Cert.KernelIdeal.Hand
end
end
-- ==== Proof.KIReg1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.WordCmp
public import proofs.«01_k».proof.Proof.KIRun1
public import proofs.«01_k».proof.Proof.Accum

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Hand
open Idealize.ShloMosaic.Pipeline (Dat Cfg Window BodyObligation BodyObligationRel cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's staging buffer holds its block at every point, fetched there or not, for any proof data whose array is `V`'s
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! Each window's staging memref at point `t`, and its wholeness. -/
abbrev ms1_0 (t : Fin cfg1.N) : Memref sig .tc .vmem S2x1024x3584 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3584x256 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2x1024x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2x1024x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2x1024x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2x4x1024x128 .fp8e4m3 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S2x4x1024x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S2x512x1024 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x1024x256 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x2x1024x128 .fp8e4m3 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S2x2x1024 .f32 := win1_12.stage (cfg1.slots t 12)
abbrev hs1_12 (t : Fin cfg1.N) : (ms1_12 t).IsWhole := hstage1_12 ((cfg1.slots t 12).cast nbuf1_12)

/-- The body's run at point `t`, on the point's memrefs and input blocks. -/
abbrev run1 (c : Dev nD) (t : Fin cfg1.N) (x12 : Vec F S2x2x1024 .f32) :=
  kernelRun1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t)
    (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) x12

/-! What the body writes into each output window at point `t`, as pieces, newest first. -/
def L1_10 (c : Dev nD) (t : Fin cfg1.N) : List (View.Piece (Elt F) S1x1024x256 .bf16) := (run1 V c t (View.canon [])).1
def L1_11 (c : Dev nD) (t : Fin cfg1.N) : List (View.Piece (Elt F) S1x2x1024x128 .fp8e4m3) := (run1 V c t (View.canon [])).2.1
def L1_12 (c : Dev nD) (t : Fin cfg1.N) : List (View.Piece (Elt F) S2x2x1024 .f32) := (run1 V c t (View.canon [])).2.2.1

/-! The pieces do not depend on what the windows held before. -/
theorem L1_10_eq (c : Dev nD) (t : Fin cfg1.N) (x12 : Vec F S2x2x1024 .f32) : (run1 V c t x12).1 = L1_10 V c t := rfl
theorem L1_11_eq (c : Dev nD) (t : Fin cfg1.N) (x12 : Vec F S2x2x1024 .f32) : (run1 V c t x12).2.1 = L1_11 V c t := rfl
theorem L1_12_eq (c : Dev nD) (t : Fin cfg1.N) (x12 : Vec F S2x2x1024 .f32) : (run1 V c t x12).2.2.1 = L1_12 V c t := rfl

/-! The pieces cover their window. -/
theorem cover1_10 (c : Dev nD) (t : Fin cfg1.N) (y : Shape.Idx S1x1024x256) : ∃ p ∈ L1_10 V c t, y ∈ p.1.set :=
  View.cover_of_tiledL (L1_10 V c t) S1x256x128.size (by sl_kernel_rfl) y
theorem cover1_11 (c : Dev nD) (t : Fin cfg1.N) (y : Shape.Idx S1x2x1024x128) : ∃ p ∈ L1_11 V c t, y ∈ p.1.set :=
  View.cover_of_tiledL (L1_11 V c t) S1x1x1024x128.size (by sl_kernel_rfl) y

/-- Where the body writes its row of scales. -/
theorem off1 : ∀ t : Fin cfg1.N, k1_off3 (grid1.coords t) = ![0, t.val % 2, 0] := by decide
theorem off1' : ∀ t : Fin cfg1.N, k1_off12 (grid1.coords t) = ![1, t.val % 2, 0] := by decide
theorem mem1 (c : Dev nD) (t : Fin cfg1.N) (y : Shape.Idx S2x2x1024) (h1 : (y 1).val = t.val % 2) :
    ∃ p ∈ L1_12 V c t, y ∈ p.1.set := by
  have h0 : (y 0).val < 2 := (y 0).isLt
  have h2 : (y 2).val < 1024 := (y 2).isLt
  by_cases hy : (y 0).val = 0
  · refine ⟨_, List.mem_cons_of_mem _ List.mem_cons_self, ?_⟩
    rw [Rect.mem_set_unit]
    rw [off1]
    intro a
    match a with
    | ⟨0, _⟩ => show 0 ≤ (y 0).val ∧ (y 0).val < 0 + 1; omega
    | ⟨1, _⟩ => show t.val % 2 ≤ (y 1).val ∧ (y 1).val < t.val % 2 + 1; omega
    | ⟨2, _⟩ => show 0 ≤ (y 2).val ∧ (y 2).val < 0 + 1024; omega
  · refine ⟨_, List.mem_cons_self, ?_⟩
    rw [Rect.mem_set_unit]
    rw [off1']
    intro a
    match a with
    | ⟨0, _⟩ => show 1 ≤ (y 0).val ∧ (y 0).val < 1 + 1; omega
    | ⟨1, _⟩ => show t.val % 2 ≤ (y 1).val ∧ (y 1).val < t.val % 2 + 1; omega
    | ⟨2, _⟩ => show 0 ≤ (y 2).val ∧ (y 2).val < 0 + 1024; omega
/-- The rows of scales of both batches cover the window when it is written back. -/
theorem coverAcc1 (c : Dev nD) (t : Fin cfg1.N) (ht : t.val % 2 = 1) (y : Shape.Idx S2x2x1024) :
    ∃ p ∈ accum cfg1.N 2 (L1_12 V c) t.val, y ∈ p.1.set := by
  have h1 : (y 1).val < 2 := (y 1).isLt
  have hlt : t.val < 28 := t.isLt
  rw [accum_next t (by omega)]
  by_cases h : (y 1).val = 1
  · obtain ⟨p, hp, hy⟩ := mem1 V c t y (by omega)
    exact ⟨p, List.mem_append_left _ hp, hy⟩
  · have ht' : t.val - 1 < cfg1.N := Nat.lt_of_le_of_lt (Nat.sub_le _ _) t.isLt
    obtain ⟨p, hp, hy⟩ := mem1 V c ⟨t.val - 1, ht'⟩ y (by dsimp only; omega)
    refine ⟨p, List.mem_append_right _ ?_, hy⟩
    exact (accum_start (P := 2) (L := L1_12 V c) ⟨t.val - 1, ht'⟩ (by dsimp only; omega)).symm ▸ hp

/-- The pieces window 12 has received since its block was last changed. -/
def acc1 (c : Dev nD) (n : ℕ) : List (View.Piece (Elt F) S2x2x1024 .f32) := accum cfg1.N 2 (L1_12 V c) n

/-- The proof data of pipeline 1 on core `c`: the arrays as the region finds them; after the body at point `t` each input's buffer at
    its block, each output's at what the pieces say. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => View.canon (L1_10 V c t)
    | ⟨11, _⟩ => View.canon (L1_11 V c t)
    | ⟨12, _⟩ => View.canon (acc1 V c t.val)
  Φ _ := Pipeline.ΦA spec1 c
  q _ := fullShare
  owed _ := 0

theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = View.canon (L1_10 V c t) := by dsimp only [dat1]
theorem after1_11 (c : Dev nD) (t : Fin cfg1.N) : (dat1 V c).after 11 t = View.canon (L1_11 V c t) := by dsimp only [dat1]
theorem after1_12 (c : Dev nD) (t : Fin cfg1.N) : (dat1 V c).after 12 t = View.canon (acc1 V c t.val) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-- The window that is filled over several points. -/
def fgt1 : Fin cfg1.W → Bool := fun w => match w with
  | ⟨12, _⟩ => true
  | _ => false

/-- What is known of that window after point `t`: it agrees with the pieces written so far. -/
def Rl1 (c : Dev nD) (w : Fin cfg1.W) (t : Fin cfg1.N) : ((cfg1.win w).block.Idx → Elt F (cfg1.win w).elt) → Prop := match w with
  | ⟨12, _⟩ => fun X => Agrees (acc1 V c t.val) X
  | _ => fun _ => True

/-- What the body finds in that window and the pieces it writes give what is known after the point. -/
theorem step1 (c : Dev nD) (t : Fin cfg1.N) (Y : Vec F S2x2x1024 .f32) (hY : ((dat1 V c).toRRel fgt1 (Rl1 V c)).Finds 12 t Y) :
    Agrees (acc1 V c t.val) ((ms1_12 t).view.read (Elt F) ((ms1_12 t).view.writes (Elt F) ((hs1_12 t).unread Y) (L1_12 V c t))) := by
  unfold acc1
  by_cases ht : t.val % 2 = 0
  · rw [accum_start t ht]; exact agrees_writes _ _ _
  · rw [accum_next t ht]
    refine Agrees.writes _ _ _ ?_ _
    rw [(hs1_12 t).read_unread]
    have h0 : t.val ≠ 0 := fun h => ht (by rw [h])
    rcases (((dat1 V c).toRRel fgt1 (Rl1 V c)).finds_of_pos (w := 12) (Pipeline.Window.fetch_out _ rfl t) h0 Y).mp hY with h | h
    · exact absurd ((flush1_12 _).mp h) (by dsimp only; omega)
    · exact (dat1 V c).toRRel_leaves (fgt := fgt1) (Rl := Rl1 V c) (w := 12) rfl h

/-- When the window is written back it holds what the pieces say. -/
theorem exact1 (c : Dev nD) (w : Fin cfg1.W) (u : Fin cfg1.N) (X : (cfg1.win w).block.Idx → Elt F (cfg1.win w).elt)
    (hw : fgt1 w = true) (hf : (cfg1.win w).flush u = true) (h : Rl1 V c w u X) : (dat1 V c).after w u = X := by
  have : w = 12 := (show ∀ w : Fin cfg1.W, fgt1 w = true → w = 12 by decide) w hw
  subst this
  exact (Agrees.eq_canon h (coverAcc1 V c u ((flush1_12 u).mp hf))).symm

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ Y, ⌜((dat1 V c).toRRel fgt1 (Rl1 V c)).Finds 12 t Y⌝ ∗ owns (c : Thread nD τ) (ms1_12 t) fullShare Y))

/-- and what it leaves. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ (∃ X, ⌜Rl1 V c 12 t X⌝ ∗ owns (c : Thread nD τ) (ms1_12 t) fullShare X))

/-- The body's triple at a generic point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%x12, %hx12, H12⟩⟩
  iapply ((run1 V c t x12).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexact H12
  iintro ⟨H0, H1, H2, H3, H4, H5, H6, H7, H8, H9, ⟨%e10, H10⟩, ⟨%e11, H11⟩, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_eq_canon _ _ _ (cover1_10 V c t)
  isplitl [H11]
  · unfold owns; iexists _; isplitr
    swap; · iexact H11
    ipureintro; exact View.read_writes_eq_canon _ _ _ (cover1_11 V c t)
  iexists _; isplitr
  · ipureintro; exact step1 V c t x12 hx12
  unfold owns; iexists _; isplitr
  swap; · iexact H12
  ipureintro; rfl

theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) :
    BodyObligationRel (dat1 (F := F) V c) (defs₀ (F := F)) Variants.none () Set.univ fgt1 (Rl1 V c) := fun t => by
  rw [bigSep_W1, bigSep_W1, defs₀_row1]
  exact triple_restated (sound_body1 V c t) rfl .rfl fun _ => .rfl

end Cert.KernelIdeal.Hand
end
end
-- ==== Proof.KIFrame.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.WordCmp
public import proofs.«01_k».proof.Proof.KIReg0
public import proofs.«01_k».proof.Proof.KIReg1
public import proofs.«01_k».proof.Proof.Accum

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Hand
open Idealize.ShloMosaic.Pipeline (Dat Cfg Window BodyObligation BodyObligationRel cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_cst, main_v3, main_v4, main_cst_0, main_v5, main_v6, main_cst_1, main_v7, main_v8, main_cst_2, main_v9, main_v10, main_cst_3, main_v11, main_v12, main_v13, main_v14]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v17, main_v18, main_v19]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => m ((c : Dev nD), b)
theorem W0_args (c : Dev nD) : ∀ a ∈ argRefs, W0 m c (Proc.devRef .tc a) = m ((c : Thread nD τ).loc a) := fun _ _ => rfl
/-- After `hostOps0` (region 0's entry). -/
abbrev W1 : Dev nD → Valuation τ sig (Elt F) := fun c => StableHlo.after hostOps0 (W0 m c)
/-- A reference `hostOps0` does not write keeps its contents across it. -/
theorem W1_of (c : Dev nD) (r : Ref sig .tc) (h : r ∉ hostOps0_W) : W1 m c (Proc.devRef .tc r) = W0 m c (Proc.devRef .tc r) :=
  StableHlo.after_of_writes_sub hostOps0 _ hostOps0_writes h
theorem W1_args (c : Dev nD) : ∀ a ∈ argRefs, W1 m c (Proc.devRef .tc a) = m ((c : Thread nD τ).loc a) :=
  fun a ha => (W1_of m c a (hostOps0_args a ha)).trans (W0_args m c a ha)
/-- The same read at the TensorCore's references (what region 0's proof data take). -/
abbrev V1 : (c : Dev nD) → (b : Ref sig .tc) → Buf (Elt F) ((c : Thread nD τ).loc b) := fun c b => W1 m c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact (dat0 (V1 m) c).withArrays_arrAt launch₀0.sharedIn _ (A_eq0 (V1 m) c) w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (V1 m) c).arrAt_in w (h w rfl) _).trans (A_eq0 (V1 m) c w))
  · exact W2_of_ne m c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m c (Proc.devRef .tc a) = m ((c : Thread nD τ).loc a) :=
  fun a ha => (W2_of m c a (argsIn0 a ha)).trans (W1_args m c a ha)
/-- The same read at the TensorCore's references (region 0's exit contents). -/
abbrev V2 : (c : Dev nD) → (b : Ref sig .tc) → Buf (Elt F) ((c : Thread nD τ).loc b) := fun c b => W2 m c b
/-- At region 0's exit each of its arrays holds what the pipeline leaves (`hF0`) and every other buffer what it
    held at entry (`hrest0`): the two hypotheses of Lib/Pipeline/RegionsLoop.lean `unscopedBufs_of_arrays_shared`. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m c (Proc.devRef .tc r) = W2 m c (Proc.devRef .tc r) := by
  by_cases hw : ∃ w : Fin cfg1.W, Pipeline.arrRef spec1 w = r
  · obtain ⟨w, rfl⟩ := hw
    exact (W3_arr m c w).trans (((dat1 (V2 m) c).arrAt_in w (h w rfl) _).trans (A_eq1 (V2 m) c w))
  · exact W3_of_ne m c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m c (Proc.devRef .tc a) = m ((c : Thread nD τ).loc a) :=
  fun a ha => (W3_of m c a (argsIn1 a ha)).trans (W2_args m c a ha)
/-- The same read at the TensorCore's references (region 1's exit contents). -/
abbrev V3 : (c : Dev nD) → (b : Ref sig .tc) → Buf (Elt F) ((c : Thread nD τ).loc b) := fun c b => W3 m c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After `hostOps2`. -/
abbrev W4 : Dev nD → Valuation τ sig (Elt F) := fun c => StableHlo.after hostOps2 (W3 m c)
/-- A reference `hostOps2` does not write keeps its contents across it. -/
theorem W4_of (c : Dev nD) (r : Ref sig .tc) (h : r ∉ hostOps2_W) : W4 m c (Proc.devRef .tc r) = W3 m c (Proc.devRef .tc r) :=
  StableHlo.after_of_writes_sub hostOps2 _ hostOps2_writes h
theorem W4_args (c : Dev nD) : ∀ a ∈ argRefs, W4 m c (Proc.devRef .tc a) = m ((c : Thread nD τ).loc a) :=
  fun a ha => (W4_of m c a (hostOps2_args a ha)).trans (W3_args m c a ha)

/-! ### The arguments end as launched: no host stretch writes one and no region may change one (a region reads it
    through an input window or bypasses it) -/

theorem W4_main_arg0 (c : Dev nD) : W4 m c (Proc.devRef .tc main_arg0) = m ((c : Thread nD τ).loc main_arg0) :=
  W4_args m c main_arg0 (by decide)
theorem W4_main_arg1 (c : Dev nD) : W4 m c (Proc.devRef .tc main_arg1) = m ((c : Thread nD τ).loc main_arg1) :=
  W4_args m c main_arg1 (by decide)
theorem W4_main_arg2 (c : Dev nD) : W4 m c (Proc.devRef .tc main_arg2) = m ((c : Thread nD τ).loc main_arg2) :=
  W4_args m c main_arg2 (by decide)
theorem W4_main_arg3 (c : Dev nD) : W4 m c (Proc.devRef .tc main_arg3) = m ((c : Thread nD τ).loc main_arg3) :=
  W4_args m c main_arg3 (by decide)
theorem W4_main_arg4 (c : Dev nD) : W4 m c (Proc.devRef .tc main_arg4) = m ((c : Thread nD τ).loc main_arg4) :=
  W4_args m c main_arg4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
/-- The same data, the window that gathers its block over several points described by what the pieces stored so far fix. -/
def rdats : (p : Fin 2) → (c : Dev nD) → Pipeline.RDat τ (Elt F) Unit ℕ (UR sig nD τ) ℕ (Pipeline.pin (pcfgs (F := F)) adm p) c
  | ⟨0, _⟩ => fun c => (dat0 (V1 m) c).toRRel fgt0 (Rl0 (V1 m) c)
  | ⟨1, _⟩ => fun c => (dat1 (V2 m) c).toRRel fgt1 (Rl1 (V2 m) c)
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs_shared`) and put back at the exit contents (`unscopedBufs_of_arrays_shared`; its input windows on one array (`launch₀0.sharedIn`) each dealt their share of it, `Pipeline.shareOf`, by the proof data); the generator register into the
    class invariant `ΦA` and out; nothing owed; no semaphore of the kernel's own. -/
def reg0 : Pipeline.RDat.RegionSeg (pcfgs (F := F)) adm (rdats m) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V1 m) c).toRRel
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs_shared (p := 0) (pcfgs (F := F)) adm (pdats m) launch₀0.win launch₀0.sharedIn launch₀0.arr_whole c
      (fun _ _ => rfl) (V1 m c) (A_eq0 (V1 m) c)
    rw [Pipeline.unscopedBufs_held] at hsplit
    iintro ⟨⟨Hub, Hp, HO⟩, -, -⟩
    ihave H := hsplit $$ Hub
    icases H with ⟨Ha, Hrest⟩
    imodintro
    isplitl [Ha]
    · iapply (show (pdats m 0 c).arrays (fun x => (pdats m 0 c).arrAt x 0) ⊢ (rdats m 0 c).arrays (rdats m 0 c).A from .rfl)
      iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m) (fun _ _ => rfl)
      (V1 m c) (V2 m c) ((pdats m 0 c).arrAt · cfg0.N) (hF0 m c) (hrest0 m c)
    rw [Pipeline.unscopedBufs_held] at hjoin
    iintro ⟨Ha, HO, HY, Hrest⟩
    ihave Ha := (show (rdats m 0 c).arraysAt (Pipeline.pin (pcfgs (F := F)) adm 0).N ⊢ (pdats m 0 c).arrays ((pdats m 0 c).arrAt · cfg0.N) from
      arraysAt_of_exact_at_flush (dat0 (V1 m) c) (exact0 (V1 m) c) cfg0.N) $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).toRRel
  hwaits := Pipeline.RDat.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) (A_eq1 (V2 m) c)
    rw [Pipeline.unscopedBufs_held] at hsplit
    iintro ⟨⟨Hub, Hp, HO⟩, -, -⟩
    ihave H := hsplit $$ Hub
    icases H with ⟨Ha, Hrest⟩
    imodintro
    isplitl [Ha]
    · iapply (show (pdats m 1 c).arrays (fun x => (pdats m 1 c).arrAt x 0) ⊢ (rdats m 1 c).arrays (rdats m 1 c).A from .rfl)
      iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    ihave Ha := (show (rdats m 1 c).arraysAt (Pipeline.pin (pcfgs (F := F)) adm 1).N ⊢ (pdats m 1 c).arrays ((pdats m 1 c).arrAt · cfg1.N) from
      arraysAt_of_exact_at_flush (dat1 (V2 m) c) (exact1 (V2 m) c) cfg1.N) $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.RDat.Seg (pcfgs (F := F)) adm (rdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
/-- @main IS the run of the segments: `Gen.main_chain`, then the segments' run against that chain by the kernel's
    definitional check (`chain_rfl`). -/
theorem main_run (c : Dev nD) : main (F := F) c = Pipeline.RDat.Seg.run (segs m) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main terminates, nothing faulting, and
    ends with every unscoped buffer at the last boundary's contents `W4` and every semaphore counter at zero. -/
theorem run_W4 : θ_run defs (onTc (τ := τ) (main (F := F))) ⟨m, fun _ => 0, ρ⟩ (fun r => (∀ c : Dev nD,
      ∀ b ∈ Pipeline.ucRefs τ sig, r.2.mem (((c : Thread nD τ)).1, b) = W4 m c b) ∧ r.2.sem = fun _ => 0) :=
  Pipeline.RDat.θ_run_regions_kit_sems (pcfgs (F := F)) adm (rdats m) () cellOf_inj emb₁ defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      dsimp only [Pipeline.RDat.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h hz => ⟨h, funext fun g => hz g (.inr (no_unscoped g.2))⟩)

/-- THE FRAME: the argument arrays end as launched, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨(h.1 c _ (mem_uc main_arg0 (by decide))).trans (W4_main_arg0 m c),
       (h.1 c _ (mem_uc main_arg1 (by decide))).trans (W4_main_arg1 m c),
       (h.1 c _ (mem_uc main_arg2 (by decide))).trans (W4_main_arg2 m c),
       (h.1 c _ (mem_uc main_arg3 (by decide))).trans (W4_main_arg3 m c),
       (h.1 c _ (mem_uc main_arg4 (by decide))).trans (W4_main_arg4 m c)⟩, h.2⟩) (run_W4 m ρ)

end Cert.KernelIdeal.Hand

end
-- ==== Proof.Quant.lean ====
module

public import Idealize.ShloMosaic.Lib.Pointwise

@[expose] public section

set_option maxRecDepth 16384

noncomputable section

namespace Cert.Hand

open Idealize.ShloMosaic Idealize.ShloMosaic.TcCoe Idealize.ShloMosaic.Tactic
open Idealize.SL Idealize.SL.RA Idealize.SL.BI Cert.Hand
open scoped BigOperators

/-- The constant 1/448 as a float. -/
noncomputable abbrev cinv : EReal := Ideal.ofBits FTy.f32 991054117#32

/-- The exponent of the power of two that scales a row whose largest magnitude is `a`. -/
noncomputable def qexp (a : EReal) : EReal :=
  if a = 0 then 0
  else min (Ideal.ofBits FTy.f32 1122893824#32) (max (Ideal.ofBits FTy.f32 3271426048#32)
    (Ideal.liftRound Int.floor (Ideal.div (Ideal.log (a * cinv)) (Ideal.log (Ideal.ofBits FTy.f32 1073741824#32))))) + 1

/-- The scale of a row whose largest magnitude is `a`, and the inverse of that scale. -/
noncomputable def qscale (a : EReal) : EReal := Ideal.exp2 (qexp a)
noncomputable def qinv (a : EReal) : EReal := Ideal.exp2 (0 - qexp a)

/-- The code of `x` under the inverse scale `i`. -/
noncomputable def code (x i : EReal) : EReal :=
  min (Ideal.ofBits FTy.f32 0x43E00000#32) (max (Ideal.ofBits FTy.f32 0xC3E00000#32) (x * i))

/-- The largest magnitude of a row. -/
noncomputable def rowmax {n : ℕ} (f : Fin n → EReal) : EReal := Finset.univ.fold max ⊥ fun k => max (f k) (-f k)

theorem rowmax_nonneg {n : ℕ} (f : Fin (n + 1) → EReal) : 0 ≤ rowmax f := by
  refine le_trans ?_ (Finset.le_fold_max (s := Finset.univ) (f := fun k => max (f k) (-f k)) (b := ⊥) _ |>.2 (Or.inr ⟨0, Finset.mem_univ _, le_rfl⟩))
  rcases le_total 0 (f 0) with h | h
  · exact le_max_of_le_left h
  · exact le_max_of_le_right (EReal.neg_nonneg.2 h)

theorem qexp_ofBits_bot : Ideal.ofBits FTy.f32 0xFF800000#32 = ⊥ := by
  simp [Ideal.ofBits, Ideal.ieee]

theorem bits_of_field : ∀ e : Fin 255,
    ((BitVec.ofNat 32 (e.val * 8388608)).extractLsb' 31 1 == 1#1) = false ∧
    ((BitVec.ofNat 32 (e.val * 8388608)).extractLsb' 23 8).toNat = e.val ∧
    ((BitVec.ofNat 32 (e.val * 8388608)).extractLsb' 0 23).toNat = 0 := by decide +kernel

/-- The float with exponent field `e` and no trailing significand bits. -/
theorem ofBits_field (e : ℕ) (h0 : 0 < e) (h : e < 255) :
    Ideal.ofBits FTy.f32 (BitVec.ofNat 32 (e * 8388608)) = (((2 : ℝ) ^ ((e : ℤ) - 127) : ℝ) : EReal) := by
  obtain ⟨h1, h2, h3⟩ := bits_of_field ⟨e, h⟩
  simp only at h1 h2 h3
  show Ideal.ieee 8 23 _ = _
  unfold Ideal.ieee
  simp only [h2, h3, show (8 + 23 : ℕ) = 31 from rfl, h1]
  rw [if_neg (by omega), if_neg (by omega)]
  congr 1
  simp only [Bool.false_eq_true, if_false, one_mul, add_zero]
  rw [show ((2 ^ 23 : ℕ) : ℝ) = (2 : ℝ) ^ (23 : ℤ) by norm_num, ← zpow_add₀ two_ne_zero]
  congr 1
  push_cast
  ring

theorem ofBits_cinv : cinv = (((9586981 : ℝ) * 2 ^ (-32 : ℤ) : ℝ) : EReal) := by
  simp [Ideal.ofBits, Ideal.ieee, -EReal.coe_mul]

theorem ofBits_119 : Ideal.ofBits FTy.f32 1122893824#32 = ((119 : ℝ) : EReal) := by
  simp [Ideal.ofBits, Ideal.ieee, -EReal.coe_mul]; norm_num
theorem ofBits_m127 : Ideal.ofBits FTy.f32 3271426048#32 = ((-127 : ℝ) : EReal) := by
  simp [Ideal.ofBits, Ideal.ieee, -EReal.coe_mul, -EReal.coe_neg]; norm_num
theorem ofBits_2 : Ideal.ofBits FTy.f32 1073741824#32 = ((2 : ℝ) : EReal) := by
  simp [Ideal.ofBits, Ideal.ieee, -EReal.coe_mul]; norm_num

/-- The rounded base two logarithm held to -127 .. 119 names the greatest threshold not above `v`. -/
theorem clip_floor (v : EReal) (hv : 0 ≤ v) : ∃ m : ℕ, m ≤ 246 ∧
    min (Ideal.ofBits FTy.f32 1122893824#32) (max (Ideal.ofBits FTy.f32 3271426048#32)
      (Ideal.liftRound Int.floor (Ideal.div (Ideal.log v) (Ideal.log (Ideal.ofBits FTy.f32 1073741824#32)))))
      = (((m : ℝ) - 127 : ℝ) : EReal) ∧
    ∀ k : ℕ, 0 < k → k ≤ 246 → ((((2 : ℝ) ^ ((k : ℤ) - 127) : ℝ) : EReal) ≤ v ↔ k ≤ m) := by
  rw [ofBits_119, ofBits_m127, ofBits_2]
  have hl2 : (0 : ℝ) < Real.log 2 := Real.log_pos (by norm_num)
  have hlog2 : Ideal.log ((2 : ℝ) : EReal) = ((Real.log 2 : ℝ) : EReal) := by
    show (if (2 : ℝ) ≤ 0 then (⊥ : EReal) else _) = _
    rw [if_neg (by norm_num)]
  have hne : ((Real.log 2 : ℝ) : EReal) ≠ 0 := by exact_mod_cast hl2.ne'
  rw [hlog2]
  simp only [Ideal.div, if_neg hne, ← EReal.coe_inv]
  induction v using EReal.rec with
  | bot => exact absurd hv (by simp)
  | top =>
    refine ⟨246, le_rfl, ?_, fun k _ hk => ⟨fun _ => hk, fun _ => le_top⟩⟩
    rw [show Ideal.log ⊤ = ⊤ from rfl, EReal.top_mul_coe_of_pos (inv_pos.2 hl2), Ideal.liftRound_top]
    rw [max_eq_right le_top, min_eq_left le_top]
    norm_num
  | coe r =>
    have hr : 0 ≤ r := by exact_mod_cast hv
    rcases hr.eq_or_lt with rfl | hr
    · refine ⟨0, by omega, ?_, fun k h0 hk => ⟨fun h => ?_, fun h => absurd h (by omega)⟩⟩
      · rw [show Ideal.log ((0 : ℝ) : EReal) = ⊥ from if_pos le_rfl, EReal.bot_mul_coe_of_pos (inv_pos.2 hl2),
          Ideal.liftRound_bot, max_eq_left bot_le]
        rw [min_eq_right (by exact_mod_cast (by norm_num : (-127 : ℝ) ≤ 119))]
        norm_num
      · have : (2 : ℝ) ^ ((k : ℤ) - 127) ≤ 0 := by exact_mod_cast h
        exact absurd this (not_le.2 (by positivity))
    · rw [show Ideal.log ((r : ℝ) : EReal) = ((Real.log r : ℝ) : EReal) from if_neg (not_le.2 hr), ← EReal.coe_mul,
        Ideal.liftRound_coe]
      set F : ℤ := ⌊Real.log r * (Real.log 2)⁻¹⌋ with hF
      have key : ∀ e : ℤ, e ≤ F ↔ (2 : ℝ) ^ e ≤ r := by
        intro e
        rw [hF, Int.le_floor, ← div_eq_mul_inv, le_div_iff₀ hl2, ← Real.log_zpow, Real.log_le_log_iff (by positivity) hr]
      refine ⟨(min 119 (max (-127) F) + 127).toNat, by omega, ?_, fun k h0 hk => ?_⟩
      · have e1 : (((min 119 (max (-127) F) + 127).toNat : ℕ) : ℝ) = ((min 119 (max (-127) F) + 127 : ℤ) : ℝ) := by
          rw [← Int.cast_natCast, Int.toNat_of_nonneg (by omega)]
        rw [e1]
        have mm : ∀ x y : ℝ, ((max x y : ℝ) : EReal) = max (x : EReal) y := fun x y => (EReal.coe_strictMono.monotone.map_max)
        have mn : ∀ x y : ℝ, ((min x y : ℝ) : EReal) = min (x : EReal) y := fun x y => (EReal.coe_strictMono.monotone.map_min)
        rw [← mm, ← mn]
        congr 1
        push_cast
        ring
      · rw [EReal.coe_le_coe_iff, ← key]
        omega

theorem field_words : ∀ m : Fin 247,
    IntOp.addi (IntOp.shli ArithUnit.vector (IntOp.subi (BitVec.ofInt 32 ((m.val : ℤ) + 1)) 1#32) 23#32) 8388608#32
      = BitVec.ofNat 32 ((m.val + 1) * 8388608) ∧
    IntOp.subi 2122317824#32 (IntOp.shli ArithUnit.vector (IntOp.subi (BitVec.ofInt 32 ((m.val : ℤ) + 1)) 1#32) 23#32)
      = BitVec.ofNat 32 ((253 - m.val) * 8388608) ∧
    IntOp.shli ArithUnit.vector (BitVec.ofNat 32 m.val) 23#32 = BitVec.ofNat 32 (m.val * 8388608) := by decide +kernel

/-- The number of thresholds not above the row's largest magnitude over 448. -/
noncomputable def count (a : EReal) : EReal :=
  ∑ x : Fin 247, if Ideal.ofBits FTy.f32 (IntOp.shli ArithUnit.vector (BitVec.ofNat 32 ↑x) 23#32) ≤ a * cinv then 1 else 0

/-- The exponent bits found by counting. -/
noncomputable def fieldBits (a : EReal) : BitVec 32 :=
  IntOp.shli ArithUnit.vector (IntOp.subi (FloatOps.fptosi (F := Idealize.ShloMosaic.Ideal) (φ := .f32) 32 (count a)) 1#32) 23#32

theorem count_eq (v : EReal) (hv : 0 ≤ v) (m : ℕ) (hm : m ≤ 246)
    (h : ∀ k : ℕ, 0 < k → k ≤ 246 → ((((2 : ℝ) ^ ((k : ℤ) - 127) : ℝ) : EReal) ≤ v ↔ k ≤ m)) :
    (∑ x : Fin 247, if Ideal.ofBits FTy.f32 (IntOp.shli ArithUnit.vector (BitVec.ofNat 32 ↑x) 23#32) ≤ v then (1 : EReal) else 0)
      = (((m : ℝ) + 1 : ℝ) : EReal) := by
  have e : ∀ x : Fin 247, (if Ideal.ofBits FTy.f32 (IntOp.shli ArithUnit.vector (BitVec.ofNat 32 ↑x) 23#32) ≤ v
      then (1 : EReal) else 0) = (((if x.val ≤ m then 1 else 0 : ℕ) : ℝ) : EReal) := by
    intro x
    have hx : Ideal.ofBits FTy.f32 (IntOp.shli ArithUnit.vector (BitVec.ofNat 32 ↑x) 23#32) ≤ v ↔ x.val ≤ m := by
      rw [(field_words x).2.2]
      rcases Nat.eq_zero_or_pos x.val with h0 | h0
      · rw [h0]
        simp only [zero_mul, Nat.zero_le, iff_true]
        exact le_trans (by rw [show (BitVec.ofNat 32 0) = 0x00000000#32 from rfl, Ideal.ofBits_zero_f32]) hv
      · rw [ofBits_field _ h0 (by omega)]
        exact h _ h0 (by omega)
    by_cases hc : x.val ≤ m
    · rw [if_pos (hx.2 hc), if_pos hc]; simp
    · rw [if_neg (fun h => hc (hx.1 h)), if_neg hc]; simp
  rw [Finset.sum_congr rfl fun x _ => e x]
  have : (∑ x : Fin 247, (if x.val ≤ m then 1 else 0 : ℕ)) = m + 1 := by
    rw [Fin.sum_univ_eq_sum_range (fun x => (if x ≤ m then 1 else 0 : ℕ)) 247, ← Finset.sum_filter,
      Finset.sum_const, smul_eq_mul, mul_one]
    rw [show (Finset.range 247).filter (fun x => x ≤ m) = Finset.range (m + 1) by ext; simp; omega, Finset.card_range]
  have c : ∀ s : Finset (Fin 247), ∑ x ∈ s, (((if x.val ≤ m then 1 else 0 : ℕ) : ℝ) : EReal)
      = (((∑ x ∈ s, (if x.val ≤ m then 1 else 0 : ℕ) : ℕ) : ℝ) : EReal) := by
    intro s
    induction s using Finset.induction_on with
    | empty => simp
    | insert a s ha ih => rw [Finset.sum_insert ha, Finset.sum_insert ha, ih, ← EReal.coe_add]; push_cast; rfl
  rw [c, this]
  push_cast
  rfl

theorem quant_eq (a : EReal) (ha : 0 ≤ a) :
    (if a = 0 then (1 : EReal) else Ideal.ofBits FTy.f32 (IntOp.addi (fieldBits a) 8388608#32)) = qscale a ∧
    (if a = 0 then (1 : EReal) else Ideal.ofBits FTy.f32 (IntOp.subi 2122317824#32 (fieldBits a))) = qinv a := by
  unfold qscale qinv qexp
  by_cases h0 : a = 0
  · subst h0
    have z : Ideal.exp2 0 = 1 := by
      rw [← EReal.coe_zero]; show ((Real.rpow 2 0 : ℝ) : EReal) = 1
      simp
    simp [z]
  · rw [if_neg h0, if_neg h0, if_neg h0]
    have hv : 0 ≤ a * cinv := mul_nonneg ha (by rw [ofBits_cinv]; exact_mod_cast (by positivity : (0 : ℝ) ≤ 9586981 * 2 ^ (-32 : ℤ)))
    obtain ⟨m, hm, e, h⟩ := clip_floor _ hv
    rw [e]
    have hc : count a = (((m : ℝ) + 1 : ℝ) : EReal) := count_eq _ hv m hm h
    have hf : FloatOps.fptosi (F := Idealize.ShloMosaic.Ideal) (φ := .f32) 32 (count a) = BitVec.ofInt 32 ((m : ℤ) + 1) := by
      rw [hc]
      show BitVec.ofInt 32 (max _ (min _ _)) = _
      rw [if_pos (by positivity), show ((m : ℝ) + 1) = (((m : ℤ) + 1 : ℤ) : ℝ) by push_cast; rfl, Int.floor_intCast]
      congr 1
      omega
    obtain ⟨w1, w2, -⟩ := field_words ⟨m, by omega⟩
    unfold fieldBits
    rw [hf]
    simp only at w1 w2
    rw [w1, w2, ofBits_field _ (by omega) (by omega), ofBits_field _ (by omega) (by omega)]
    have e1 : (((m : ℝ) - 127 : ℝ) : EReal) + 1 = (((m : ℝ) - 126 : ℝ) : EReal) := by
      rw [← EReal.coe_one, ← EReal.coe_add]; congr 1; ring
    rw [e1, ← EReal.coe_zero, ← EReal.coe_sub]
    constructor
    · show _ = ((Real.rpow 2 _ : ℝ) : EReal)
      congr 1
      show _ = (2 : ℝ) ^ ((m : ℝ) - 126 : ℝ)
      rw [← Real.rpow_intCast]
      congr 1
      push_cast
      ring
    · show _ = ((Real.rpow 2 _ : ℝ) : EReal)
      congr 1
      show _ = (2 : ℝ) ^ (0 - ((m : ℝ) - 126) : ℝ)
      rw [← Real.rpow_intCast]
      congr 1
      rw [Nat.cast_sub (by omega)]
      push_cast
      ring

end Cert.Hand

end
-- ==== Proof.Spec.lean ====
module

public import proofs.«01_k».proof.Proof.Quant

@[expose] public section

set_option maxRecDepth 16384

noncomputable section

namespace Cert.Hand

open Idealize.ShloMosaic Idealize.ShloMosaic.TcCoe Idealize.ShloMosaic.Tactic
open Idealize.SL Idealize.SL.RA Idealize.SL.BI Cert.Hand
open scoped BigOperators

/-- The code of entry `d` of a row: the entry times the inverse scale of its row, held inside ±448. -/
def rcode {n : ℕ} (f : Fin n → EReal) (d : Fin n) : EReal := code (f d) (qinv (rowmax f))

/-- The scale of a row. -/
def rscale {n : ℕ} (f : Fin n → EReal) : EReal := qscale (rowmax f)

/-- One entry of the projection: the coded row `r` times the weight column `wc`, rescaled, plus the bias. -/
def ycol (r wc : Fin 3584 → EReal) (ws bs : EReal) : EReal := (∑ k, rcode r k * wc k) * rscale r * ws + bs

/-- A vector of 64 entries, twice over. -/
def twice (f : Fin 64 → EReal) (d : Fin 128) : EReal :=
  if h : d.val < 64 then f ⟨d.val, h⟩ else f ⟨d.val - 64, by omega⟩

/-- Which of the three positions of a token turns pair `i`: the first 16 pairs by the first, the next 24 by the second, the last 24 by the third. -/
def section3 (p0 p1 p2 : BitVec 32) (i : Fin 64) : BitVec 32 :=
  if i.val < 16 then p0 else if i.val - 16 < 24 then p1 else p2

/-- The rotary embedding of a head `f`: the half-swapped head, first half negated, against the sines. -/
def rope (f c s : Fin 128 → EReal) (d : Fin 128) : EReal :=
  f d * c d + (if h : d.val < 64 then 0 - f ⟨64 + d.val, by omega⟩ else f ⟨d.val - 64, by omega⟩) * s d

/-- The same embedding with the sign carried by the sines: the head rolled by half its length. -/
def ropeRoll (f c s : Fin 128 → EReal) (d : Fin 128) : EReal :=
  f d * c d + f ⟨(d.val + 128 - 64) % 128, Nat.mod_lt _ (by decide)⟩ * s d

theorem ropeRoll_eq (f c s s' : Fin 128 → EReal) (hs : ∀ d, s' d = if d.val < 64 then 0 - s d else s d) :
    ropeRoll f c s' = rope f c s := by
  funext d
  unfold ropeRoll rope
  rw [hs d]
  by_cases h : d.val < 64
  · rw [if_pos h, dif_pos h]
    have e : (⟨(d.val + 128 - 64) % 128, Nat.mod_lt _ (by decide)⟩ : Fin 128) = ⟨64 + d.val, by omega⟩ := Fin.ext (by dsimp only; omega)
    rw [e, zero_sub, zero_sub, mul_neg, neg_mul]
  · rw [if_neg h, dif_neg h]
    have e : (⟨(d.val + 128 - 64) % 128, Nat.mod_lt _ (by decide)⟩ : Fin 128) = ⟨d.val - 64, by omega⟩ := Fin.ext (by dsimp only; omega)
    rw [e]

/-! ## The layer -/

/-- The layer's inputs: activations, coded weights with their scales and biases, and the rotary cosines and sines. -/
structure In where
  x : Fin 2 → Fin 1024 → Fin 3584 → EReal
  w : Fin 3584 → Fin 4608 → EReal
  ws : Fin 4608 → EReal
  bs : Fin 4608 → EReal
  cos : Fin 2 → Fin 1024 → Fin 128 → EReal
  sin : Fin 2 → Fin 1024 → Fin 128 → EReal

namespace In
variable (I : In)

/-- Column `n` of the projection of token `s` of sequence `b`. -/
def y (b : Fin 2) (s : Fin 1024) (n : Fin 4608) : EReal := ycol (I.x b s) (fun k => I.w k n) (I.ws n) (I.bs n)

/-- Query head `h`, rotated, -/
def q (b : Fin 2) (h : Fin 28) (s : Fin 1024) : Fin 128 → EReal :=
  rope (fun d => I.y b s ⟨128 * h.val + d.val, by omega⟩) (I.cos b s) (I.sin b s)

/-- key head `g`, rotated, -/
def k (b : Fin 2) (g : Fin 4) (s : Fin 1024) : Fin 128 → EReal :=
  rope (fun d => I.y b s ⟨3584 + (128 * g.val + d.val), by omega⟩) (I.cos b s) (I.sin b s)

/-- and the values. -/
def v (b : Fin 2) (s : Fin 1024) (n : Fin 512) : EReal := I.y b s ⟨4096 + n.val, by omega⟩

end In

/-! ## Attention -/

/-- A query's output from its raw scores `X`, the factor `m` of its exponent to base 2 and the values `v`. -/
def attendRow {n : ℕ} (X : Fin n → EReal) (m : EReal) (v : Fin n → EReal) : EReal :=
  (∑ k, v k * Ideal.exp2 ((X k - Finset.univ.fold max ⊥ X) * m)) * Ideal.div 1 (∑ k, Ideal.exp2 ((X k - Finset.univ.fold max ⊥ X) * m))

/-- A row of probabilities of the scores `x`, applied to the values `v`. -/
def softRow {n : ℕ} (x v : Fin n → EReal) : EReal :=
  ∑ l, Ideal.div (Ideal.exp (x l - Finset.univ.fold max ⊥ x)) (∑ l', Ideal.exp (x l' - Finset.univ.fold max ⊥ x)) * v l

namespace In
variable (I : In)

/-- The key head that query head `h` reads. -/
def grp (h : Fin 28) : Fin 4 := ⟨h.val / 7, by omega⟩

/-- The score of key `l` for query `s` of head `h`, later keys masked. -/
def score (b : Fin 2) (h : Fin 28) (s l : Fin 1024) : EReal :=
  if l.val ≤ s.val then (∑ d, rcode (I.q b h s) d * rcode (I.k b (grp h) l) d) * rscale (I.q b h s) * rscale (I.k b (grp h) l) * Ideal.ofBits .f32 0x3DB504F3#32 else ⊥

/-- Entry `d` of head `h` of the attention's output. -/
def out (b : Fin 2) (h : Fin 28) (s : Fin 1024) (d : Fin 128) : EReal :=
  softRow (I.score b h s) fun l => I.v b l ⟨128 * (grp h).val + d.val, by have := (grp h).isLt; omega⟩

end In

end Cert.Hand

end
-- ==== Proof.KIVec0.lean ====
module

public import proofs.«01_k».proof.Proof.Spec
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Cert.Hand
open scoped BigOperators

theorem bf16_bot : Ideal.ofBits FTy.bf16 65408#16 = ⊥ := by
  simp [Ideal.ofBits, Ideal.ieee]

/-- The largest absolute value of each row, as a column. -/
noncomputable def colMax (f : FVec Idealize.ShloMosaic.Ideal S512x128 .f32) : FVec Idealize.ShloMosaic.Ideal S512x1 .f32 :=
  shapeCast S512x1 (multiReduction (F := Idealize.ShloMosaic.Ideal) .maximumf [1] S512 (absf f) 0xFF800000#32 reduces_S512x128_S512 (.inl rfl) rfl) shapeCasts_S512_S512x1

theorem colMax_apply (f : FVec Idealize.ShloMosaic.Ideal S512x128 .f32) (s : Fin 512) :
    colMax f (ix2 s 0) = rowmax fun k => f (ix2 s k) := by
  unfold rowmax
  rw [← qexp_ofBits_bot]
  pointwise [colMax]
  rfl

theorem pay8_apply (x : Vec Idealize.ShloMosaic.Ideal S1x512x3584 .bf16) (s : Fin 512) :
    k0_pay8 (F := Idealize.ShloMosaic.Ideal) x (ix2 s 0) = rowmax fun k => x (ix3 0 s k) := by
  unfold rowmax
  rw [← bf16_bot]
  pointwise [k0_pay8, k0_pay7]
  rfl

noncomputable def fieldV (v7 : FVec Idealize.ShloMosaic.Ideal S512x1 .f32) : IVec S512x1 32 :=
  shli (subi (fptosi 32 (shapeCast S512x1 (multiReduction (F := Idealize.ShloMosaic.Ideal) .add [1] S512 (select
    (cmpf .oge (broadcastTo S512x247 (mulf v7 (broadcast S512x1 (Scalar.ofBits .f32 0x3B124925#32))) broadcasts_S512x1_S512x247)
      (broadcastTo S512x247 (bitcastToFloat .f32 (shli (iota .tc S1x247 32 [1] iota_S1x247_d1_w32) (broadcast S1x247 23#32)) : FVec Idealize.ShloMosaic.Ideal S1x247 .f32) broadcasts_S1x247_S512x247))
    (broadcast S512x247 (Scalar.ofBits .f32 0x3F800000#32)) (broadcast S512x247 (Scalar.ofBits .f32 0x00000000#32))) 0x00000000#32 reduces_S512x247_S512 (.inl rfl) rfl) shapeCasts_S512_S512x1)) (broadcast S512x1 1#32)) (broadcast S512x1 23#32)

theorem fieldV_apply (v : FVec Idealize.ShloMosaic.Ideal S512x1 .f32) (s : Fin 512) : fieldV v (ix2 s 0) = fieldBits (v (ix2 s 0)) := by
  unfold fieldBits Hand.count
  pointwise [fieldV]

noncomputable def scaleV (v : FVec Idealize.ShloMosaic.Ideal S512x1 .f32) : FVec Idealize.ShloMosaic.Ideal S512x1 .f32 :=
  select (cmpf .oeq v (broadcast S512x1 (Scalar.ofBits .f32 0x00000000#32))) (broadcast S512x1 (Scalar.ofBits .f32 0x3F800000#32))
    (bitcastToFloat .f32 (addi (fieldV v) (broadcast S512x1 8388608#32)))

noncomputable def invV (v : FVec Idealize.ShloMosaic.Ideal S512x1 .f32) : FVec Idealize.ShloMosaic.Ideal S512x1 .f32 :=
  select (cmpf .oeq v (broadcast S512x1 (Scalar.ofBits .f32 0x00000000#32))) (broadcast S512x1 (Scalar.ofBits .f32 0x3F800000#32))
    (bitcastToFloat .f32 (subi (broadcast S512x1 2122317824#32) (fieldV v)))

theorem scaleV_apply (v : FVec Idealize.ShloMosaic.Ideal S512x1 .f32) (s : Fin 512) (h : 0 ≤ v (ix2 s 0)) :
    scaleV v (ix2 s 0) = qscale (v (ix2 s 0)) := by
  rw [← (quant_eq _ h).1, ← fieldV_apply]
  pointwise [scaleV]

theorem invV_apply (v : FVec Idealize.ShloMosaic.Ideal S512x1 .f32) (s : Fin 512) (h : 0 ≤ v (ix2 s 0)) :
    invV v (ix2 s 0) = qinv (v (ix2 s 0)) := by
  rw [← (quant_eq _ h).2, ← fieldV_apply]
  pointwise [invV]

/-- The codes of a block of rows, given the column of row maxima. -/
noncomputable def codeV (f : FVec Idealize.ShloMosaic.Ideal S512x128 .f32) (v : FVec Idealize.ShloMosaic.Ideal S512x1 .f32) : FVec Idealize.ShloMosaic.Ideal S512x128 .fp8e4m3 :=
  truncf .fp8e4m3 (minimumf (broadcast S512x128 (Scalar.ofBits .f32 0x43E00000#32)) (maximumf (broadcast S512x128 (Scalar.ofBits .f32 0xC3E00000#32))
    (mulf f (broadcastTo S512x128 (invV v) broadcasts_S512x1_S512x128)))) bitsLt_fp8e4m3_f32

theorem codeV_apply (f : FVec Idealize.ShloMosaic.Ideal S512x128 .f32) (s : Fin 512) (d : Fin 128) :
    codeV f (colMax f) (ix2 s d) = rcode (fun k => f (ix2 s k)) d := by
  have h : invV (colMax f) (ix2 s 0) = qinv (rowmax fun k => f (ix2 s k)) := by
    rw [invV_apply _ _ (by rw [colMax_apply]; exact rowmax_nonneg _), colMax_apply]
  unfold rcode code
  rw [← h]
  generalize colMax f = w
  pointwise [codeV]

theorem scaleV_colMax (f : FVec Idealize.ShloMosaic.Ideal S512x128 .f32) (s : Fin 512) :
    scaleV (colMax f) (ix2 s 0) = rscale fun k => f (ix2 s k) := by
  rw [scaleV_apply _ _ (by rw [colMax_apply]; exact rowmax_nonneg _), colMax_apply]; rfl

theorem pay11_apply (x : Vec Idealize.ShloMosaic.Ideal S1x512x3584 .bf16) (s : Fin 512) :
    k0_pay11 (F := Idealize.ShloMosaic.Ideal) x (ix2 s 0) = rscale fun k => x (ix3 0 s k) :=
  (scaleV_apply (k0_pay8 x) s (by rw [pay8_apply]; exact rowmax_nonneg _)).trans (congrArg qscale (pay8_apply x s))

theorem pay13_apply (x : Vec Idealize.ShloMosaic.Ideal S1x512x3584 .bf16) (s : Fin 512) (d : Fin 3584) :
    k0_pay13 (F := Idealize.ShloMosaic.Ideal) (k0_pay7 x) (k0_pay12 x) (ix2 s d) = rcode (fun k => x (ix3 0 s k)) d := by
  have h : invV (k0_pay8 x) (ix2 s 0) = qinv (rowmax fun k => x (ix3 0 s k)) :=
    (invV_apply (k0_pay8 x) s (by rw [pay8_apply]; exact rowmax_nonneg _)).trans (congrArg qinv (pay8_apply x s))
  have e : k0_pay12 (F := Idealize.ShloMosaic.Ideal) x = broadcastTo S512x3584 (truncf .bf16 (invV (k0_pay8 x)) bitsLt_bf16_f32) broadcasts_S512x1_S512x3584 := rfl
  rw [e]
  unfold rcode code
  rw [← h]
  generalize invV (k0_pay8 x) = w
  pointwise [k0_pay13, k0_pay7]

theorem pay25_apply (v36 : FVec Idealize.ShloMosaic.Ideal S512x1 .f32) (v48 : FVec Idealize.ShloMosaic.Ideal S512x3584 .fp8e4m3)
    (w : Vec Idealize.ShloMosaic.Ideal S3584x512 .fp8e4m3) (ws b : Vec Idealize.ShloMosaic.Ideal S1x512 .f32) (s n : Fin 512) :
    k0_pay25 (F := Idealize.ShloMosaic.Ideal) v36 v48 w ws b (ix2 s n) =
      (∑ k, v48 (ix2 s k) * w (ix2 k n)) * v36 (ix2 s 0) * ws (ix2 0 n) + b (ix2 0 n) := by
  pointwise [k0_pay25]

theorem pay28_apply (v36 : FVec Idealize.ShloMosaic.Ideal S512x1 .f32) (v48 : FVec Idealize.ShloMosaic.Ideal S512x3584 .fp8e4m3)
    (w : Vec Idealize.ShloMosaic.Ideal S3584x512 .fp8e4m3) (ws b : Vec Idealize.ShloMosaic.Ideal S1x512 .f32) (s n : Fin 512) :
    k0_pay28 (F := Idealize.ShloMosaic.Ideal) (k0_pay26 v36 v48 w ws) (k0_pay27 b) (ix3 0 n s) =
      (∑ k, v48 (ix2 s k) * w (ix2 k n)) * v36 (ix2 s 0) * ws (ix2 0 n) + b (ix2 0 n) := by
  pointwise [k0_pay28, k0_pay26, k0_pay27]

theorem pay16_apply (v : FVec Idealize.ShloMosaic.Ideal S512x1 .f32) (s : Fin 512) (d : Fin 128) :
    k0_pay16 (F := Idealize.ShloMosaic.Ideal) v (ix3 0 s d) = v (ix2 s 0) := by
  pointwise [k0_pay16, k0_pay15]

theorem pay17_apply (v : FVec Idealize.ShloMosaic.Ideal S512x1 .f32) (s : Fin 512) :
    k0_pay17 (F := Idealize.ShloMosaic.Ideal) v (ix2 0 s) = v (ix2 s 0) := by
  pointwise [k0_pay17, k0_pay15]

theorem pay21_apply (a b : FVec Idealize.ShloMosaic.Ideal S64x512 .f32) (s : Fin 512) (d : Fin 128) :
    k0_pay21 (F := Idealize.ShloMosaic.Ideal) a b (ix2 s d) = twice (fun i => Ideal.cos (a (ix2 i s) * b (ix2 i s))) d := by
  unfold twice
  pointwise [k0_pay21, k0_pay20]

theorem pay22_apply (a b : FVec Idealize.ShloMosaic.Ideal S64x512 .f32) (s : Fin 512) (d : Fin 128) :
    k0_pay22 (F := Idealize.ShloMosaic.Ideal) a b (ix2 s d) =
      if d.val < 64 then 0 - twice (fun i => Ideal.sin (a (ix2 i s) * b (ix2 i s))) d else twice (fun i => Ideal.sin (a (ix2 i s) * b (ix2 i s))) d := by
  have e : k0_pay22 (F := Idealize.ShloMosaic.Ideal) a b (ix2 s d) = (if h : d.val < 64 then 0 - Ideal.sin (a (ix2 ⟨d.val, h⟩ s) * b (ix2 ⟨d.val, h⟩ s))
    else Ideal.sin (a (ix2 ⟨d.val - 64, by omega⟩ s) * b (ix2 ⟨d.val - 64, by omega⟩ s))) := by
    pointwise [k0_pay22, k0_pay20]
  rw [e]
  unfold twice
  by_cases h : d.val < 64
  · rw [dif_pos h, if_pos h, dif_pos h]
  · rw [dif_neg h, if_neg h, dif_neg h]

theorem pay23_apply (a b : FVec Idealize.ShloMosaic.Ideal S64x512 .f32) (s : Fin 512) (d : Fin 128) :
    k0_pay23 (F := Idealize.ShloMosaic.Ideal) a b (ix3 0 s d) = k0_pay21 a b (ix2 s d) := by
  unfold k0_pay23
  generalize k0_pay21 a b = w
  pointwise

theorem pay24_apply (a b : FVec Idealize.ShloMosaic.Ideal S64x512 .f32) (s : Fin 512) (d : Fin 128) :
    k0_pay24 (F := Idealize.ShloMosaic.Ideal) a b (ix3 0 s d) = k0_pay22 a b (ix2 s d) := by
  unfold k0_pay24
  generalize k0_pay22 a b = w
  pointwise

theorem pay18_apply (p0 p1 p2 : Vec Idealize.ShloMosaic.Ideal S1x1x512 .i32) (i : Fin 64) (s : Fin 512) :
    k0_pay18 (F := Idealize.ShloMosaic.Ideal) p0 p1 p2 (ix2 i s) = FloatOps.sitofp .f32 (section3 (p0 (ix3 0 0 s)) (p1 (ix3 0 0 s)) (p2 (ix3 0 0 s)) i) := by
  unfold section3
  pointwise [k0_pay18]
  rfl

theorem pay19_apply (fr : Vec Idealize.ShloMosaic.Ideal S64x1 .f32) (i : Fin 64) (s : Fin 512) :
    k0_pay19 (F := Idealize.ShloMosaic.Ideal) fr (ix2 i s) = fr (ix2 i 0) := by
  pointwise [k0_pay19]

/-! ## One head of the keys -/

/-- The rotary embedding of a block of one head's rows. -/
noncomputable def ropeF (c sn f : FVec Idealize.ShloMosaic.Ideal S512x128 .f32) : FVec Idealize.ShloMosaic.Ideal S512x128 .f32 :=
  addf (mulf f c) (mulf (dynamicRotate 1 64#32 none f rotates_S512x128_d1) sn)

theorem ropeF_apply (c sn f : FVec Idealize.ShloMosaic.Ideal S512x128 .f32) (s : Fin 512) (d : Fin 128) :
    ropeF c sn f (ix2 s d) = ropeRoll (fun k => f (ix2 s k)) (fun k => c (ix2 s k)) (fun k => sn (ix2 s k)) d := by
  unfold ropeRoll
  pointwise [ropeF]

theorem ropeF_row (c sn f : FVec Idealize.ShloMosaic.Ideal S512x128 .f32) (s : Fin 512) :
    (fun d => ropeF c sn f (ix2 s d)) = ropeRoll (fun k => f (ix2 s k)) (fun k => c (ix2 s k)) (fun k => sn (ix2 s k)) :=
  funext fun d => ropeF_apply c sn f s d

/-- The columns of one head. -/
theorem slice_apply (o : ℕ) (y : FVec Idealize.ShloMosaic.Ideal S512x512 .f32) (hs : S512x512.Slices ![0, o] S512x128) (s : Fin 512) (d : Fin 128) (h : o + d.val < 512) :
    extractStridedSlice S512x128 ![0, o] y hs (ix2 s d) = y (ix2 s ⟨o + d.val, h⟩) := by
  pointwise

/-- The codes of one head: as written to the head-major codes, -/
theorem kcode_apply (c sn f : FVec Idealize.ShloMosaic.Ideal S512x128 .f32) (s : Fin 512) (d : Fin 128) :
    shapeCast S1x1x512x128 (codeV (ropeF c sn f) (colMax (ropeF c sn f))) shapeCasts_S512x128_S1x1x512x128 (ix4 0 0 s d) =
      rcode (ropeRoll (fun k => f (ix2 s k)) (fun k => c (ix2 s k)) (fun k => sn (ix2 s k))) d := by
  rw [← ropeF_row c sn f s]
  rw [← codeV_apply]
  generalize codeV _ _ = w
  pointwise

/-- and to the row-major codes. -/
theorem kcode'_apply (c sn f : FVec Idealize.ShloMosaic.Ideal S512x128 .f32) (s : Fin 512) (d : Fin 128) :
    shapeCast S1x512x1x128 (codeV (ropeF c sn f) (colMax (ropeF c sn f))) shapeCasts_S512x128_S1x512x1x128 (ix4 0 s 0 d) =
      rcode (ropeRoll (fun k => f (ix2 s k)) (fun k => c (ix2 s k)) (fun k => sn (ix2 s k))) d := by
  rw [← ropeF_row c sn f s]
  rw [← codeV_apply]
  generalize codeV _ _ = w
  pointwise

theorem krep_apply (c sn f : FVec Idealize.ShloMosaic.Ideal S512x128 .f32) (s : Fin 512) (d : Fin 128) :
    k0_pay5 (scaleV (colMax (ropeF c sn f))) (ix4 0 0 s d) =
      rscale (ropeRoll (fun k => f (ix2 s k)) (fun k => c (ix2 s k)) (fun k => sn (ix2 s k))) := by
  rw [← ropeF_row c sn f s]
  rw [← scaleV_colMax]
  generalize scaleV _ = w
  pointwise [k0_pay5, k0_pay4]

theorem kscale_apply (c sn f : FVec Idealize.ShloMosaic.Ideal S512x128 .f32) (s : Fin 512) :
    k0_pay6 (scaleV (colMax (ropeF c sn f))) (ix3 0 0 s) =
      rscale (ropeRoll (fun k => f (ix2 s k)) (fun k => c (ix2 s k)) (fun k => sn (ix2 s k))) := by
  rw [← ropeF_row c sn f s]
  rw [← scaleV_colMax]
  generalize scaleV _ = w
  pointwise [k0_pay6, k0_pay4]

end Cert.KernelIdeal.Hand

end
-- ==== Proof.KIVal0.lean ====
module

public import proofs.«01_k».proof.Proof.KIReg0
public import proofs.«01_k».proof.Proof.KIVec0
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Cert.Hand
open scoped BigOperators

variable (V : (c : Dev nD) → (b : Ref sig .tc) → Buf (Elt Idealize.ShloMosaic.Ideal) ((c : Thread nD τ).loc b))

/-! ## What one point of the first region writes, entry by entry

The projection of a block of 512 tokens onto the four key heads and the four value heads, rotated, coded and written in
the layouts that the attention reads. -/

/-- The three position sections of a block, laid along the 64 pairs, -/
abbrev P0 (c : Dev nD) (t : Fin cfg0.N) : FVec Idealize.ShloMosaic.Ideal S64x512 .f32 :=
  k0_pay18 (View.ld (iblk0 V c 0 t) (Rect.unit (k0_off2 (grid0.coords t)) ![1, 1, 512] (k0_off2_inb (grid0.coords t))))
    (View.ld (iblk0 V c 0 t) (Rect.unit (k0_off3 (grid0.coords t)) ![1, 1, 512] (k0_off3_inb (grid0.coords t))))
    (View.ld (iblk0 V c 0 t) (Rect.unit (k0_off4 (grid0.coords t)) ![1, 1, 512] (k0_off4_inb (grid0.coords t))))

/-- the frequency of each pair, -/
abbrev Q0 (c : Dev nD) (t : Fin cfg0.N) : FVec Idealize.ShloMosaic.Ideal S64x512 .f32 :=
  k0_pay19 (View.ld (iblk0 V c 1 t) (Rect.unit ![0, 0] ![64, 1] inb_S64x128_S64x1_0_0))

/-- and the key projection of the block. -/
abbrev Y0 (c : Dev nD) (t : Fin cfg0.N) : FVec Idealize.ShloMosaic.Ideal S512x512 .f32 :=
  k0_pay25 (k0_pay11 (iblk0 V c 2 t)) (k0_pay13 (k0_pay7 (iblk0 V c 2 t)) (k0_pay12 (iblk0 V c 2 t))) (iblk0 V c 3 t) (iblk0 V c 5 t) (iblk0 V c 7 t)

/-- A head of the block of keys, rotated. -/
abbrev K0 (c : Dev nD) (t : Fin cfg0.N) (o : ℕ) (hs : S512x512.Slices ![0, o] S512x128) : FVec Idealize.ShloMosaic.Ideal S512x128 .f32 :=
  ropeF (k0_pay21 (P0 V c t) (Q0 V c t)) (k0_pay22 (P0 V c t) (Q0 V c t)) (extractStridedSlice S512x128 ![0, o] (Y0 V c t) hs)

/-- Row `s` of the block of inputs. -/
def xrow (c : Dev nD) (t : Fin cfg0.N) (s : Fin 512) : Fin 3584 → EReal := fun k => iblk0 V c 2 t (ix3 0 s k)

/-- The position of token `s` of the block in section `j`. -/
def posAt (c : Dev nD) (t : Fin cfg0.N) (s : Fin 512) (j : Fin 3) : BitVec 32 :=
  iblk0 V c 0 t (ix3 j ⟨t.val / 2, by have : t.val < 4 := t.isLt; omega⟩ ⟨512 * (t.val % 2) + s.val, by omega⟩)

/-- The angle of pair `i` at token `s`. -/
def angle (c : Dev nD) (t : Fin cfg0.N) (s : Fin 512) (i : Fin 64) : EReal :=
  FloatOps.sitofp (F := Idealize.ShloMosaic.Ideal) .f32 (section3 (posAt V c t s 0) (posAt V c t s 1) (posAt V c t s 2) i) * iblk0 V c 1 t (ix2 i 0)

/-- The cosines of token `s`, and the sines with the sign of the first half turned. -/
def cosRow (c : Dev nD) (t : Fin cfg0.N) (s : Fin 512) : Fin 128 → EReal := twice fun i => Ideal.cos (angle V c t s i)
def sinRow (c : Dev nD) (t : Fin cfg0.N) (s : Fin 512) (d : Fin 128) : EReal :=
  if d.val < 64 then 0 - twice (fun i => Ideal.sin (angle V c t s i)) d else twice (fun i => Ideal.sin (angle V c t s i)) d

/-- Head `h` of token `s` of the block of keys, rotated. -/
def krow (c : Dev nD) (t : Fin cfg0.N) (h : Fin 4) (s : Fin 512) : Fin 128 → EReal :=
  ropeRoll (fun k => ycol (xrow V c t s) (fun j => iblk0 V c 3 t (ix2 j ⟨128 * h.val + k.val, by omega⟩))
    (iblk0 V c 5 t (ix2 0 ⟨128 * h.val + k.val, by omega⟩)) (iblk0 V c 7 t (ix2 0 ⟨128 * h.val + k.val, by omega⟩))) (cosRow V c t s) (sinRow V c t s)

theorem off2 : ∀ t : Fin cfg0.N, k0_off2 (grid0.coords t) = ![0, t.val / 2, 512 * (t.val % 2)] := by decide
theorem off3 : ∀ t : Fin cfg0.N, k0_off3 (grid0.coords t) = ![1, t.val / 2, 512 * (t.val % 2)] := by decide
theorem off4 : ∀ t : Fin cfg0.N, k0_off4 (grid0.coords t) = ![2, t.val / 2, 512 * (t.val % 2)] := by decide

/-- A row of positions read out of the whole array of positions. -/
theorem pos_ld (c : Dev nD) (t : Fin cfg0.N) (off : Fin 3 → ℕ) (inb) (j : Fin 3) (ho : off = ![j.val, t.val / 2, 512 * (t.val % 2)]) (s : Fin 512) :
    View.ld (iblk0 V c 0 t) (Rect.unit off ![1, 1, 512] inb) (ix3 0 0 s) = posAt V c t s j := by
  subst ho
  refine View.ld_unit_apply_of _ _ _ _ _ _ fun a => ?_
  match a with
  | ⟨0, _⟩ => rfl
  | ⟨1, _⟩ => rfl
  | ⟨2, _⟩ => rfl

theorem angle_eq (c : Dev nD) (t : Fin cfg0.N) (s : Fin 512) (i : Fin 64) : P0 V c t (ix2 i s) * Q0 V c t (ix2 i s) = angle V c t s i := by
  have e : View.ld (iblk0 V c 1 t) (Rect.unit ![0, 0] ![64, 1] inb_S64x128_S64x1_0_0) (ix2 i 0) = iblk0 V c 1 t (ix2 i 0) :=
    View.ld_unit_apply_of _ _ _ _ _ _ fun a => by
      match a with
      | ⟨0, _⟩ => exact (Nat.zero_add _).symm
      | ⟨1, _⟩ => rfl
  rw [P0, Q0, pay18_apply, pay19_apply, e, pos_ld V c t _ _ 0 (off2 t), pos_ld V c t _ _ 1 (off3 t), pos_ld V c t _ _ 2 (off4 t)]
  rfl

theorem cos_eq (c : Dev nD) (t : Fin cfg0.N) (s : Fin 512) : (fun d => k0_pay21 (P0 V c t) (Q0 V c t) (ix2 s d)) = cosRow V c t s := by
  funext d; simp only [pay21_apply, angle_eq]; rfl

theorem sin_eq (c : Dev nD) (t : Fin cfg0.N) (s : Fin 512) : (fun d => k0_pay22 (P0 V c t) (Q0 V c t) (ix2 s d)) = sinRow V c t s := by
  funext d; simp only [pay22_apply, angle_eq]; rfl

theorem Y0_apply (c : Dev nD) (t : Fin cfg0.N) (s n : Fin 512) :
    Y0 V c t (ix2 s n) = ycol (xrow V c t s) (fun j => iblk0 V c 3 t (ix2 j n)) (iblk0 V c 5 t (ix2 0 n)) (iblk0 V c 7 t (ix2 0 n)) := by
  rw [Y0, pay25_apply, pay11_apply]
  simp only [pay13_apply]
  rfl

/-- The head's rotated rows are the rotated rows of its columns. -/
theorem K0_row (c : Dev nD) (t : Fin cfg0.N) (h : Fin 4) (hs : S512x512.Slices ![0, 128 * h.val] S512x128) (s : Fin 512) :
    ropeRoll (fun k => extractStridedSlice S512x128 ![0, 128 * h.val] (Y0 V c t) hs (ix2 s k)) (fun k => k0_pay21 (P0 V c t) (Q0 V c t) (ix2 s k))
      (fun k => k0_pay22 (P0 V c t) (Q0 V c t) (ix2 s k)) = krow V c t h s := by
  rw [cos_eq, sin_eq]
  refine congrArg (fun f => ropeRoll f (cosRow V c t s) (sinRow V c t s)) (funext fun k => ?_)
  rw [slice_apply _ _ _ _ _ (by omega), Y0_apply]

/-! ### The pieces -/

/-- The codes of head `h`, head-major, -/
theorem head_code (c : Dev nD) (t : Fin cfg0.N) (h : Fin 4) (hs : S512x512.Slices ![0, 128 * h.val] S512x128) (s : Fin 512) (d : Fin 128) :
    shapeCast S1x1x512x128 (codeV (K0 V c t (128 * h.val) hs) (colMax (K0 V c t (128 * h.val) hs))) shapeCasts_S512x128_S1x1x512x128 (ix4 0 0 s d) = rcode (krow V c t h s) d :=
  (kcode_apply _ _ _ s d).trans (congrArg (rcode · d) (K0_row V c t h hs s))

/-- token-major, -/
theorem head_code' (c : Dev nD) (t : Fin cfg0.N) (h : Fin 4) (hs : S512x512.Slices ![0, 128 * h.val] S512x128) (s : Fin 512) (d : Fin 128) :
    shapeCast S1x512x1x128 (codeV (K0 V c t (128 * h.val) hs) (colMax (K0 V c t (128 * h.val) hs))) shapeCasts_S512x128_S1x512x1x128 (ix4 0 s 0 d) = rcode (krow V c t h s) d :=
  (kcode'_apply _ _ _ s d).trans (congrArg (rcode · d) (K0_row V c t h hs s))

/-- its scales spread over the head, -/
theorem head_rep (c : Dev nD) (t : Fin cfg0.N) (h : Fin 4) (hs : S512x512.Slices ![0, 128 * h.val] S512x128) (s : Fin 512) (d : Fin 128) :
    k0_pay5 (scaleV (colMax (K0 V c t (128 * h.val) hs))) (ix4 0 0 s d) = rscale (krow V c t h s) :=
  (krep_apply _ _ _ s d).trans (congrArg rscale (K0_row V c t h hs s))

/-- and its scales. -/
theorem head_scale (c : Dev nD) (t : Fin cfg0.N) (h : Fin 4) (hs : S512x512.Slices ![0, 128 * h.val] S512x128) (s : Fin 512) :
    k0_pay6 (scaleV (colMax (K0 V c t (128 * h.val) hs))) (ix3 0 0 s) = rscale (krow V c t h s) :=
  (kscale_apply _ _ _ s).trans (congrArg rscale (K0_row V c t h hs s))

/-- A piece holding one head, read at an index of the window. -/
theorem tile_head {e : EltTy} (j : Fin 4) (w : S1x1x512x128.Idx → Elt Idealize.ShloMosaic.Ideal e) (G : Fin 4 → Fin 512 → Fin 128 → Elt Idealize.ShloMosaic.Ideal e)
    (hw : ∀ s d, w (ix4 0 0 s d) = G j s d) (h : Fin 4) (s : Fin 512) (d : Fin 128) :
    View.TileAt (Val := Elt Idealize.ShloMosaic.Ideal) (e := e) (S := S1x4x512x128) (ix4 0 h s d) ![0, j.val, 0, 0] ![1, 1, 512, 128] w (G h s d) := by
  intro x hx
  have e1 : h.val = j.val + (x 1).val := hx 1
  have e2 : s.val = 0 + (x 2).val := hx 2
  have e3 : d.val = 0 + (x 3).val := hx 3
  have b1 : (x 1).val < 1 := (x 1).isLt
  have b0 : (x 0).val < 1 := (x 0).isLt
  obtain rfl : h = j := Fin.ext (by omega)
  rw [← hw]
  refine congrArg w ((eq_ix4 x).trans ?_)
  have c0 : x 0 = (0 : Fin 1) := Fin.ext (by show (x 0).val = 0; omega)
  have c1 : x 1 = (0 : Fin 1) := Fin.ext (by show (x 1).val = 0; omega)
  have c2 : x 2 = s := Fin.ext (by omega)
  have c3 : x 3 = d := Fin.ext (by omega)
  rw [c0, c1, c2, c3]

/-- The same for a row of scales. -/
theorem tile_scale {e : EltTy} (j : Fin 4) (w : S1x1x512.Idx → Elt Idealize.ShloMosaic.Ideal e) (G : Fin 4 → Fin 512 → Elt Idealize.ShloMosaic.Ideal e)
    (hw : ∀ s, w (ix3 0 0 s) = G j s) (h : Fin 4) (s : Fin 512) :
    View.TileAt (Val := Elt Idealize.ShloMosaic.Ideal) (e := e) (S := S1x4x512) (ix3 0 h s) ![0, j.val, 0] ![1, 1, 512] w (G h s) := by
  intro x hx
  have e1 : h.val = j.val + (x 1).val := hx 1
  have e2 : s.val = 0 + (x 2).val := hx 2
  have b1 : (x 1).val < 1 := (x 1).isLt
  have b0 : (x 0).val < 1 := (x 0).isLt
  obtain rfl : h = j := Fin.ext (by omega)
  rw [← hw]
  refine congrArg w ((eq_ix3 x).trans ?_)
  have c0 : x 0 = (0 : Fin 1) := Fin.ext (by show (x 0).val = 0; omega)
  have c1 : x 1 = (0 : Fin 1) := Fin.ext (by show (x 1).val = 0; omega)
  have c2 : x 2 = s := Fin.ext (by omega)
  rw [c0, c1, c2]

/-- Four pieces, one head each. -/
theorem canon_heads {e : EltTy} (w : Fin 4 → S1x1x512x128.Idx → Elt Idealize.ShloMosaic.Ideal e) (G : Fin 4 → Fin 512 → Fin 128 → Elt Idealize.ShloMosaic.Ideal e)
    (hw : ∀ j s d, w j (ix4 0 0 s d) = G j s d) (L : List (View.Piece (Elt Idealize.ShloMosaic.Ideal) S1x4x512x128 e))
    (hL : L = [⟨Rect.unit ![0, 3, 0, 0] ![1, 1, 512, 128] inb_S1x4x512x128_S1x1x512x128_0_3_0_0, w 3⟩, ⟨Rect.unit ![0, 2, 0, 0] ![1, 1, 512, 128] inb_S1x4x512x128_S1x1x512x128_0_2_0_0, w 2⟩,
      ⟨Rect.unit ![0, 1, 0, 0] ![1, 1, 512, 128] inb_S1x4x512x128_S1x1x512x128_0_1_0_0, w 1⟩, ⟨Rect.unit ![0, 0, 0, 0] ![1, 1, 512, 128] inb_S1x4x512x128_S1x1x512x128_0_0_0_0, w 0⟩])
    (h : Fin 4) (s : Fin 512) (d : Fin 128) (hc : ∃ p ∈ L, ix4 0 h s d ∈ p.1.set) : View.canon L (ix4 0 h s d) = G h s d := by
  refine View.canon_eq_of_allAt _ _ _ hc ?_
  rw [hL]
  exact View.allAt_cons_unit _ _ _ _ _ (tile_head 3 (w 3) G (hw 3) h s d) (View.allAt_cons_unit _ _ _ _ _ (tile_head 2 (w 2) G (hw 2) h s d)
    (View.allAt_cons_unit _ _ _ _ _ (tile_head 1 (w 1) G (hw 1) h s d) (View.allAt_cons_unit _ _ _ _ _ (tile_head 0 (w 0) G (hw 0) h s d) (View.allAt_nil _ _))))

theorem canon_scales {e : EltTy} (w : Fin 4 → S1x1x512.Idx → Elt Idealize.ShloMosaic.Ideal e) (G : Fin 4 → Fin 512 → Elt Idealize.ShloMosaic.Ideal e)
    (hw : ∀ j s, w j (ix3 0 0 s) = G j s) (L : List (View.Piece (Elt Idealize.ShloMosaic.Ideal) S1x4x512 e))
    (hL : L = [⟨Rect.unit ![0, 3, 0] ![1, 1, 512] inb_S1x4x512_S1x1x512_0_3_0, w 3⟩, ⟨Rect.unit ![0, 2, 0] ![1, 1, 512] inb_S1x4x512_S1x1x512_0_2_0, w 2⟩,
      ⟨Rect.unit ![0, 1, 0] ![1, 1, 512] inb_S1x4x512_S1x1x512_0_1_0, w 1⟩, ⟨Rect.unit ![0, 0, 0] ![1, 1, 512] inb_S1x4x512_S1x1x512_0_0_0, w 0⟩])
    (h : Fin 4) (s : Fin 512) (hc : ∃ p ∈ L, ix3 0 h s ∈ p.1.set) : View.canon L (ix3 0 h s) = G h s := by
  refine View.canon_eq_of_allAt _ _ _ hc ?_
  rw [hL]
  exact View.allAt_cons_unit _ _ _ _ _ (tile_scale 3 (w 3) G (hw 3) h s) (View.allAt_cons_unit _ _ _ _ _ (tile_scale 2 (w 2) G (hw 2) h s)
    (View.allAt_cons_unit _ _ _ _ _ (tile_scale 1 (w 1) G (hw 1) h s) (View.allAt_cons_unit _ _ _ _ _ (tile_scale 0 (w 0) G (hw 0) h s) (View.allAt_nil _ _))))

/-- Where each head's columns start. -/
theorem headSlices : ∀ j : Fin 4, S512x512.Slices ![0, 128 * j.val] S512x128
  | 0 => slices_S512x512_o0_0_S512x128
  | 1 => slices_S512x512_o0_128_S512x128
  | 2 => slices_S512x512_o0_256_S512x128
  | 3 => slices_S512x512_o0_384_S512x128

/-! ### The windows -/

theorem canon15 (c : Dev nD) (t : Fin cfg0.N) (h : Fin 4) (s : Fin 512) (d : Fin 128) : View.canon (L0_15 V c t) (ix4 0 h s d) = rcode (krow V c t h s) d := by
  refine canon_heads (fun j => shapeCast S1x1x512x128 (codeV (K0 V c t (128 * j.val) (headSlices j)) (colMax (K0 V c t (128 * j.val) (headSlices j)))) shapeCasts_S512x128_S1x1x512x128)
    (fun h s d => rcode (krow V c t h s) d) (fun j s d => head_code V c t j _ s d) _ ?_ h s d (cover0_15 V c t _)
  unfold L0_15 run0 kernelRun0
  dsimp only
  frame_open
  simp (disch := decide) only [View.readAt_eq_ld, View.ld_unit_lit', Memref.IsWhole.read_unread]
  rfl

theorem canon17 (c : Dev nD) (t : Fin cfg0.N) (h : Fin 4) (s : Fin 512) (d : Fin 128) : View.canon (L0_17 V c t) (ix4 0 h s d) = rscale (krow V c t h s) := by
  refine canon_heads (fun j => k0_pay5 (scaleV (colMax (K0 V c t (128 * j.val) (headSlices j)))))
    (fun h s d => rscale (krow V c t h s)) (fun j s d => head_rep V c t j _ s d) _ ?_ h s d (cover0_17 V c t _)
  unfold L0_17 run0 kernelRun0
  dsimp only
  frame_open
  simp (disch := decide) only [View.readAt_eq_ld, View.ld_unit_lit', Memref.IsWhole.read_unread]
  rfl

theorem canon16 (c : Dev nD) (t : Fin cfg0.N) (h : Fin 4) (s : Fin 512) : View.canon (L0_16 V c t) (ix3 0 h s) = rscale (krow V c t h s) := by
  refine canon_scales (fun j => k0_pay6 (scaleV (colMax (K0 V c t (128 * j.val) (headSlices j)))))
    (fun h s => rscale (krow V c t h s)) (fun j s => head_scale V c t j _ s) _ ?_ h s (cover0_16 V c t _)
  unfold L0_16 run0 kernelRun0
  dsimp only
  frame_open
  simp (disch := decide) only [View.readAt_eq_ld, View.ld_unit_lit', Memref.IsWhole.read_unread]
  rfl

theorem canon9 (c : Dev nD) (t : Fin cfg0.N) (s : Fin 512) (d : Fin 3584) : View.canon (L0_9 V c t) (ix3 0 s d) = rcode (xrow V c t s) d := by
  unfold L0_9 run0 kernelRun0
  dsimp only
  frame_out
  unfold k0_pay14
  refine Eq.trans ?_ (pay13_apply (iblk0 V c 2 t) s d)
  generalize k0_pay13 (k0_pay7 (iblk0 V c 2 t)) (k0_pay12 (iblk0 V c 2 t)) = w
  pointwise

theorem canon11 (c : Dev nD) (t : Fin cfg0.N) (s : Fin 512) (d : Fin 128) : View.canon (L0_11 V c t) (ix3 0 s d) = rscale (xrow V c t s) := by
  unfold L0_11 run0 kernelRun0
  dsimp only
  frame_out
  rw [pay16_apply, pay11_apply]
  rfl

theorem canon12 (c : Dev nD) (t : Fin cfg0.N) (s : Fin 512) (d : Fin 128) : View.canon (L0_12 V c t) (ix3 0 s d) = cosRow V c t s d := by
  unfold L0_12 run0 kernelRun0
  dsimp only
  frame_out
  exact (pay23_apply (P0 V c t) (Q0 V c t) s d).trans (congrFun (cos_eq V c t s) d)

theorem canon13 (c : Dev nD) (t : Fin cfg0.N) (s : Fin 512) (d : Fin 128) : View.canon (L0_13 V c t) (ix3 0 s d) = sinRow V c t s d := by
  unfold L0_13 run0 kernelRun0
  dsimp only
  frame_out
  exact (pay24_apply (P0 V c t) (Q0 V c t) s d).trans (congrFun (sin_eq V c t s) d)

theorem canon18 (c : Dev nD) (t : Fin cfg0.N) (n : Fin 512) (s : Fin 512) : View.canon (L0_18 V c t) (ix3 0 n s) =
    ycol (xrow V c t s) (fun j => iblk0 V c 4 t (ix2 j n)) (iblk0 V c 6 t (ix2 0 n)) (iblk0 V c 8 t (ix2 0 n)) := by
  unfold L0_18 run0 kernelRun0
  dsimp only
  frame_out
  rw [pay28_apply, pay11_apply]
  simp only [pay13_apply]
  rfl

/-- The row of scales that a point writes. -/
theorem pieces10 (c : Dev nD) (t : Fin cfg0.N) : L0_10 V c t = [⟨Rect.unit (k0_off1 (grid0.coords t)) S1x512.size (k0_off1_inb (grid0.coords t)), k0_pay17 (k0_pay11 (iblk0 V c 2 t))⟩] := by
  unfold L0_10 run0 kernelRun0
  dsimp only
  frame_open
  simp (disch := decide) only [View.readAt_eq_ld, View.ld_unit_lit', Memref.IsWhole.read_unread]

/-- A window agrees with `G` on its first `k` heads. -/
def Upto (k : ℕ) (z : Vec Idealize.ShloMosaic.Ideal S1x512x4x128 .fp8e4m3) (G : Fin 4 → Fin 512 → Fin 128 → EReal) : Prop :=
  ∀ y : Shape.Idx S1x512x4x128, (y 2).val < k → z y = G (y 2) (y 1) (y 3)

/-- Replacing the next head by its values extends the agreement. -/
theorem Upto.step (j : Fin 4) {z : Vec Idealize.ShloMosaic.Ideal S1x512x4x128 .fp8e4m3} {G : Fin 4 → Fin 512 → Fin 128 → EReal} (h : Upto j.val z G)
    (w : Vec Idealize.ShloMosaic.Ideal S1x512x1x128 .fp8e4m3) (hs : S1x512x4x128.Slices ![0, 0, j.val, 0] S1x512x1x128) (hw : ∀ s d, w (ix4 0 s 0 d) = G j s d) :
    Upto (j.val + 1) (updateSlice z w ![0, 0, j.val, 0] hs) G := by
  intro y hy
  rw [updateSlice_slab]
  by_cases hk : (y 2).val = j.val
  · rw [if_pos hk]
    have e2 : y 2 = j := Fin.ext hk
    rw [e2]
    refine Eq.trans ?_ (hw (y 1) (y 3))
    refine congrArg w ((eq_ix4 _).trans ?_)
    have c0 : y 0 = (0 : Fin 1) := Fin.ext (by have : (y 0).val < 1 := (y 0).isLt; show (y 0).val = 0; omega)
    show ix4 (y 0) (y 1) 0 (y 3) = _
    rw [c0]
    rfl
  · rw [if_neg hk]; exact h y (by omega)

/-- The same, read back from the buffer. -/
theorem Upto.stepCov (j : Fin 4) {z : Vec Idealize.ShloMosaic.Ideal S1x512x4x128 .fp8e4m3} {G : Fin 4 → Fin 512 → Fin 128 → EReal} (h : Upto j.val z G)
    (w : Vec Idealize.ShloMosaic.Ideal S1x512x1x128 .fp8e4m3) (hs : S1x512x4x128.Slices ![0, 0, j.val, 0] S1x512x1x128) (hw : ∀ s d, w (ix4 0 s 0 d) = G j s d)
    {sp : Space} (v : View sig .tc sp S1x512x4x128 .fp8e4m3)
    {off off' : Fin 4 → ℕ} (inb : ∀ a, off a + S1x512x4x128.size a ≤ S1x512x4x128.size a)
    (inb' : ∀ a, off' a + S1x512x4x128.size a ≤ S1x512x4x128.size a) (L : List (View.Piece (Elt Idealize.ShloMosaic.Ideal) S1x512x4x128 .fp8e4m3)) :
    Upto (j.val + 1) (v.readCov (⟨Rect.unit off S1x512x4x128.size inb, updateSlice z w ![0, 0, j.val, 0] hs⟩ :: L) (Rect.unit off' S1x512x4x128.size inb').toLoadRect) G := by
  rw [readCov_full, canon_full]
  exact h.step j w hs hw

abbrev W14 (c : Dev nD) (t : Fin cfg0.N) (j : Fin 4) := shapeCast S1x512x1x128 (codeV (K0 V c t (128 * j.val) (headSlices j)) (colMax (K0 V c t (128 * j.val) (headSlices j)))) shapeCasts_S512x128_S1x512x1x128

theorem canon14 (c : Dev nD) (t : Fin cfg0.N) (h : Fin 4) (s : Fin 512) (d : Fin 128) : View.canon (L0_14 V c t) (ix4 0 s h d) = rcode (krow V c t h s) d := by
  have key : Upto 4 (View.canon (L0_14 V c t)) (fun h s d => rcode (krow V c t h s) d) := by
    unfold L0_14 run0 kernelRun0
    dsimp only
    frame_open
    simp (disch := decide) only [View.readAt_eq_ld, View.ld_unit_lit', Memref.IsWhole.read_unread]
    rw [canon_full]
    refine Upto.step 3 ?_ _ _ fun s d => head_code' V c t 3 (headSlices 3) s d
    refine Upto.stepCov 2 ?_ _ _ (fun s d => head_code' V c t 2 (headSlices 2) s d) _ _ _ _
    refine Upto.stepCov 1 ?_ _ _ (fun s d => head_code' V c t 1 (headSlices 1) s d) _ _ _ _
    refine Upto.stepCov 0 ?_ _ _ (fun s d => head_code' V c t 0 (headSlices 0) s d) _ _ _ _
    exact fun y hy => absurd hy (Nat.not_lt_zero _)
  exact key (ix4 0 s h d) h.isLt

end Cert.KernelIdeal.Hand

end
-- ==== Proof.KIArr0.lean ====
module

public import proofs.«01_k».proof.Proof.KIVal0

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Cert.Hand
open scoped BigOperators

variable (V : (c : Dev nD) → (b : Ref sig .tc) → Buf (Elt Idealize.ShloMosaic.Ideal) ((c : Thread nD τ).loc b))

/-! ## The arrays after the first region -/

/-- The angle of pair `i` at token `s` of sequence `b`. -/
def ang (c : Dev nD) (b : Fin 2) (s : Fin 1024) (i : Fin 64) : EReal :=
  FloatOps.sitofp (F := Idealize.ShloMosaic.Ideal) .f32 (section3 (V c main_arg4 (ix3 0 b s)) (V c main_arg4 (ix3 1 b s)) (V c main_arg4 (ix3 2 b s)) i) * V c main_v14 (ix2 i 0)

/-- The layer's inputs, read off the arrays at the region's entry. -/
def I0 (c : Dev nD) : In where
  x b s k := V c main_arg0 (ix3 b s k)
  w k n := V c main_arg1 (ix2 k n)
  ws n := V c main_v0 (ix2 0 n)
  bs n := V c main_v1 (ix2 0 n)
  cos b s := twice fun i => Ideal.cos (ang V c b s i)
  sin b s := twice fun i => Ideal.sin (ang V c b s i)

/-- The sequence and the token that row `s` of the block at point `t` is. -/
def bOf (t : Fin cfg0.N) : Fin 2 := ⟨t.val / 2, by have : t.val < 4 := t.isLt; omega⟩
def sOf (t : Fin cfg0.N) (s : Fin 512) : Fin 1024 := ⟨512 * (t.val % 2) + s.val, by omega⟩

theorem idx0 : ∀ t : Fin cfg0.N, win0_0.index t = ![0, 0, 0] ∧ win0_1.index t = ![0, 0] ∧ win0_2.index t = ![t.val / 2, t.val % 2, 0] ∧ win0_3.index t = ![0, 7] ∧
    win0_4.index t = ![0, 8] ∧ win0_5.index t = ![0, 7] ∧ win0_6.index t = ![0, 8] ∧ win0_7.index t = ![0, 7] ∧ win0_8.index t = ![0, 8] :=
  (by decide +kernel : ∀ t : Fin grid0.N, _)

theorem idx0' : ∀ t : Fin cfg0.N, win0_9.index t = ![t.val / 2, t.val % 2, 0] ∧ win0_10.index t = ![0, 0] ∧ win0_11.index t = ![t.val / 2, t.val % 2, 0] ∧
    win0_12.index t = ![t.val / 2, t.val % 2, 0] ∧ win0_13.index t = ![t.val / 2, t.val % 2, 0] ∧ win0_14.index t = ![t.val / 2, t.val % 2, 0, 0] ∧
    win0_15.index t = ![t.val / 2, 0, t.val % 2, 0] ∧ win0_16.index t = ![t.val / 2, 0, t.val % 2] ∧ win0_17.index t = ![t.val / 2, 0, t.val % 2, 0] ∧
    win0_18.index t = ![t.val / 2, 0, t.val % 2] :=
  (by decide +kernel : ∀ t : Fin grid0.N, _)

theorem xrow_eq (c : Dev nD) (t : Fin cfg0.N) (s : Fin 512) : xrow V c t s = (I0 V c).x (bOf t) (sOf t s) := by
  funext k
  show iblk0 V c 2 t (ix3 0 s k) = V c main_arg0 (ix3 (bOf t) (sOf t s) k)
  unfold bOf sOf
  blk_ext [iblk0, idx0 t]

theorem posAt_eq (c : Dev nD) (t : Fin cfg0.N) (s : Fin 512) (j : Fin 3) : posAt V c t s j = V c main_arg4 (ix3 j (bOf t) (sOf t s)) := by
  show iblk0 V c 0 t _ = _
  unfold bOf sOf
  blk_ext [iblk0, idx0 t]

theorem freq_eq (c : Dev nD) (t : Fin cfg0.N) (i : Fin 64) : iblk0 V c 1 t (ix2 i 0) = V c main_v14 (ix2 i 0) := by
  blk_ext [iblk0, idx0 t]

theorem angleB_eq (c : Dev nD) (t : Fin cfg0.N) (s : Fin 512) : angle V c t s = ang V c (bOf t) (sOf t s) := by
  funext i
  unfold angle ang
  rw [posAt_eq, posAt_eq, posAt_eq, freq_eq]

theorem wk_eq (c : Dev nD) (t : Fin cfg0.N) (j : Fin 3584) (n : Fin 512) : iblk0 V c 3 t (ix2 j n) = V c main_arg1 (ix2 j ⟨3584 + n.val, by omega⟩) := by
  blk_ext [iblk0, idx0 t]
theorem wv_eq (c : Dev nD) (t : Fin cfg0.N) (j : Fin 3584) (n : Fin 512) : iblk0 V c 4 t (ix2 j n) = V c main_arg1 (ix2 j ⟨4096 + n.val, by omega⟩) := by
  blk_ext [iblk0, idx0 t]
theorem wsk_eq (c : Dev nD) (t : Fin cfg0.N) (n : Fin 512) : iblk0 V c 5 t (ix2 0 n) = V c main_v0 (ix2 0 ⟨3584 + n.val, by omega⟩) := by
  blk_ext [iblk0, idx0 t]
theorem wsv_eq (c : Dev nD) (t : Fin cfg0.N) (n : Fin 512) : iblk0 V c 6 t (ix2 0 n) = V c main_v0 (ix2 0 ⟨4096 + n.val, by omega⟩) := by
  blk_ext [iblk0, idx0 t]
theorem bk_eq (c : Dev nD) (t : Fin cfg0.N) (n : Fin 512) : iblk0 V c 7 t (ix2 0 n) = V c main_v1 (ix2 0 ⟨3584 + n.val, by omega⟩) := by
  blk_ext [iblk0, idx0 t]
theorem bv_eq (c : Dev nD) (t : Fin cfg0.N) (n : Fin 512) : iblk0 V c 8 t (ix2 0 n) = V c main_v1 (ix2 0 ⟨4096 + n.val, by omega⟩) := by
  blk_ext [iblk0, idx0 t]

theorem cosRow_eq (c : Dev nD) (t : Fin cfg0.N) (s : Fin 512) : cosRow V c t s = (I0 V c).cos (bOf t) (sOf t s) := by
  unfold cosRow; rw [angleB_eq]; rfl

theorem sinRow_eq (c : Dev nD) (t : Fin cfg0.N) (s : Fin 512) (d : Fin 128) : sinRow V c t s d =
    if d.val < 64 then 0 - (I0 V c).sin (bOf t) (sOf t s) d else (I0 V c).sin (bOf t) (sOf t s) d := by
  unfold sinRow; rw [angleB_eq]; rfl

theorem krow_eq (c : Dev nD) (t : Fin cfg0.N) (h : Fin 4) (s : Fin 512) : krow V c t h s = (I0 V c).k (bOf t) h (sOf t s) := by
  unfold krow
  rw [ropeRoll_eq _ _ _ _ (sinRow_eq V c t s), cosRow_eq, xrow_eq]
  simp only [wk_eq, wsk_eq, bk_eq]
  rfl

theorem vrow_eq (c : Dev nD) (t : Fin cfg0.N) (s n : Fin 512) :
    ycol (xrow V c t s) (fun j => iblk0 V c 4 t (ix2 j n)) (iblk0 V c 6 t (ix2 0 n)) (iblk0 V c 8 t (ix2 0 n)) = (I0 V c).v (bOf t) (sOf t s) n := by
  rw [xrow_eq]
  simp only [wv_eq, wsv_eq, bv_eq]
  rfl

/-! Every window of the region, as the array it leaves. -/

theorem idx3 {n1 n2 : ℕ} (y : (⟨3, ![1, n1, n2]⟩ : Shape).Idx) : ∃ s d, y = ix3 0 s d :=
  ⟨y 1, y 2, (eq_ix3 y).trans (congrArg (fun a => ix3 a (y 1) (y 2)) (Subsingleton.elim (α := Fin 1) (y 0) 0))⟩

theorem idx4 {n1 n2 n3 : ℕ} (y : (⟨4, ![1, n1, n2, n3]⟩ : Shape).Idx) : ∃ s d e, y = ix4 0 s d e :=
  ⟨y 1, y 2, y 3, (eq_ix4 y).trans (congrArg (fun a => ix4 a (y 1) (y 2) (y 3)) (Subsingleton.elim (α := Fin 1) (y 0) 0))⟩

theorem mem_of_accum {α : Type} {N P : ℕ} {L : Fin N → List α} {p : α} : ∀ n, p ∈ accum N P L n → ∃ u, p ∈ L u := by
  intro n
  induction n with
  | zero =>
    intro h
    unfold accum at h
    split at h
    · exact ⟨_, h⟩
    · exact absurd h List.not_mem_nil
  | succ n ih =>
    intro h
    unfold accum at h
    split at h
    · split at h
      · exact ⟨_, h⟩
      · rcases List.mem_append.mp h with h | h
        · exact ⟨_, h⟩
        · exact ih h
    · exact absurd h List.not_mem_nil

theorem arr9 (c : Dev nD) : (dat0 V c).arrAt 9 cfg0.N = fun j => (rcode ((I0 V c).x (j 0) (j 1)) (j 2) : EReal) := by
  refine (dat0 V c).arrAt_eq_of_covers 9 _ (by decide +kernel) fun t hf y => ?_
  obtain ⟨s, d, rfl⟩ : ∃ (s : Fin 512) (d : Fin 3584), y = ix3 (0 : Fin 1) s d := idx3 y
  blk_simp
  rw [after0_9]
  refine (canon9 V c t s d).trans ?_
  rw [xrow_eq]
  have hb : bOf t = (win0_9.blk t).view.emb (ix3 0 s d) 0 := Fin.ext (by show t.val / 2 = _; (blk_simp [idx0' t]) <;> omega)
  have hs : sOf t s = (win0_9.blk t).view.emb (ix3 0 s d) 1 := Fin.ext (by show 512 * (t.val % 2) + s.val = _; (blk_simp [idx0' t]) <;> omega)
  have hd : d = (win0_9.blk t).view.emb (ix3 0 s d) 2 := Fin.ext (by (blk_simp [idx0' t]) <;> omega)
  exact congr (congrArg rcode (congr (congrArg _ hb) hs)) hd
theorem arr11 (c : Dev nD) : (dat0 V c).arrAt 11 cfg0.N = fun j => (rscale ((I0 V c).x (j 0) (j 1)) : EReal) := by
  refine (dat0 V c).arrAt_eq_of_covers 11 _ (by decide +kernel) fun t hf y => ?_
  obtain ⟨s, d, rfl⟩ : ∃ (s : Fin 512) (d : Fin 128), y = ix3 (0 : Fin 1) s d := idx3 y
  blk_simp
  rw [after0_11]
  refine (canon11 V c t s d).trans ?_
  rw [xrow_eq]
  have hb : bOf t = (win0_11.blk t).view.emb (ix3 0 s d) 0 := Fin.ext (by show t.val / 2 = _; (blk_simp [idx0' t]) <;> omega)
  have hs : sOf t s = (win0_11.blk t).view.emb (ix3 0 s d) 1 := Fin.ext (by show 512 * (t.val % 2) + s.val = _; (blk_simp [idx0' t]) <;> omega)
  exact congrArg rscale (congr (congrArg _ hb) hs)
theorem arr12 (c : Dev nD) : (dat0 V c).arrAt 12 cfg0.N = fun j => ((I0 V c).cos (j 0) (j 1) (j 2) : EReal) := by
  refine (dat0 V c).arrAt_eq_of_covers 12 _ (by decide +kernel) fun t hf y => ?_
  obtain ⟨s, d, rfl⟩ : ∃ (s : Fin 512) (d : Fin 128), y = ix3 (0 : Fin 1) s d := idx3 y
  blk_simp
  rw [after0_12]
  refine (canon12 V c t s d).trans ?_
  rw [cosRow_eq]
  have hb : bOf t = (win0_12.blk t).view.emb (ix3 0 s d) 0 := Fin.ext (by show t.val / 2 = _; (blk_simp [idx0' t]) <;> omega)
  have hs : sOf t s = (win0_12.blk t).view.emb (ix3 0 s d) 1 := Fin.ext (by show 512 * (t.val % 2) + s.val = _; (blk_simp [idx0' t]) <;> omega)
  have hd : d = (win0_12.blk t).view.emb (ix3 0 s d) 2 := Fin.ext (by (blk_simp [idx0' t]) <;> omega)
  exact congr (congr (congrArg _ hb) hs) hd
/-- The sine with the sign the rotation gives it: negative in the first half. -/
def ssin (c : Dev nD) (b : Fin 2) (s : Fin 1024) (d : Fin 128) : EReal := if d.val < 64 then 0 - (I0 V c).sin b s d else (I0 V c).sin b s d

theorem arr13 (c : Dev nD) : (dat0 V c).arrAt 13 cfg0.N = fun j => (ssin V c (j 0) (j 1) (j 2) : EReal) := by
  refine (dat0 V c).arrAt_eq_of_covers 13 _ (by decide +kernel) fun t hf y => ?_
  obtain ⟨s, d, rfl⟩ : ∃ (s : Fin 512) (d : Fin 128), y = ix3 (0 : Fin 1) s d := idx3 y
  blk_simp
  rw [after0_13]
  refine (canon13 V c t s d).trans ?_
  refine (sinRow_eq V c t s d).trans ?_
  have hb : bOf t = (win0_13.blk t).view.emb (ix3 0 s d) 0 := Fin.ext (by show t.val / 2 = _; (blk_simp [idx0' t]) <;> omega)
  have hs : sOf t s = (win0_13.blk t).view.emb (ix3 0 s d) 1 := Fin.ext (by show 512 * (t.val % 2) + s.val = _; (blk_simp [idx0' t]) <;> omega)
  have hd : d = (win0_13.blk t).view.emb (ix3 0 s d) 2 := Fin.ext (by (blk_simp [idx0' t]) <;> omega)
  have e : ssin V c (bOf t) (sOf t s) d = ssin V c ((win0_13.blk t).view.emb (ix3 0 s d) 0) ((win0_13.blk t).view.emb (ix3 0 s d) 1) ((win0_13.blk t).view.emb (ix3 0 s d) 2) :=
    congr (congr (congrArg (ssin V c) hb) hs) hd
  exact e
theorem arr16 (c : Dev nD) : (dat0 V c).arrAt 16 cfg0.N = fun j => (rscale ((I0 V c).k (j 0) (j 1) (j 2)) : EReal) := by
  refine (dat0 V c).arrAt_eq_of_covers 16 _ (by decide +kernel) fun t hf y => ?_
  obtain ⟨s, d, rfl⟩ : ∃ (s : Fin 4) (d : Fin 512), y = ix3 (0 : Fin 1) s d := idx3 y
  blk_simp
  rw [after0_16]
  refine (canon16 V c t s d).trans ?_
  rw [krow_eq]
  have hb : bOf t = (win0_16.blk t).view.emb (ix3 0 s d) 0 := Fin.ext (by show t.val / 2 = _; (blk_simp [idx0' t]) <;> omega)
  have hs : sOf t d = (win0_16.blk t).view.emb (ix3 0 s d) 2 := Fin.ext (by show 512 * (t.val % 2) + d.val = _; (blk_simp [idx0' t]) <;> omega)
  have hd : s = (win0_16.blk t).view.emb (ix3 0 s d) 1 := Fin.ext (by (blk_simp [idx0' t]) <;> omega)
  exact congrArg rscale (congr (congr (congrArg _ hb) hd) hs)
theorem arr18 (c : Dev nD) : (dat0 V c).arrAt 18 cfg0.N = fun j => ((I0 V c).v (j 0) (j 2) (j 1) : EReal) := by
  refine (dat0 V c).arrAt_eq_of_covers 18 _ (by decide +kernel) fun t hf y => ?_
  obtain ⟨s, d, rfl⟩ : ∃ (s : Fin 512) (d : Fin 512), y = ix3 (0 : Fin 1) s d := idx3 y
  blk_simp
  rw [after0_18]
  refine (canon18 V c t s d).trans ?_
  refine (vrow_eq V c t d s).trans ?_
  have hb : bOf t = (win0_18.blk t).view.emb (ix3 0 s d) 0 := Fin.ext (by show t.val / 2 = _; (blk_simp [idx0' t]) <;> omega)
  have hs : sOf t d = (win0_18.blk t).view.emb (ix3 0 s d) 2 := Fin.ext (by show 512 * (t.val % 2) + d.val = _; (blk_simp [idx0' t]) <;> omega)
  have hd : s = (win0_18.blk t).view.emb (ix3 0 s d) 1 := Fin.ext (by (blk_simp [idx0' t]) <;> omega)
  exact congr (congr (congrArg _ hb) hs) hd
theorem arr14 (c : Dev nD) : (dat0 V c).arrAt 14 cfg0.N = fun j => (rcode ((I0 V c).k (j 0) (j 2) (j 1)) (j 3) : EReal) := by
  refine (dat0 V c).arrAt_eq_of_covers 14 _ (by decide +kernel) fun t hf y => ?_
  obtain ⟨s, h, d, rfl⟩ : ∃ (a : Fin 512) (b : Fin 4) (d : Fin 128), y = ix4 (0 : Fin 1) a b d := idx4 y
  blk_simp
  rw [after0_14]
  refine (canon14 V c t h s d).trans ?_
  rw [krow_eq]
  have hb : bOf t = (win0_14.blk t).view.emb (ix4 0 s h d) 0 := Fin.ext (by show t.val / 2 = _; (blk_simp [idx0' t]) <;> omega)
  have hs : sOf t s = (win0_14.blk t).view.emb (ix4 0 s h d) 1 := Fin.ext (by show 512 * (t.val % 2) + s.val = _; (blk_simp [idx0' t]) <;> omega)
  have hh : h = (win0_14.blk t).view.emb (ix4 0 s h d) 2 := Fin.ext (by (blk_simp [idx0' t]) <;> omega)
  have hd : d = (win0_14.blk t).view.emb (ix4 0 s h d) 3 := Fin.ext (by (blk_simp [idx0' t]) <;> omega)
  exact congr (congrArg rcode (congr (congr (congrArg _ hb) hh) hs)) hd
theorem arr15 (c : Dev nD) : (dat0 V c).arrAt 15 cfg0.N = fun j => (rcode ((I0 V c).k (j 0) (j 1) (j 2)) (j 3) : EReal) := by
  refine (dat0 V c).arrAt_eq_of_covers 15 _ (by decide +kernel) fun t hf y => ?_
  obtain ⟨h, s, d, rfl⟩ : ∃ (a : Fin 4) (b : Fin 512) (d : Fin 128), y = ix4 (0 : Fin 1) a b d := idx4 y
  blk_simp
  rw [after0_15]
  refine (canon15 V c t h s d).trans ?_
  rw [krow_eq]
  have hb : bOf t = (win0_15.blk t).view.emb (ix4 0 h s d) 0 := Fin.ext (by show t.val / 2 = _; (blk_simp [idx0' t]) <;> omega)
  have hs : sOf t s = (win0_15.blk t).view.emb (ix4 0 h s d) 2 := Fin.ext (by show 512 * (t.val % 2) + s.val = _; (blk_simp [idx0' t]) <;> omega)
  have hh : h = (win0_15.blk t).view.emb (ix4 0 h s d) 1 := Fin.ext (by (blk_simp [idx0' t]) <;> omega)
  have hd : d = (win0_15.blk t).view.emb (ix4 0 h s d) 3 := Fin.ext (by (blk_simp [idx0' t]) <;> omega)
  exact congr (congrArg rcode (congr (congr (congrArg _ hb) hh) hs)) hd
theorem arr17 (c : Dev nD) : (dat0 V c).arrAt 17 cfg0.N = fun j => (rscale ((I0 V c).k (j 0) (j 1) (j 2)) : EReal) := by
  refine (dat0 V c).arrAt_eq_of_covers 17 _ (by decide +kernel) fun t hf y => ?_
  obtain ⟨h, s, d, rfl⟩ : ∃ (a : Fin 4) (b : Fin 512) (d : Fin 128), y = ix4 (0 : Fin 1) a b d := idx4 y
  blk_simp
  rw [after0_17]
  refine (canon17 V c t h s d).trans ?_
  rw [krow_eq]
  have hb : bOf t = (win0_17.blk t).view.emb (ix4 0 h s d) 0 := Fin.ext (by show t.val / 2 = _; (blk_simp [idx0' t]) <;> omega)
  have hs : sOf t s = (win0_17.blk t).view.emb (ix4 0 h s d) 2 := Fin.ext (by show 512 * (t.val % 2) + s.val = _; (blk_simp [idx0' t]) <;> omega)
  have hh : h = (win0_17.blk t).view.emb (ix4 0 h s d) 1 := Fin.ext (by (blk_simp [idx0' t]) <;> omega)
  exact congrArg rscale (congr (congr (congrArg _ hb) hh) hs)

/-- The scales of the layer's input, gathered piece by piece. -/
theorem arr10 (c : Dev nD) : (dat0 V c).arrAt 10 cfg0.N = fun j => (rscale ((I0 V c).x (j 0) (j 1)) : EReal) := by
  refine (dat0 V c).arrAt_eq_of_covers 10 _ (by decide +kernel) fun t hf y => ?_
  obtain ⟨b, s, rfl⟩ : ∃ (b : Fin 2) (s : Fin 1024), y = ix2 b s := ⟨y 0, y 1, eq_ix2 y⟩
  blk_simp
  rw [after0_10]
  have he0 : b = (win0_10.blk t).view.emb (ix2 b s) 0 := Fin.ext (by (blk_simp [idx0' t]) <;> omega)
  have he1 : s = (win0_10.blk t).view.emb (ix2 b s) 1 := Fin.ext (by (blk_simp [idx0' t]) <;> omega)
  refine (?_ : View.canon (acc0 V c t.val) (ix2 b s) = rscale ((I0 V c).x b s)).trans (congrArg rscale (congr (congrArg _ he0) he1))
  refine View.canon_eq_of_allAt _ _ _ (coverAcc0 V c t ((flush0_10 t).mp hf) (ix2 b s)) fun p hp => ?_
  obtain ⟨u, hu⟩ := mem_of_accum _ hp
  rw [pieces10] at hu
  refine View.allAt_cons_unit _ _ _ _ _ (fun x hx => ?_) (View.allAt_nil _ _) p hu
  obtain ⟨s', rfl⟩ : ∃ s' : Fin 512, x = ix2 (0 : Fin 1) s' :=
    ⟨x 1, (eq_ix2 x).trans (congrArg (fun a => ix2 a (x 1)) (Subsingleton.elim (α := Fin 1) (x 0) 0))⟩
  refine (pay17_apply _ s').trans ((pay11_apply _ s').trans ?_)
  have h0 := hx 0
  have h1 := hx 1
  rw [off0 u] at h0 h1
  have hb : bOf u = b := Fin.ext (by show u.val / 2 = b.val; exact h0.symm)
  have hs : sOf u s' = s := Fin.ext (by show 512 * (u.val % 2) + s'.val = s.val; exact h1.symm)
  refine (congrArg rscale (xrow_eq V c u s')).trans ?_
  rw [hb, hs]

end Cert.KernelIdeal.Hand

end
-- ==== Proof.KIVec1.lean ====
module

public import proofs.«01_k».proof.Proof.Spec
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Cert.Hand
open scoped BigOperators

/-! ## One head of the queries -/

/-- The largest absolute value of each row, as a column. -/
noncomputable def colMax1 (f : FVec Idealize.ShloMosaic.Ideal S1024x128 .f32) : FVec Idealize.ShloMosaic.Ideal S1024x1 .f32 :=
  shapeCast S1024x1 (multiReduction (F := Idealize.ShloMosaic.Ideal) .maximumf [1] S1024 (absf f) 0xFF800000#32 reduces_S1024x128_S1024 (.inl rfl) rfl) shapeCasts_S1024_S1024x1

theorem colMax1_apply (f : FVec Idealize.ShloMosaic.Ideal S1024x128 .f32) (s : Fin 1024) :
    colMax1 f (ix2 s 0) = rowmax fun k => f (ix2 s k) := by
  unfold rowmax
  rw [← qexp_ofBits_bot]
  pointwise [colMax1]
  rfl

/-- The exponent field of each row's scale, less one. -/
noncomputable def fieldV1 (v : FVec Idealize.ShloMosaic.Ideal S1024x1 .f32) : IVec S1024x1 32 :=
  shli (subi (fptosi 32 (shapeCast S1024x1 (multiReduction (F := Idealize.ShloMosaic.Ideal) .add [1] S1024 (select
    (cmpf .oge (broadcastTo S1024x247 (mulf v (broadcast S1024x1 (Scalar.ofBits .f32 0x3B124925#32))) broadcasts_S1024x1_S1024x247)
      (broadcastTo S1024x247 (bitcastToFloat .f32 (shli (iota .tc S1x247 32 [1] iota_S1x247_d1_w32) (broadcast S1x247 23#32)) : FVec Idealize.ShloMosaic.Ideal S1x247 .f32) broadcasts_S1x247_S1024x247))
    (broadcast S1024x247 (Scalar.ofBits .f32 0x3F800000#32)) (broadcast S1024x247 (Scalar.ofBits .f32 0x00000000#32))) 0x00000000#32 reduces_S1024x247_S1024 (.inl rfl) rfl) shapeCasts_S1024_S1024x1)) (broadcast S1024x1 1#32)) (broadcast S1024x1 23#32)

theorem fieldV1_apply (v : FVec Idealize.ShloMosaic.Ideal S1024x1 .f32) (s : Fin 1024) : fieldV1 v (ix2 s 0) = fieldBits (v (ix2 s 0)) := by
  unfold fieldBits Hand.count
  pointwise [fieldV1]

/-- The scales of a column of row maxima, and their inverses. -/
noncomputable def scaleV1 (v : FVec Idealize.ShloMosaic.Ideal S1024x1 .f32) : FVec Idealize.ShloMosaic.Ideal S1024x1 .f32 :=
  select (cmpf .oeq v (broadcast S1024x1 (Scalar.ofBits .f32 0x00000000#32))) (broadcast S1024x1 (Scalar.ofBits .f32 0x3F800000#32))
    (bitcastToFloat .f32 (addi (fieldV1 v) (broadcast S1024x1 8388608#32)))

noncomputable def invV1 (v : FVec Idealize.ShloMosaic.Ideal S1024x1 .f32) : FVec Idealize.ShloMosaic.Ideal S1024x1 .f32 :=
  select (cmpf .oeq v (broadcast S1024x1 (Scalar.ofBits .f32 0x00000000#32))) (broadcast S1024x1 (Scalar.ofBits .f32 0x3F800000#32))
    (bitcastToFloat .f32 (subi (broadcast S1024x1 2122317824#32) (fieldV1 v)))

theorem scaleV1_apply (v : FVec Idealize.ShloMosaic.Ideal S1024x1 .f32) (s : Fin 1024) (h : 0 ≤ v (ix2 s 0)) :
    scaleV1 v (ix2 s 0) = qscale (v (ix2 s 0)) := by
  rw [← (quant_eq _ h).1, ← fieldV1_apply]
  pointwise [scaleV1]

theorem invV1_apply (v : FVec Idealize.ShloMosaic.Ideal S1024x1 .f32) (s : Fin 1024) (h : 0 ≤ v (ix2 s 0)) :
    invV1 v (ix2 s 0) = qinv (v (ix2 s 0)) := by
  rw [← (quant_eq _ h).2, ← fieldV1_apply]
  pointwise [invV1]

/-- The codes of a block of rows, given the column of row maxima. -/
noncomputable def codeV1 (f : FVec Idealize.ShloMosaic.Ideal S1024x128 .f32) (v : FVec Idealize.ShloMosaic.Ideal S1024x1 .f32) : FVec Idealize.ShloMosaic.Ideal S1024x128 .fp8e4m3 :=
  truncf .fp8e4m3 (minimumf (broadcast S1024x128 (Scalar.ofBits .f32 0x43E00000#32)) (maximumf (broadcast S1024x128 (Scalar.ofBits .f32 0xC3E00000#32))
    (mulf f (broadcastTo S1024x128 (invV1 v) broadcasts_S1024x1_S1024x128)))) bitsLt_fp8e4m3_f32

theorem codeV1_apply (f : FVec Idealize.ShloMosaic.Ideal S1024x128 .f32) (s : Fin 1024) (d : Fin 128) :
    codeV1 f (colMax1 f) (ix2 s d) = rcode (fun k => f (ix2 s k)) d := by
  have h : invV1 (colMax1 f) (ix2 s 0) = qinv (rowmax fun k => f (ix2 s k)) := by
    rw [invV1_apply _ _ (by rw [colMax1_apply]; exact rowmax_nonneg _), colMax1_apply]
  unfold rcode code
  rw [← h]
  generalize colMax1 f = w
  pointwise [codeV1]

theorem scaleV1_colMax (f : FVec Idealize.ShloMosaic.Ideal S1024x128 .f32) (s : Fin 1024) :
    scaleV1 (colMax1 f) (ix2 s 0) = rscale fun k => f (ix2 s k) := by
  rw [scaleV1_apply _ _ (by rw [colMax1_apply]; exact rowmax_nonneg _), colMax1_apply]; rfl

/-- The rotary embedding of a block of one head's rows. -/
noncomputable def ropeF1 (c sn f : FVec Idealize.ShloMosaic.Ideal S1024x128 .f32) : FVec Idealize.ShloMosaic.Ideal S1024x128 .f32 :=
  addf (mulf f c) (mulf (dynamicRotate 1 64#32 none f rotates_S1024x128_d1) sn)

theorem ropeF1_apply (c sn f : FVec Idealize.ShloMosaic.Ideal S1024x128 .f32) (s : Fin 1024) (d : Fin 128) :
    ropeF1 c sn f (ix2 s d) = ropeRoll (fun k => f (ix2 s k)) (fun k => c (ix2 s k)) (fun k => sn (ix2 s k)) d := by
  unfold ropeRoll
  pointwise [ropeF1]

/-- The projection onto the head whose columns start at `o`. -/
noncomputable def projF (o : ℕ) (hs : S1024x256.Slices ![0, o] S1024x128) (x : Vec Idealize.ShloMosaic.Ideal S1x1024x3584 .fp8e4m3) (w : Vec Idealize.ShloMosaic.Ideal S3584x256 .fp8e4m3) (xs : Vec Idealize.ShloMosaic.Ideal S1x1024x128 .f32) (ws b : Vec Idealize.ShloMosaic.Ideal S1x128 .f32) : FVec Idealize.ShloMosaic.Ideal S1024x128 .f32 :=
  addf (mulf (mulf (extractStridedSlice S1024x128 ![0, o] (k1_pay2 x w) hs) (k1_pay3 xs))
    (broadcastTo S1024x128 (shapeCast S1x128 ws shapeCasts_S1x128_S1x128) broadcasts_S1x128_S1024x128))
    (broadcastTo S1024x128 (shapeCast S1x128 b shapeCasts_S1x128_S1x128) broadcasts_S1x128_S1024x128)

theorem projF_apply (o : ℕ) (hs) (x : Vec Idealize.ShloMosaic.Ideal S1x1024x3584 .fp8e4m3) (w : Vec Idealize.ShloMosaic.Ideal S3584x256 .fp8e4m3) (xs : Vec Idealize.ShloMosaic.Ideal S1x1024x128 .f32) (ws b : Vec Idealize.ShloMosaic.Ideal S1x128 .f32) (s : Fin 1024) (d : Fin 128) (h : o + d.val < 256) :
    projF o hs x w xs ws b (ix2 s d) = (∑ k, x (ix3 0 s k) * w (ix2 k ⟨o + d.val, h⟩)) * xs (ix3 0 s d) * ws (ix2 0 d) + b (ix2 0 d) := by
  pointwise [projF, k1_pay2, k1_pay3]

/-- A query head, rotated. -/
noncomputable def headF (o : ℕ) (hs : S1024x256.Slices ![0, o] S1024x128) (x : Vec Idealize.ShloMosaic.Ideal S1x1024x3584 .fp8e4m3) (w : Vec Idealize.ShloMosaic.Ideal S3584x256 .fp8e4m3) (xs c sn : Vec Idealize.ShloMosaic.Ideal S1x1024x128 .f32) (ws b : Vec Idealize.ShloMosaic.Ideal S1x128 .f32) : FVec Idealize.ShloMosaic.Ideal S1024x128 .f32 :=
  ropeF1 (k1_pay4 c) (k1_pay5 sn) (projF o hs x w xs ws b)

theorem head0_eq (x : Vec Idealize.ShloMosaic.Ideal S1x1024x3584 .fp8e4m3) (w : Vec Idealize.ShloMosaic.Ideal S3584x256 .fp8e4m3) (xs c sn : Vec Idealize.ShloMosaic.Ideal S1x1024x128 .f32) (ws b : Vec Idealize.ShloMosaic.Ideal S1x128 .f32) :
    k1_pay6 x w xs c sn ws b = headF 0 slices_S1024x256_o0_0_S1024x128 x w xs c sn ws b := rfl

theorem head1_eq (x : Vec Idealize.ShloMosaic.Ideal S1x1024x3584 .fp8e4m3) (w : Vec Idealize.ShloMosaic.Ideal S3584x256 .fp8e4m3) (xs c sn : Vec Idealize.ShloMosaic.Ideal S1x1024x128 .f32) (ws b : Vec Idealize.ShloMosaic.Ideal S1x128 .f32) :
    k1_pay30 (k1_pay2 x w) (k1_pay3 xs) (k1_pay4 c) (k1_pay5 sn) ws b = headF 128 slices_S1024x256_o0_128_S1024x128 x w xs c sn ws b := rfl

theorem pay4_apply1 (c : Vec Idealize.ShloMosaic.Ideal S1x1024x128 .f32) (s : Fin 1024) (d : Fin 128) : k1_pay4 (F := Idealize.ShloMosaic.Ideal) c (ix2 s d) = c (ix3 0 s d) := by
  pointwise [k1_pay4]
theorem pay5_apply1 (c : Vec Idealize.ShloMosaic.Ideal S1x1024x128 .f32) (s : Fin 1024) (d : Fin 128) : k1_pay5 (F := Idealize.ShloMosaic.Ideal) c (ix2 s d) = c (ix3 0 s d) := by
  pointwise [k1_pay5]

/-- A row of a rotated query head. -/
theorem headF_row (o : ℕ) (hs) (ho : o + 128 ≤ 256) (x : Vec Idealize.ShloMosaic.Ideal S1x1024x3584 .fp8e4m3) (w : Vec Idealize.ShloMosaic.Ideal S3584x256 .fp8e4m3) (xs c sn : Vec Idealize.ShloMosaic.Ideal S1x1024x128 .f32) (ws b : Vec Idealize.ShloMosaic.Ideal S1x128 .f32) (s : Fin 1024) :
    (fun d => headF o hs x w xs c sn ws b (ix2 s d)) =
      ropeRoll (fun d => (∑ k, x (ix3 0 s k) * w (ix2 k ⟨o + d.val, by omega⟩)) * xs (ix3 0 s d) * ws (ix2 0 d) + b (ix2 0 d)) (fun d => c (ix3 0 s d)) (fun d => sn (ix3 0 s d)) := by
  funext d
  rw [headF, ropeF1_apply]
  congr 1
  · funext k; exact projF_apply o hs x w xs ws b s k _
  · funext k; exact pay4_apply1 c s k
  · funext k; exact pay5_apply1 sn s k

/-- The column of scales turned into a row. -/
noncomputable def scaleRow (v : FVec Idealize.ShloMosaic.Ideal S1024x1 .f32) : FVec Idealize.ShloMosaic.Ideal S1x1024 .f32 := k1_pay37 v

theorem scaleRow_apply (v : FVec Idealize.ShloMosaic.Ideal S1024x1 .f32) (s : Fin 1024) : scaleRow v (ix2 0 s) = v (ix2 s 0) := by
  pointwise [scaleRow, k1_pay37]

/-- The factor of the exponent: the scale times the softmax's scale over the logarithm of 2. -/
noncomputable def expRow (v : FVec Idealize.ShloMosaic.Ideal S1024x1 .f32) : FVec Idealize.ShloMosaic.Ideal S1x1024 .f32 := k1_pay39 v

theorem expRow_apply (v : FVec Idealize.ShloMosaic.Ideal S1024x1 .f32) (s : Fin 1024) :
    expRow v (ix2 0 s) = v (ix2 s 0) * (((11863283 / 134217728) * (Real.log 2)⁻¹ : ℝ) : EReal) := by
  pointwise [expRow, k1_pay39, k1_pay37]
  rfl

theorem qcode_apply (f : FVec Idealize.ShloMosaic.Ideal S1024x128 .f32) (s : Fin 1024) (d : Fin 128) :
    k1_pay36 (codeV1 f (colMax1 f)) (ix4 0 0 s d) = rcode (fun k => f (ix2 s k)) d := by
  rw [← codeV1_apply]
  generalize codeV1 f (colMax1 f) = w
  pointwise [k1_pay36]

theorem qscale_apply (f : FVec Idealize.ShloMosaic.Ideal S1024x128 .f32) (s : Fin 1024) :
    k1_pay38 (scaleV1 (colMax1 f)) (ix3 0 0 s) = rscale (fun k => f (ix2 s k)) := by
  rw [← scaleV1_colMax]
  generalize scaleV1 (colMax1 f) = w
  pointwise [k1_pay38, k1_pay37]

/-! ### The kernel's payloads in these words -/

section
variable (x : Vec Idealize.ShloMosaic.Ideal S1x1024x3584 .fp8e4m3) (w : Vec Idealize.ShloMosaic.Ideal S3584x256 .fp8e4m3) (xs c sn : Vec Idealize.ShloMosaic.Ideal S1x1024x128 .f32) (ws b : Vec Idealize.ShloMosaic.Ideal S1x128 .f32)
variable (f : FVec Idealize.ShloMosaic.Ideal S1024x128 .f32)

theorem code0_eq : k1_pay12 (k1_pay6 x w xs c sn ws b) (k1_pay7 x w xs c sn ws b) (k1_pay8 x w xs c sn ws b) k1_pay9 =
    codeV1 (k1_pay6 x w xs c sn ws b) (colMax1 (k1_pay6 x w xs c sn ws b)) := rfl
theorem scale0_eq : k1_pay14 (k1_pay7 x w xs c sn ws b) (k1_pay8 x w xs c sn ws b) k1_pay9 =
    scaleRow (scaleV1 (colMax1 (k1_pay6 x w xs c sn ws b))) := rfl
theorem code1_eq : k1_pay35 f = codeV1 f (colMax1 f) := rfl
theorem scale1_eq : k1_pay34 f = scaleV1 (colMax1 f) := rfl

end

end Cert.KernelIdeal.Hand

end
-- ==== Proof.KIAtt.lean ====
module

public import proofs.«01_k».proof.Proof.Spec
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Cert.Hand
open scoped BigOperators

theorem q256 (q : Fin 256) : q.val % 128 < 128 := Nat.mod_lt _ (by decide)

/-- Comparing two small numbers as signed words. -/
theorem sel_le {α : Type} (a b : ℕ) (ha : a < 256) (hb : b < 256) (x y : α) :
    Scalar.select (IntOp.cmpi CmpIPredicate.sle (BitVec.ofNat 32 a) (BitVec.ofNat 32 b)) x y = if a ≤ b then x else y := by
  have e : ∀ n : ℕ, n < 256 → (BitVec.ofNat 32 n).toInt = (n : ℤ) := fun n h => by
    rw [BitVec.toInt_eq_toNat_of_lt] <;> rw [BitVec.toNat_ofNat, Nat.mod_eq_of_lt (by omega)] <;> omega
  unfold Scalar.select IntOp.cmpi
  by_cases h : a ≤ b
  · have : (BitVec.ofNat 32 a).toInt ≤ (BitVec.ofNat 32 b).toInt := by rw [e a ha, e b hb]; exact_mod_cast h
    simp [BitVec.sle, h, this]
  · have : ¬ (BitVec.ofNat 32 a).toInt ≤ (BitVec.ofNat 32 b).toInt := by rw [e a ha, e b hb]; exact_mod_cast h
    simp [BitVec.sle, h, this]

/-- A block of keys whose last 256 are masked against the queries and whose others are all seen. -/
theorem mask_tail {α : Type} (o : ℕ) (q : Fin 256) (k : ℕ) (hk : k < o + 256) (x z : α) (y : ¬ k < o → α) (hy : ∀ h, y h = x) :
    (if h : k < o then x else Scalar.select (IntOp.cmpi CmpIPredicate.sle (BitVec.ofNat 32 (k - o)) (BitVec.ofNat 32 q.val)) (y h) z) =
      if k ≤ o + q.val then x else z := by
  by_cases h : k < o
  · rw [dif_pos h, if_pos (by omega)]
  · rw [dif_neg h, sel_le _ _ (by omega) q.isLt, hy h]
    by_cases h' : k ≤ o + q.val
    · rw [if_pos h', if_pos (by omega)]
    · rw [if_neg h', if_neg (by omega)]

/-! ## Queries 0 to 255, which see the first 256 keys -/

/-- The scores, before the query's scale. -/
noncomputable def scores256 (kc : Vec Idealize.ShloMosaic.Ideal S1x1x256x128 .fp8e4m3) (qc : FVec Idealize.ShloMosaic.Ideal S1024x128 .fp8e4m3) (kr : Vec Idealize.ShloMosaic.Ideal S1x1x256x128 .f32) : FVec Idealize.ShloMosaic.Ideal S256x256 .f32 :=
  mulf (matmul (F := Idealize.ShloMosaic.Ideal) (φ₁ := .fp8e4m3) (φ₂ := .fp8e4m3) dot_S256x128_S256x128_S256x256_1_1_0_0_n_n none (shapeCast S256x128 kc shapeCasts_S1x1x256x128_S256x128)
      (extractStridedSlice S256x128 ![0, 0] qc slices_S1024x128_o0_0_S256x128) (constant S256x256 .f32 0x00000000#32))
    (concatenate S256x256 1 [⟨S256x128, shapeCast S256x128 kr shapeCasts_S1x1x256x128_S256x128⟩, ⟨S256x128, shapeCast S256x128 kr shapeCasts_S1x1x256x128_S256x128⟩] concatenates_S256x128_S256x128_S256x256_d1)

theorem scores256_apply (kc : Vec Idealize.ShloMosaic.Ideal S1x1x256x128 .fp8e4m3) (qc : FVec Idealize.ShloMosaic.Ideal S1024x128 .fp8e4m3) (kr : Vec Idealize.ShloMosaic.Ideal S1x1x256x128 .f32) (k : Fin 256) (q : Fin 256) :
    scores256 kc qc kr (ix2 k q) = (∑ d, kc (ix4 0 0 k d) * qc (ix2 ⟨0 + q.val, by omega⟩ d)) * kr (ix4 0 0 k ⟨q.val % 128, q256 q⟩) := by
  pointwise [scores256]
  by_cases h : q.val < 128
  · rw [dif_pos h]
    exact congrArg _ (congrArg kr (congrArg (ix4 0 0 k) (Fin.ext (Nat.mod_eq_of_lt h).symm)))
  · rw [dif_neg h]
    exact congrArg _ (congrArg kr (congrArg (ix4 0 0 k) (Fin.ext (by dsimp only; omega))))

/-- The scores with the later keys masked. -/
noncomputable def masked256 (s : FVec Idealize.ShloMosaic.Ideal S256x256 .f32) : FVec Idealize.ShloMosaic.Ideal S256x256 .f32 :=
  select (cmpi .sle (iota .tc S256x256 32 [0] iota_S256x256_d0_w32) (iota .tc S256x256 32 [1] iota_S256x256_d1_w32)) s (broadcast S256x256 (Scalar.ofBits .f32 0xFF800000#32))

theorem masked256_apply (s : FVec Idealize.ShloMosaic.Ideal S256x256 .f32) (k : Fin 256) (q : Fin 256) :
    masked256 s (ix2 k q) = if k.val ≤ 0 + q.val then s (ix2 k q) else ⊥ := by
  rw [← qexp_ofBits_bot]
  pointwise [masked256]
  rw [sel_le _ _ k.isLt q.isLt]

/-- The softmax over the keys, applied to the values. -/
noncomputable def attend256 (m : FVec Idealize.ShloMosaic.Ideal S1x1024 .f32) (X : FVec Idealize.ShloMosaic.Ideal S256x256 .f32) (vt : Vec Idealize.ShloMosaic.Ideal S1x128x256 .bf16) : FVec Idealize.ShloMosaic.Ideal S256x128 .bf16 :=
  have p : FVec Idealize.ShloMosaic.Ideal S256x256 .f32 := exp2 (mulf (subf X (broadcastTo S256x256 (shapeCast S1x256 (multiReduction (F := Idealize.ShloMosaic.Ideal) .maximumf [0] S256 X 0xFF800000#32 reduces_S256x256_S256 (.inl rfl) rfl) shapeCasts_S256_S1x256) broadcasts_S1x256_S256x256))
    (broadcastTo S256x256 (extractStridedSlice S1x256 ![0, 0] m slices_S1x1024_o0_0_S1x256) broadcasts_S1x256_S256x256))
  truncf .bf16 (transpose S256x128 [1, 0] (mulf (matmul (F := Idealize.ShloMosaic.Ideal) (φ₁ := .bf16) (φ₂ := .bf16) dot_S128x256_S256x256_S128x256_1_0_0_1_n_n none (shapeCast S128x256 vt shapeCasts_S1x128x256_S128x256) (truncf .bf16 p bitsLt_bf16_f32) (constant S128x256 .f32 0x00000000#32))
    (broadcastTo S128x256 (divf (broadcast S1x256 (Scalar.ofBits .f32 0x3F800000#32)) (shapeCast S1x256 (multiReduction (F := Idealize.ShloMosaic.Ideal) .add [0] S256 p 0x00000000#32 reduces_S256x256_S256 (.inl rfl) rfl) shapeCasts_S256_S1x256)) broadcasts_S1x256_S128x256)) transposes_S128x256_p1_0_S256x128) bitsLt_bf16_f32

theorem attend256_apply (m : FVec Idealize.ShloMosaic.Ideal S1x1024 .f32) (X : FVec Idealize.ShloMosaic.Ideal S256x256 .f32) (vt : Vec Idealize.ShloMosaic.Ideal S1x128x256 .bf16) (q : Fin 256) (d : Fin 128) :
    attend256 m X vt (ix2 q d) = attendRow (fun k => X (ix2 k q)) (m (ix2 0 ⟨0 + q.val, by omega⟩)) (fun k => vt (ix3 0 d k)) := by
  unfold attendRow
  rw [← qexp_ofBits_bot]
  pointwise [attend256]
  rfl

/-- The block of outputs. -/
noncomputable def tile256 (m : FVec Idealize.ShloMosaic.Ideal S1x1024 .f32) (qc : FVec Idealize.ShloMosaic.Ideal S1024x128 .fp8e4m3) (kc : Vec Idealize.ShloMosaic.Ideal S1x1x256x128 .fp8e4m3) (kr : Vec Idealize.ShloMosaic.Ideal S1x1x256x128 .f32) (vt : Vec Idealize.ShloMosaic.Ideal S1x128x256 .bf16) : FVec Idealize.ShloMosaic.Ideal S1x256x128 .bf16 :=
  shapeCast S1x256x128 (attend256 m (masked256 (scores256 kc qc kr)) vt) shapeCasts_S256x128_S1x256x128

theorem tile256_apply (m : FVec Idealize.ShloMosaic.Ideal S1x1024 .f32) (qc : FVec Idealize.ShloMosaic.Ideal S1024x128 .fp8e4m3) (kc : Vec Idealize.ShloMosaic.Ideal S1x1x256x128 .fp8e4m3) (kr : Vec Idealize.ShloMosaic.Ideal S1x1x256x128 .f32) (vt : Vec Idealize.ShloMosaic.Ideal S1x128x256 .bf16) (q : Fin 256) (d : Fin 128) :
    tile256 m qc kc kr vt (ix3 0 q d) = attendRow (fun k : Fin 256 => if k.val ≤ 0 + q.val then (∑ d, kc (ix4 0 0 k d) * qc (ix2 ⟨0 + q.val, by omega⟩ d)) * kr (ix4 0 0 k ⟨q.val % 128, q256 q⟩) else ⊥)
      (m (ix2 0 ⟨0 + q.val, by omega⟩)) (fun k => vt (ix3 0 d k)) := by
  have e : (fun k => masked256 (scores256 kc qc kr) (ix2 k q)) = _ := funext fun k => (masked256_apply _ k q).trans (congrArg (fun w => if k.val ≤ 0 + q.val then w else ⊥) (scores256_apply kc qc kr k q))
  rw [← e, ← attend256_apply]
  unfold tile256
  generalize attend256 m _ vt = w
  pointwise

/-! ## Queries 256 to 511, which see the first 512 keys -/

/-- The scores, before the query's scale. -/
noncomputable def scores512 (kc : Vec Idealize.ShloMosaic.Ideal S1x1x512x128 .fp8e4m3) (qc : FVec Idealize.ShloMosaic.Ideal S1024x128 .fp8e4m3) (kr : Vec Idealize.ShloMosaic.Ideal S1x1x512x128 .f32) : FVec Idealize.ShloMosaic.Ideal S512x256 .f32 :=
  mulf (matmul (F := Idealize.ShloMosaic.Ideal) (φ₁ := .fp8e4m3) (φ₂ := .fp8e4m3) dot_S512x128_S256x128_S512x256_1_1_0_0_n_n none (shapeCast S512x128 kc shapeCasts_S1x1x512x128_S512x128)
      (extractStridedSlice S256x128 ![256, 0] qc slices_S1024x128_o256_0_S256x128) (constant S512x256 .f32 0x00000000#32))
    (concatenate S512x256 1 [⟨S512x128, shapeCast S512x128 kr shapeCasts_S1x1x512x128_S512x128⟩, ⟨S512x128, shapeCast S512x128 kr shapeCasts_S1x1x512x128_S512x128⟩] concatenates_S512x128_S512x128_S512x256_d1)

theorem scores512_apply (kc : Vec Idealize.ShloMosaic.Ideal S1x1x512x128 .fp8e4m3) (qc : FVec Idealize.ShloMosaic.Ideal S1024x128 .fp8e4m3) (kr : Vec Idealize.ShloMosaic.Ideal S1x1x512x128 .f32) (k : Fin 512) (q : Fin 256) :
    scores512 kc qc kr (ix2 k q) = (∑ d, kc (ix4 0 0 k d) * qc (ix2 ⟨256 + q.val, by omega⟩ d)) * kr (ix4 0 0 k ⟨q.val % 128, q256 q⟩) := by
  pointwise [scores512]
  by_cases h : q.val < 128
  · rw [dif_pos h]
    exact congrArg _ (congrArg kr (congrArg (ix4 0 0 k) (Fin.ext (Nat.mod_eq_of_lt h).symm)))
  · rw [dif_neg h]
    exact congrArg _ (congrArg kr (congrArg (ix4 0 0 k) (Fin.ext (by dsimp only; omega))))

/-- The scores with the later keys masked. -/
noncomputable def masked512 (s : FVec Idealize.ShloMosaic.Ideal S512x256 .f32) : FVec Idealize.ShloMosaic.Ideal S512x256 .f32 :=
  concatenate S512x256 0 [⟨S256x256, extractStridedSlice S256x256 ![0, 0] s slices_S512x256_o0_0_S256x256⟩,
    ⟨S256x256, select (cmpi .sle (iota .tc S256x256 32 [0] iota_S256x256_d0_w32) (iota .tc S256x256 32 [1] iota_S256x256_d1_w32))
      (extractStridedSlice S256x256 ![256, 0] s slices_S512x256_o256_0_S256x256) (broadcast S256x256 (Scalar.ofBits .f32 0xFF800000#32))⟩] concatenates_S256x256_S256x256_S512x256_d0

theorem masked512_apply (s : FVec Idealize.ShloMosaic.Ideal S512x256 .f32) (k : Fin 512) (q : Fin 256) :
    masked512 s (ix2 k q) = if k.val ≤ 256 + q.val then s (ix2 k q) else ⊥ := by
  rw [← qexp_ofBits_bot]
  pointwise [masked512]
  exact mask_tail 256 q k.val k.isLt _ _ _ fun h => congrArg (fun k' : Fin 512 => s (ix2 k' q)) (Fin.ext (Nat.add_sub_of_le (Nat.le_of_not_lt h)))

/-- The softmax over the keys, applied to the values. -/
noncomputable def attend512 (m : FVec Idealize.ShloMosaic.Ideal S1x1024 .f32) (X : FVec Idealize.ShloMosaic.Ideal S512x256 .f32) (vt : Vec Idealize.ShloMosaic.Ideal S1x128x512 .bf16) : FVec Idealize.ShloMosaic.Ideal S256x128 .bf16 :=
  have p : FVec Idealize.ShloMosaic.Ideal S512x256 .f32 := exp2 (mulf (subf X (broadcastTo S512x256 (shapeCast S1x256 (multiReduction (F := Idealize.ShloMosaic.Ideal) .maximumf [0] S256 X 0xFF800000#32 reduces_S512x256_S256 (.inl rfl) rfl) shapeCasts_S256_S1x256) broadcasts_S1x256_S512x256))
    (broadcastTo S512x256 (extractStridedSlice S1x256 ![0, 256] m slices_S1x1024_o0_256_S1x256) broadcasts_S1x256_S512x256))
  truncf .bf16 (transpose S256x128 [1, 0] (mulf (matmul (F := Idealize.ShloMosaic.Ideal) (φ₁ := .bf16) (φ₂ := .bf16) dot_S128x512_S512x256_S128x256_1_0_0_1_n_n none (shapeCast S128x512 vt shapeCasts_S1x128x512_S128x512) (truncf .bf16 p bitsLt_bf16_f32) (constant S128x256 .f32 0x00000000#32))
    (broadcastTo S128x256 (divf (broadcast S1x256 (Scalar.ofBits .f32 0x3F800000#32)) (shapeCast S1x256 (multiReduction (F := Idealize.ShloMosaic.Ideal) .add [0] S256 p 0x00000000#32 reduces_S512x256_S256 (.inl rfl) rfl) shapeCasts_S256_S1x256)) broadcasts_S1x256_S128x256)) transposes_S128x256_p1_0_S256x128) bitsLt_bf16_f32

theorem attend512_apply (m : FVec Idealize.ShloMosaic.Ideal S1x1024 .f32) (X : FVec Idealize.ShloMosaic.Ideal S512x256 .f32) (vt : Vec Idealize.ShloMosaic.Ideal S1x128x512 .bf16) (q : Fin 256) (d : Fin 128) :
    attend512 m X vt (ix2 q d) = attendRow (fun k => X (ix2 k q)) (m (ix2 0 ⟨256 + q.val, by omega⟩)) (fun k => vt (ix3 0 d k)) := by
  unfold attendRow
  rw [← qexp_ofBits_bot]
  pointwise [attend512]
  rfl

/-- The block of outputs. -/
noncomputable def tile512 (m : FVec Idealize.ShloMosaic.Ideal S1x1024 .f32) (qc : FVec Idealize.ShloMosaic.Ideal S1024x128 .fp8e4m3) (kc : Vec Idealize.ShloMosaic.Ideal S1x1x512x128 .fp8e4m3) (kr : Vec Idealize.ShloMosaic.Ideal S1x1x512x128 .f32) (vt : Vec Idealize.ShloMosaic.Ideal S1x128x512 .bf16) : FVec Idealize.ShloMosaic.Ideal S1x256x128 .bf16 :=
  shapeCast S1x256x128 (attend512 m (masked512 (scores512 kc qc kr)) vt) shapeCasts_S256x128_S1x256x128

theorem tile512_apply (m : FVec Idealize.ShloMosaic.Ideal S1x1024 .f32) (qc : FVec Idealize.ShloMosaic.Ideal S1024x128 .fp8e4m3) (kc : Vec Idealize.ShloMosaic.Ideal S1x1x512x128 .fp8e4m3) (kr : Vec Idealize.ShloMosaic.Ideal S1x1x512x128 .f32) (vt : Vec Idealize.ShloMosaic.Ideal S1x128x512 .bf16) (q : Fin 256) (d : Fin 128) :
    tile512 m qc kc kr vt (ix3 0 q d) = attendRow (fun k : Fin 512 => if k.val ≤ 256 + q.val then (∑ d, kc (ix4 0 0 k d) * qc (ix2 ⟨256 + q.val, by omega⟩ d)) * kr (ix4 0 0 k ⟨q.val % 128, q256 q⟩) else ⊥)
      (m (ix2 0 ⟨256 + q.val, by omega⟩)) (fun k => vt (ix3 0 d k)) := by
  have e : (fun k => masked512 (scores512 kc qc kr) (ix2 k q)) = _ := funext fun k => (masked512_apply _ k q).trans (congrArg (fun w => if k.val ≤ 256 + q.val then w else ⊥) (scores512_apply kc qc kr k q))
  rw [← e, ← attend512_apply]
  unfold tile512
  generalize attend512 m _ vt = w
  pointwise

/-! ## Queries 512 to 767, which see the first 768 keys -/

/-- The scores, before the query's scale. -/
noncomputable def scores768 (kc : Vec Idealize.ShloMosaic.Ideal S1x1x768x128 .fp8e4m3) (qc : FVec Idealize.ShloMosaic.Ideal S1024x128 .fp8e4m3) (kr : Vec Idealize.ShloMosaic.Ideal S1x1x768x128 .f32) : FVec Idealize.ShloMosaic.Ideal S768x256 .f32 :=
  mulf (matmul (F := Idealize.ShloMosaic.Ideal) (φ₁ := .fp8e4m3) (φ₂ := .fp8e4m3) dot_S768x128_S256x128_S768x256_1_1_0_0_n_n none (shapeCast S768x128 kc shapeCasts_S1x1x768x128_S768x128)
      (extractStridedSlice S256x128 ![512, 0] qc slices_S1024x128_o512_0_S256x128) (constant S768x256 .f32 0x00000000#32))
    (concatenate S768x256 1 [⟨S768x128, shapeCast S768x128 kr shapeCasts_S1x1x768x128_S768x128⟩, ⟨S768x128, shapeCast S768x128 kr shapeCasts_S1x1x768x128_S768x128⟩] concatenates_S768x128_S768x128_S768x256_d1)

theorem scores768_apply (kc : Vec Idealize.ShloMosaic.Ideal S1x1x768x128 .fp8e4m3) (qc : FVec Idealize.ShloMosaic.Ideal S1024x128 .fp8e4m3) (kr : Vec Idealize.ShloMosaic.Ideal S1x1x768x128 .f32) (k : Fin 768) (q : Fin 256) :
    scores768 kc qc kr (ix2 k q) = (∑ d, kc (ix4 0 0 k d) * qc (ix2 ⟨512 + q.val, by omega⟩ d)) * kr (ix4 0 0 k ⟨q.val % 128, q256 q⟩) := by
  pointwise [scores768]
  by_cases h : q.val < 128
  · rw [dif_pos h]
    exact congrArg _ (congrArg kr (congrArg (ix4 0 0 k) (Fin.ext (Nat.mod_eq_of_lt h).symm)))
  · rw [dif_neg h]
    exact congrArg _ (congrArg kr (congrArg (ix4 0 0 k) (Fin.ext (by dsimp only; omega))))

/-- The scores with the later keys masked. -/
noncomputable def masked768 (s : FVec Idealize.ShloMosaic.Ideal S768x256 .f32) : FVec Idealize.ShloMosaic.Ideal S768x256 .f32 :=
  concatenate S768x256 0 [⟨S512x256, extractStridedSlice S512x256 ![0, 0] s slices_S768x256_o0_0_S512x256⟩,
    ⟨S256x256, select (cmpi .sle (iota .tc S256x256 32 [0] iota_S256x256_d0_w32) (iota .tc S256x256 32 [1] iota_S256x256_d1_w32))
      (extractStridedSlice S256x256 ![512, 0] s slices_S768x256_o512_0_S256x256) (broadcast S256x256 (Scalar.ofBits .f32 0xFF800000#32))⟩] concatenates_S512x256_S256x256_S768x256_d0

theorem masked768_apply (s : FVec Idealize.ShloMosaic.Ideal S768x256 .f32) (k : Fin 768) (q : Fin 256) :
    masked768 s (ix2 k q) = if k.val ≤ 512 + q.val then s (ix2 k q) else ⊥ := by
  rw [← qexp_ofBits_bot]
  pointwise [masked768]
  exact mask_tail 512 q k.val k.isLt _ _ _ fun h => congrArg (fun k' : Fin 768 => s (ix2 k' q)) (Fin.ext (Nat.add_sub_of_le (Nat.le_of_not_lt h)))

/-- The softmax over the keys, applied to the values. -/
noncomputable def attend768 (m : FVec Idealize.ShloMosaic.Ideal S1x1024 .f32) (X : FVec Idealize.ShloMosaic.Ideal S768x256 .f32) (vt : Vec Idealize.ShloMosaic.Ideal S1x128x768 .bf16) : FVec Idealize.ShloMosaic.Ideal S256x128 .bf16 :=
  have p : FVec Idealize.ShloMosaic.Ideal S768x256 .f32 := exp2 (mulf (subf X (broadcastTo S768x256 (shapeCast S1x256 (multiReduction (F := Idealize.ShloMosaic.Ideal) .maximumf [0] S256 X 0xFF800000#32 reduces_S768x256_S256 (.inl rfl) rfl) shapeCasts_S256_S1x256) broadcasts_S1x256_S768x256))
    (broadcastTo S768x256 (extractStridedSlice S1x256 ![0, 512] m slices_S1x1024_o0_512_S1x256) broadcasts_S1x256_S768x256))
  truncf .bf16 (transpose S256x128 [1, 0] (mulf (matmul (F := Idealize.ShloMosaic.Ideal) (φ₁ := .bf16) (φ₂ := .bf16) dot_S128x768_S768x256_S128x256_1_0_0_1_n_n none (shapeCast S128x768 vt shapeCasts_S1x128x768_S128x768) (truncf .bf16 p bitsLt_bf16_f32) (constant S128x256 .f32 0x00000000#32))
    (broadcastTo S128x256 (divf (broadcast S1x256 (Scalar.ofBits .f32 0x3F800000#32)) (shapeCast S1x256 (multiReduction (F := Idealize.ShloMosaic.Ideal) .add [0] S256 p 0x00000000#32 reduces_S768x256_S256 (.inl rfl) rfl) shapeCasts_S256_S1x256)) broadcasts_S1x256_S128x256)) transposes_S128x256_p1_0_S256x128) bitsLt_bf16_f32

theorem attend768_apply (m : FVec Idealize.ShloMosaic.Ideal S1x1024 .f32) (X : FVec Idealize.ShloMosaic.Ideal S768x256 .f32) (vt : Vec Idealize.ShloMosaic.Ideal S1x128x768 .bf16) (q : Fin 256) (d : Fin 128) :
    attend768 m X vt (ix2 q d) = attendRow (fun k => X (ix2 k q)) (m (ix2 0 ⟨512 + q.val, by omega⟩)) (fun k => vt (ix3 0 d k)) := by
  unfold attendRow
  rw [← qexp_ofBits_bot]
  pointwise [attend768]
  rfl

/-- The block of outputs. -/
noncomputable def tile768 (m : FVec Idealize.ShloMosaic.Ideal S1x1024 .f32) (qc : FVec Idealize.ShloMosaic.Ideal S1024x128 .fp8e4m3) (kc : Vec Idealize.ShloMosaic.Ideal S1x1x768x128 .fp8e4m3) (kr : Vec Idealize.ShloMosaic.Ideal S1x1x768x128 .f32) (vt : Vec Idealize.ShloMosaic.Ideal S1x128x768 .bf16) : FVec Idealize.ShloMosaic.Ideal S1x256x128 .bf16 :=
  shapeCast S1x256x128 (attend768 m (masked768 (scores768 kc qc kr)) vt) shapeCasts_S256x128_S1x256x128

theorem tile768_apply (m : FVec Idealize.ShloMosaic.Ideal S1x1024 .f32) (qc : FVec Idealize.ShloMosaic.Ideal S1024x128 .fp8e4m3) (kc : Vec Idealize.ShloMosaic.Ideal S1x1x768x128 .fp8e4m3) (kr : Vec Idealize.ShloMosaic.Ideal S1x1x768x128 .f32) (vt : Vec Idealize.ShloMosaic.Ideal S1x128x768 .bf16) (q : Fin 256) (d : Fin 128) :
    tile768 m qc kc kr vt (ix3 0 q d) = attendRow (fun k : Fin 768 => if k.val ≤ 512 + q.val then (∑ d, kc (ix4 0 0 k d) * qc (ix2 ⟨512 + q.val, by omega⟩ d)) * kr (ix4 0 0 k ⟨q.val % 128, q256 q⟩) else ⊥)
      (m (ix2 0 ⟨512 + q.val, by omega⟩)) (fun k => vt (ix3 0 d k)) := by
  have e : (fun k => masked768 (scores768 kc qc kr) (ix2 k q)) = _ := funext fun k => (masked768_apply _ k q).trans (congrArg (fun w => if k.val ≤ 512 + q.val then w else ⊥) (scores768_apply kc qc kr k q))
  rw [← e, ← attend768_apply]
  unfold tile768
  generalize attend768 m _ vt = w
  pointwise

/-! ## Queries 768 to 1023, which see the first 1024 keys -/

/-- The scores, before the query's scale. -/
noncomputable def scores1024 (kc : Vec Idealize.ShloMosaic.Ideal S1x1x1024x128 .fp8e4m3) (qc : FVec Idealize.ShloMosaic.Ideal S1024x128 .fp8e4m3) (kr : Vec Idealize.ShloMosaic.Ideal S1x1x1024x128 .f32) : FVec Idealize.ShloMosaic.Ideal S1024x256 .f32 :=
  mulf (matmul (F := Idealize.ShloMosaic.Ideal) (φ₁ := .fp8e4m3) (φ₂ := .fp8e4m3) dot_S1024x128_S256x128_S1024x256_1_1_0_0_n_n none (shapeCast S1024x128 kc shapeCasts_S1x1x1024x128_S1024x128)
      (extractStridedSlice S256x128 ![768, 0] qc slices_S1024x128_o768_0_S256x128) (constant S1024x256 .f32 0x00000000#32))
    (concatenate S1024x256 1 [⟨S1024x128, shapeCast S1024x128 kr shapeCasts_S1x1x1024x128_S1024x128⟩, ⟨S1024x128, shapeCast S1024x128 kr shapeCasts_S1x1x1024x128_S1024x128⟩] concatenates_S1024x128_S1024x128_S1024x256_d1)

theorem scores1024_apply (kc : Vec Idealize.ShloMosaic.Ideal S1x1x1024x128 .fp8e4m3) (qc : FVec Idealize.ShloMosaic.Ideal S1024x128 .fp8e4m3) (kr : Vec Idealize.ShloMosaic.Ideal S1x1x1024x128 .f32) (k : Fin 1024) (q : Fin 256) :
    scores1024 kc qc kr (ix2 k q) = (∑ d, kc (ix4 0 0 k d) * qc (ix2 ⟨768 + q.val, by omega⟩ d)) * kr (ix4 0 0 k ⟨q.val % 128, q256 q⟩) := by
  pointwise [scores1024]
  by_cases h : q.val < 128
  · rw [dif_pos h]
    exact congrArg _ (congrArg kr (congrArg (ix4 0 0 k) (Fin.ext (Nat.mod_eq_of_lt h).symm)))
  · rw [dif_neg h]
    exact congrArg _ (congrArg kr (congrArg (ix4 0 0 k) (Fin.ext (by dsimp only; omega))))

/-- The scores with the later keys masked. -/
noncomputable def masked1024 (s : FVec Idealize.ShloMosaic.Ideal S1024x256 .f32) : FVec Idealize.ShloMosaic.Ideal S1024x256 .f32 :=
  concatenate S1024x256 0 [⟨S768x256, extractStridedSlice S768x256 ![0, 0] s slices_S1024x256_o0_0_S768x256⟩,
    ⟨S256x256, select (cmpi .sle (iota .tc S256x256 32 [0] iota_S256x256_d0_w32) (iota .tc S256x256 32 [1] iota_S256x256_d1_w32))
      (extractStridedSlice S256x256 ![768, 0] s slices_S1024x256_o768_0_S256x256) (broadcast S256x256 (Scalar.ofBits .f32 0xFF800000#32))⟩] concatenates_S768x256_S256x256_S1024x256_d0

theorem masked1024_apply (s : FVec Idealize.ShloMosaic.Ideal S1024x256 .f32) (k : Fin 1024) (q : Fin 256) :
    masked1024 s (ix2 k q) = if k.val ≤ 768 + q.val then s (ix2 k q) else ⊥ := by
  rw [← qexp_ofBits_bot]
  pointwise [masked1024]
  exact mask_tail 768 q k.val k.isLt _ _ _ fun h => congrArg (fun k' : Fin 1024 => s (ix2 k' q)) (Fin.ext (Nat.add_sub_of_le (Nat.le_of_not_lt h)))

/-- The softmax over the keys, applied to the values. -/
noncomputable def attend1024 (m : FVec Idealize.ShloMosaic.Ideal S1x1024 .f32) (X : FVec Idealize.ShloMosaic.Ideal S1024x256 .f32) (vt : Vec Idealize.ShloMosaic.Ideal S1x128x1024 .bf16) : FVec Idealize.ShloMosaic.Ideal S256x128 .bf16 :=
  have p : FVec Idealize.ShloMosaic.Ideal S1024x256 .f32 := exp2 (mulf (subf X (broadcastTo S1024x256 (shapeCast S1x256 (multiReduction (F := Idealize.ShloMosaic.Ideal) .maximumf [0] S256 X 0xFF800000#32 reduces_S1024x256_S256 (.inl rfl) rfl) shapeCasts_S256_S1x256) broadcasts_S1x256_S1024x256))
    (broadcastTo S1024x256 (extractStridedSlice S1x256 ![0, 768] m slices_S1x1024_o0_768_S1x256) broadcasts_S1x256_S1024x256))
  truncf .bf16 (transpose S256x128 [1, 0] (mulf (matmul (F := Idealize.ShloMosaic.Ideal) (φ₁ := .bf16) (φ₂ := .bf16) dot_S128x1024_S1024x256_S128x256_1_0_0_1_n_n none (shapeCast S128x1024 vt shapeCasts_S1x128x1024_S128x1024) (truncf .bf16 p bitsLt_bf16_f32) (constant S128x256 .f32 0x00000000#32))
    (broadcastTo S128x256 (divf (broadcast S1x256 (Scalar.ofBits .f32 0x3F800000#32)) (shapeCast S1x256 (multiReduction (F := Idealize.ShloMosaic.Ideal) .add [0] S256 p 0x00000000#32 reduces_S1024x256_S256 (.inl rfl) rfl) shapeCasts_S256_S1x256)) broadcasts_S1x256_S128x256)) transposes_S128x256_p1_0_S256x128) bitsLt_bf16_f32

theorem attend1024_apply (m : FVec Idealize.ShloMosaic.Ideal S1x1024 .f32) (X : FVec Idealize.ShloMosaic.Ideal S1024x256 .f32) (vt : Vec Idealize.ShloMosaic.Ideal S1x128x1024 .bf16) (q : Fin 256) (d : Fin 128) :
    attend1024 m X vt (ix2 q d) = attendRow (fun k => X (ix2 k q)) (m (ix2 0 ⟨768 + q.val, by omega⟩)) (fun k => vt (ix3 0 d k)) := by
  unfold attendRow
  rw [← qexp_ofBits_bot]
  pointwise [attend1024]
  rfl

/-- The block of outputs. -/
noncomputable def tile1024 (m : FVec Idealize.ShloMosaic.Ideal S1x1024 .f32) (qc : FVec Idealize.ShloMosaic.Ideal S1024x128 .fp8e4m3) (kc : Vec Idealize.ShloMosaic.Ideal S1x1x1024x128 .fp8e4m3) (kr : Vec Idealize.ShloMosaic.Ideal S1x1x1024x128 .f32) (vt : Vec Idealize.ShloMosaic.Ideal S1x128x1024 .bf16) : FVec Idealize.ShloMosaic.Ideal S1x256x128 .bf16 :=
  shapeCast S1x256x128 (attend1024 m (masked1024 (scores1024 kc qc kr)) vt) shapeCasts_S256x128_S1x256x128

theorem tile1024_apply (m : FVec Idealize.ShloMosaic.Ideal S1x1024 .f32) (qc : FVec Idealize.ShloMosaic.Ideal S1024x128 .fp8e4m3) (kc : Vec Idealize.ShloMosaic.Ideal S1x1x1024x128 .fp8e4m3) (kr : Vec Idealize.ShloMosaic.Ideal S1x1x1024x128 .f32) (vt : Vec Idealize.ShloMosaic.Ideal S1x128x1024 .bf16) (q : Fin 256) (d : Fin 128) :
    tile1024 m qc kc kr vt (ix3 0 q d) = attendRow (fun k : Fin 1024 => if k.val ≤ 768 + q.val then (∑ d, kc (ix4 0 0 k d) * qc (ix2 ⟨768 + q.val, by omega⟩ d)) * kr (ix4 0 0 k ⟨q.val % 128, q256 q⟩) else ⊥)
      (m (ix2 0 ⟨768 + q.val, by omega⟩)) (fun k => vt (ix3 0 d k)) := by
  have e : (fun k => masked1024 (scores1024 kc qc kr) (ix2 k q)) = _ := funext fun k => (masked1024_apply _ k q).trans (congrArg (fun w => if k.val ≤ 768 + q.val then w else ⊥) (scores1024_apply kc qc kr k q))
  rw [← e, ← attend1024_apply]
  unfold tile1024
  generalize attend1024 m _ vt = w
  pointwise

end Cert.KernelIdeal.Hand

end
-- ==== Proof.KIPieces.lean ====
module

public import proofs.«01_k».proof.Proof.KIReg1
public import proofs.«01_k».proof.Proof.KIVec1
public import proofs.«01_k».proof.Proof.KIAtt
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Cert.Hand
open scoped BigOperators

variable (V : (c : Dev nD) → (b : Ref sig .tc) → Buf (Elt Idealize.ShloMosaic.Ideal) ((c : Thread nD τ).loc b))

/-! ## What one point of the second region writes, entry by entry

A point takes one sequence and one pair of query heads: the pair's projection, rotated and coded, and its attention in four blocks
of 256 queries. -/

section
variable (c : Dev nD) (t : Fin cfg1.N)

/-- The coded inputs of the point's sequence, their scales, and the rotary cosines and sines, -/
abbrev X1 := View.ld (iblk1 V c 0 t) (Rect.unit (k1_off1 (grid1.coords t)) S1x1024x3584.size (k1_off1_inb (grid1.coords t)))
abbrev XS1 := View.ld (iblk1 V c 4 t) (Rect.unit (k1_off2 (grid1.coords t)) S1x1024x128.size (k1_off2_inb (grid1.coords t)))
abbrev C1 := View.ld (iblk1 V c 5 t) (Rect.unit (k1_off2 (grid1.coords t)) S1x1024x128.size (k1_off2_inb (grid1.coords t)))
abbrev S1 := View.ld (iblk1 V c 6 t) (Rect.unit (k1_off2 (grid1.coords t)) S1x1024x128.size (k1_off2_inb (grid1.coords t)))

/-- the first of the two query heads, rotated, -/
def H0 : FVec Idealize.ShloMosaic.Ideal S1024x128 .f32 := headF 0 slices_S1024x256_o0_0_S1024x128 (X1 V c t) (iblk1 V c 1 t) (XS1 V c t) (C1 V c t) (S1 V c t)
  (View.ld (iblk1 V c 2 t) (Rect.unit ![0, 0] S1x128.size inb_S1x256_S1x128_0_0)) (View.ld (iblk1 V c 3 t) (Rect.unit ![0, 0] S1x128.size inb_S1x256_S1x128_0_0))

/-- and the second. -/
def H1 : FVec Idealize.ShloMosaic.Ideal S1024x128 .f32 := headF 128 slices_S1024x256_o0_128_S1024x128 (X1 V c t) (iblk1 V c 1 t) (XS1 V c t) (C1 V c t) (S1 V c t)
  (View.ld (iblk1 V c 2 t) (Rect.unit ![0, 128] S1x128.size inb_S1x256_S1x128_0_128)) (View.ld (iblk1 V c 3 t) (Rect.unit ![0, 128] S1x128.size inb_S1x256_S1x128_0_128))

theorem v27_eq : kernelRun1.sl.v27 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) (iblk1 V c 5 t) (iblk1 V c 6 t) = H0 V c t := by
  frame_open
  simp (disch := decide) only [View.readAt_eq_ld, View.ld_unit_lit', Memref.IsWhole.read_unread]
  rfl

theorem v299_eq : kernelRun1.sl.v299 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) (iblk1 V c 5 t) (iblk1 V c 6 t) = H1 V c t := by
  frame_open
  simp (disch := decide) only [View.readAt_eq_ld, View.ld_unit_lit', Memref.IsWhole.read_unread]
  rfl

end

/-- The codes and the factor of the exponent of a head. -/
abbrev codeOf (f : FVec Idealize.ShloMosaic.Ideal S1024x128 .f32) := codeV1 f (colMax1 f)
abbrev expOf (f : FVec Idealize.ShloMosaic.Ideal S1024x128 .f32) := expRow (scaleV1 (colMax1 f))

/-! The four blocks of outputs of a head, from the head `f`, the coded keys `kc` with their scales `kr`, and the values `vt`. -/

abbrev B256 (i : grid1.Coords) (h : Fin 2) (f : FVec Idealize.ShloMosaic.Ideal S1024x128 .f32) (kc : Vec Idealize.ShloMosaic.Ideal S2x4x1024x128 .fp8e4m3) (kr : Vec Idealize.ShloMosaic.Ideal S2x4x1024x128 .f32) (vt : Vec Idealize.ShloMosaic.Ideal S2x512x1024 .bf16) : FVec Idealize.ShloMosaic.Ideal S1x256x128 .bf16 :=
  tile256 (expOf f) (codeOf f) (View.ld kc (Rect.unit (k1_off4 i (BitVec.ofNat 32 h.val)) S1x1x256x128.size (k1_off4_inb i h))) (View.ld kr (Rect.unit (k1_off4 i (BitVec.ofNat 32 h.val)) S1x1x256x128.size (k1_off4_inb i h)))
    (View.ld vt (Rect.unit (k1_off5 i (BitVec.ofNat 32 h.val)) S1x128x256.size (k1_off5_inb i h)))

abbrev B512 (i : grid1.Coords) (h : Fin 2) (f : FVec Idealize.ShloMosaic.Ideal S1024x128 .f32) (kc : Vec Idealize.ShloMosaic.Ideal S2x4x1024x128 .fp8e4m3) (kr : Vec Idealize.ShloMosaic.Ideal S2x4x1024x128 .f32) (vt : Vec Idealize.ShloMosaic.Ideal S2x512x1024 .bf16) : FVec Idealize.ShloMosaic.Ideal S1x256x128 .bf16 :=
  tile512 (expOf f) (codeOf f) (View.ld kc (Rect.unit (k1_off6 i (BitVec.ofNat 32 h.val)) S1x1x512x128.size (k1_off6_inb i h))) (View.ld kr (Rect.unit (k1_off6 i (BitVec.ofNat 32 h.val)) S1x1x512x128.size (k1_off6_inb i h)))
    (View.ld vt (Rect.unit (k1_off7 i (BitVec.ofNat 32 h.val)) S1x128x512.size (k1_off7_inb i h)))

abbrev B768 (i : grid1.Coords) (h : Fin 2) (f : FVec Idealize.ShloMosaic.Ideal S1024x128 .f32) (kc : Vec Idealize.ShloMosaic.Ideal S2x4x1024x128 .fp8e4m3) (kr : Vec Idealize.ShloMosaic.Ideal S2x4x1024x128 .f32) (vt : Vec Idealize.ShloMosaic.Ideal S2x512x1024 .bf16) : FVec Idealize.ShloMosaic.Ideal S1x256x128 .bf16 :=
  tile768 (expOf f) (codeOf f) (View.ld kc (Rect.unit (k1_off8 i (BitVec.ofNat 32 h.val)) S1x1x768x128.size (k1_off8_inb i h))) (View.ld kr (Rect.unit (k1_off8 i (BitVec.ofNat 32 h.val)) S1x1x768x128.size (k1_off8_inb i h)))
    (View.ld vt (Rect.unit (k1_off9 i (BitVec.ofNat 32 h.val)) S1x128x768.size (k1_off9_inb i h)))

abbrev B1024 (i : grid1.Coords) (h : Fin 2) (f : FVec Idealize.ShloMosaic.Ideal S1024x128 .f32) (kc : Vec Idealize.ShloMosaic.Ideal S2x4x1024x128 .fp8e4m3) (kr : Vec Idealize.ShloMosaic.Ideal S2x4x1024x128 .f32) (vt : Vec Idealize.ShloMosaic.Ideal S2x512x1024 .bf16) : FVec Idealize.ShloMosaic.Ideal S1x256x128 .bf16 :=
  tile1024 (expOf f) (codeOf f) (View.ld kc (Rect.unit (k1_off10 i (BitVec.ofNat 32 h.val)) S1x1x1024x128.size (k1_off10_inb i h))) (View.ld kr (Rect.unit (k1_off10 i (BitVec.ofNat 32 h.val)) S1x1x1024x128.size (k1_off10_inb i h)))
    (View.ld vt (Rect.unit (k1_off11 i (BitVec.ofNat 32 h.val)) S1x128x1024.size (k1_off11_inb i h)))

theorem pieces1_12 (c : Dev nD) (t : Fin cfg1.N) : L1_12 V c t = [⟨Rect.unit (k1_off12 (grid1.coords t)) S1x1x1024.size (k1_off12_inb (grid1.coords t)), k1_pay38 (scaleV1 (colMax1 (H1 V c t)))⟩,
    ⟨Rect.unit (k1_off3 (grid1.coords t)) S1x1x1024.size (k1_off3_inb (grid1.coords t)), k1_pay38 (scaleV1 (colMax1 (H0 V c t)))⟩] := by
  rw [← v27_eq, ← v299_eq]
  rfl

theorem pieces1_11 (c : Dev nD) (t : Fin cfg1.N) : L1_11 V c t = [⟨Rect.unit ![0, 1, 0, 0] S1x1x1024x128.size inb_S1x2x1024x128_S1x1x1024x128_0_1_0_0, k1_pay36 (codeOf (H1 V c t))⟩,
    ⟨Rect.unit ![0, 0, 0, 0] S1x1x1024x128.size inb_S1x2x1024x128_S1x1x1024x128_0_0_0_0, k1_pay36 (codeOf (H0 V c t))⟩] := by
  rw [← v27_eq, ← v299_eq]
  rfl

theorem pieces1_10 (c : Dev nD) (t : Fin cfg1.N) : L1_10 V c t = [
    ⟨Rect.unit ![0, 768, 128] S1x256x128.size inb_S1x1024x256_S1x256x128_0_768_128, B1024 (grid1.coords t) 1 (H1 V c t) (iblk1 V c 7 t) (iblk1 V c 8 t) (iblk1 V c 9 t)⟩,
    ⟨Rect.unit ![0, 512, 128] S1x256x128.size inb_S1x1024x256_S1x256x128_0_512_128, B768 (grid1.coords t) 1 (H1 V c t) (iblk1 V c 7 t) (iblk1 V c 8 t) (iblk1 V c 9 t)⟩,
    ⟨Rect.unit ![0, 256, 128] S1x256x128.size inb_S1x1024x256_S1x256x128_0_256_128, B512 (grid1.coords t) 1 (H1 V c t) (iblk1 V c 7 t) (iblk1 V c 8 t) (iblk1 V c 9 t)⟩,
    ⟨Rect.unit ![0, 0, 128] S1x256x128.size inb_S1x1024x256_S1x256x128_0_0_128, B256 (grid1.coords t) 1 (H1 V c t) (iblk1 V c 7 t) (iblk1 V c 8 t) (iblk1 V c 9 t)⟩,
    ⟨Rect.unit ![0, 768, 0] S1x256x128.size inb_S1x1024x256_S1x256x128_0_768_0, B1024 (grid1.coords t) 0 (H0 V c t) (iblk1 V c 7 t) (iblk1 V c 8 t) (iblk1 V c 9 t)⟩,
    ⟨Rect.unit ![0, 512, 0] S1x256x128.size inb_S1x1024x256_S1x256x128_0_512_0, B768 (grid1.coords t) 0 (H0 V c t) (iblk1 V c 7 t) (iblk1 V c 8 t) (iblk1 V c 9 t)⟩,
    ⟨Rect.unit ![0, 256, 0] S1x256x128.size inb_S1x1024x256_S1x256x128_0_256_0, B512 (grid1.coords t) 0 (H0 V c t) (iblk1 V c 7 t) (iblk1 V c 8 t) (iblk1 V c 9 t)⟩,
    ⟨Rect.unit ![0, 0, 0] S1x256x128.size inb_S1x1024x256_S1x256x128_0_0_0, B256 (grid1.coords t) 0 (H0 V c t) (iblk1 V c 7 t) (iblk1 V c 8 t) (iblk1 V c 9 t)⟩] := by
  have k7 := (hs1_7 t).read_unread (iblk1 V c 7 t)
  have k8 := (hs1_8 t).read_unread (iblk1 V c 8 t)
  have k9 := (hs1_9 t).read_unread (iblk1 V c 9 t)
  rw [← v27_eq, ← v299_eq]
  conv_rhs => rw [← k7, ← k8, ← k9]
  rfl

end Cert.KernelIdeal.Hand

end
-- ==== Proof.Softmax.lean ====
module

public import proofs.«01_k».proof.Proof.Spec

@[expose] public section

set_option maxRecDepth 16384

noncomputable section

namespace Cert.Hand

open Idealize.ShloMosaic Idealize.ShloMosaic.TcCoe Idealize.ShloMosaic.Tactic
open Idealize.SL Idealize.SL.RA Idealize.SL.BI Cert.Hand
open scoped BigOperators

/-! ## The kernel's softmax and the reference's

The kernel takes the largest raw score before it applies the query's scale, exponentiates to base 2, sees only the keys up to
the end of the query's block, and divides by the sum of the weights after it has summed the values. -/

theorem fold_eq {n : ℕ} (X : Fin n → EReal) (M : EReal) (h : ∀ k, X k ≤ M) (k0 : Fin n) (h0 : X k0 = M) : Finset.univ.fold max ⊥ X = M :=
  le_antisymm ((Finset.fold_max_le _).2 ⟨bot_le, fun k _ => h k⟩) ((Finset.le_fold_max _).2 (Or.inr ⟨k0, Finset.mem_univ _, h0.ge⟩))

theorem sum_castLE {M : Type} [AddCommMonoid M] {n N : ℕ} (h : n ≤ N) (g : Fin N → M) (hz : ∀ k : Fin N, n ≤ k.val → g k = 0) :
    ∑ k : Fin n, g (Fin.castLE h k) = ∑ k, g k := by
  have e : ∑ k : Fin n, g (Fin.castLE h k) = ∑ k ∈ Finset.univ.map (Fin.castLEEmb h), g k := by rw [Finset.sum_map]; rfl
  rw [e]
  refine Finset.sum_subset (Finset.subset_univ _) fun k _ hk => hz k ?_
  by_contra hlt
  exact hk (Finset.mem_map.2 ⟨⟨k.val, by omega⟩, Finset.mem_univ _, rfl⟩)

theorem sum_coe {n : ℕ} (e : Fin n → ℝ) : ∑ k, ((e k : ℝ) : EReal) = ((∑ k, e k : ℝ) : EReal) := by
  induction (Finset.univ : Finset (Fin n)) using Finset.induction_on with
  | empty => simp
  | insert a s ha ih => rw [Finset.sum_insert ha, Finset.sum_insert ha, ih, EReal.coe_add]

theorem sum_mul_coe {n : ℕ} (f : Fin n → EReal) (c : ℝ) (hc : 0 ≤ c) : (∑ k, f k) * (c : EReal) = ∑ k, f k * (c : EReal) := by
  induction (Finset.univ : Finset (Fin n)) using Finset.induction_on with
  | empty => simp
  | insert a s ha ih =>
    rw [Finset.sum_insert ha, Finset.sum_insert ha, EReal.right_distrib_of_nonneg_of_ne_top (by exact_mod_cast hc) (EReal.coe_ne_top c), ih]

theorem div_coe (a : ℝ) (b : ℝ) (hb : b ≠ 0) : Ideal.div (a : EReal) (b : EReal) = ((a * b⁻¹ : ℝ) : EReal) := by
  unfold Ideal.div
  rw [if_neg (by exact_mod_cast hb), EReal.coe_mul, EReal.coe_inv]

theorem attend_eq {n N : ℕ} (hn : n ≤ N) (s : ℕ) (hs : s < n) (r : Fin N → ℝ) (σ S : ℝ) (hσ : 0 < σ) (hS : 0 < S) (v : Fin N → EReal) :
    attendRow (fun k : Fin n => if k.val ≤ s then ((r (Fin.castLE hn k) : ℝ) : EReal) else ⊥) (((σ * (S * (Real.log 2)⁻¹) : ℝ)) : EReal) (fun k => v (Fin.castLE hn k)) =
      softRow (fun k : Fin N => if k.val ≤ s then ((r k * σ * S : ℝ) : EReal) else ⊥) v := by
  obtain ⟨k0, hk0, hmax⟩ := Finset.exists_max_image (Finset.univ.filter fun k : Fin N => k.val ≤ s) r ⟨⟨0, by omega⟩, by simp⟩
  have hk0s : k0.val ≤ s := by simpa using hk0
  have hle : ∀ k : Fin N, k.val ≤ s → r k ≤ r k0 := fun k hk => hmax k (by simpa using hk)
  have m1 : Finset.univ.fold max ⊥ (fun k : Fin n => if k.val ≤ s then ((r (Fin.castLE hn k) : ℝ) : EReal) else ⊥) = ((r k0 : ℝ) : EReal) := by
    refine fold_eq _ _ (fun k => ?_) ⟨k0.val, by omega⟩ ?_
    · by_cases h : k.val ≤ s
      · rw [if_pos h]; exact_mod_cast hle _ h
      · rw [if_neg h]; exact bot_le
    · rw [if_pos hk0s]; rfl
  have m2 : Finset.univ.fold max ⊥ (fun k : Fin N => if k.val ≤ s then ((r k * σ * S : ℝ) : EReal) else ⊥) = ((r k0 * σ * S : ℝ) : EReal) := by
    refine fold_eq _ _ (fun k => ?_) k0 ?_
    · by_cases h : k.val ≤ s
      · rw [if_pos h]
        exact EReal.coe_le_coe_iff.2 (mul_le_mul_of_nonneg_right (mul_le_mul_of_nonneg_right (hle k h) hσ.le) hS.le)
      · rw [if_neg h]; exact bot_le
    · rw [if_pos hk0s]
  let e : Fin N → ℝ := fun k => if k.val ≤ s then Real.exp ((r k - r k0) * σ * S) else 0
  have hlog : Real.log 2 ≠ 0 := (Real.log_pos (by norm_num)).ne'
  have e1 : ∀ k : Fin n, Ideal.exp2 (((if k.val ≤ s then ((r (Fin.castLE hn k) : ℝ) : EReal) else ⊥) - ((r k0 : ℝ) : EReal)) * (((σ * (S * (Real.log 2)⁻¹) : ℝ)) : EReal)) = ((e (Fin.castLE hn k) : ℝ) : EReal) := fun k => by
    by_cases h : k.val ≤ s
    · rw [if_pos h, ← EReal.coe_sub, ← EReal.coe_mul]
      show ((Real.rpow 2 _ : ℝ) : EReal) = _
      refine congrArg _ ?_
      show (2 : ℝ) ^ ((r (Fin.castLE hn k) - r k0) * (σ * (S * (Real.log 2)⁻¹))) = (if (Fin.castLE hn k).val ≤ s then Real.exp ((r (Fin.castLE hn k) - r k0) * σ * S) else 0)
      rw [if_pos (show (Fin.castLE hn k).val ≤ s from h), Real.rpow_def_of_pos (by norm_num)]
      congr 1
      field_simp
    · rw [if_neg h, sub_eq_add_neg, EReal.bot_add, EReal.bot_mul_coe_of_pos (by positivity)]
      show (0 : EReal) = (((if (Fin.castLE hn k).val ≤ s then Real.exp ((r (Fin.castLE hn k) - r k0) * σ * S) else 0 : ℝ)) : EReal)
      rw [if_neg (show ¬ (Fin.castLE hn k).val ≤ s from h)]; rfl
  have e2 : ∀ k : Fin N, Ideal.exp ((if k.val ≤ s then ((r k * σ * S : ℝ) : EReal) else ⊥) - ((r k0 * σ * S : ℝ) : EReal)) = ((e k : ℝ) : EReal) := fun k => by
    by_cases h : k.val ≤ s
    · rw [if_pos h, ← EReal.coe_sub]
      show ((Real.exp _ : ℝ) : EReal) = (((if k.val ≤ s then Real.exp ((r k - r k0) * σ * S) else 0 : ℝ)) : EReal)
      rw [if_pos h]
      congr 2
      ring
    · rw [if_neg h, sub_eq_add_neg, EReal.bot_add]
      show (0 : EReal) = (((if k.val ≤ s then Real.exp ((r k - r k0) * σ * S) else 0 : ℝ)) : EReal)
      rw [if_neg h]; rfl
  have e0 : ∀ k : Fin N, n ≤ k.val → e k = 0 := fun k hk => if_neg (by omega)
  have epos : ∀ k, 0 ≤ e k := fun k => by
    show 0 ≤ (if k.val ≤ s then Real.exp ((r k - r k0) * σ * S) else 0)
    split
    · exact (Real.exp_pos _).le
    · exact le_rfl
  have hL : 0 < ∑ k, e k := Finset.sum_pos' (fun k _ => epos k) ⟨k0, Finset.mem_univ _, by show 0 < (if k0.val ≤ s then Real.exp ((r k0 - r k0) * σ * S) else 0); rw [if_pos hk0s]; exact Real.exp_pos _⟩
  unfold attendRow softRow
  rw [m1, m2]
  simp only [e1, e2]
  rw [sum_coe, sum_coe, sum_castLE hn e e0, sum_castLE hn (fun k => v k * ((e k : ℝ) : EReal)) (fun k hk => by simp only [e0 k hk]; simp),
    show (1 : EReal) = ((1 : ℝ) : EReal) from rfl, div_coe _ _ hL.ne', sum_mul_coe _ _ (by positivity)]
  refine Finset.sum_congr rfl fun k _ => ?_
  rw [div_coe _ _ hL.ne', mul_comm (((e k * _ : ℝ)) : EReal) (v k), mul_assoc, ← EReal.coe_mul, one_mul]

/-! ## Codes and scales are finite -/

theorem ofBits_448 : Ideal.ofBits FTy.f32 0x43E00000#32 = ((448 : ℝ) : EReal) := by
  simp [Ideal.ofBits, Ideal.ieee, -EReal.coe_mul]; norm_num
theorem ofBits_m448 : Ideal.ofBits FTy.f32 0xC3E00000#32 = ((-448 : ℝ) : EReal) := by
  simp [Ideal.ofBits, Ideal.ieee, -EReal.coe_mul, -EReal.coe_neg]; norm_num

/-- A value held between two reals is a real. -/
theorem clamp_real (lo hi : ℝ) (z : EReal) : ∃ a : ℝ, min (hi : EReal) (max (lo : EReal) z) = (a : EReal) := by
  have h : min (hi : EReal) (max (lo : EReal) z) ≠ ⊤ := ne_of_lt (lt_of_le_of_lt (min_le_left _ _) (EReal.coe_lt_top hi))
  have h' : min (hi : EReal) (max (lo : EReal) z) ≠ ⊥ :=
    ne_of_gt (lt_min (EReal.bot_lt_coe hi) (lt_of_lt_of_le (EReal.bot_lt_coe lo) (le_max_left _ _)))
  exact ⟨_, (EReal.coe_toReal h h').symm⟩

theorem code_real (x i : EReal) : ∃ a : ℝ, code x i = (a : EReal) := by
  unfold code
  rw [ofBits_448, ofBits_m448]
  exact clamp_real _ _ _

theorem qexp_real (a : EReal) : ∃ e : ℝ, qexp a = (e : EReal) := by
  unfold qexp
  by_cases h : a = 0
  · exact ⟨0, by rw [if_pos h]; rfl⟩
  · rw [if_neg h, ofBits_119, ofBits_m127]
    obtain ⟨b, hb⟩ := clamp_real (-127) 119 (Ideal.liftRound Int.floor (Ideal.div (Ideal.log (a * cinv)) (Ideal.log (Ideal.ofBits FTy.f32 1073741824#32))))
    exact ⟨b + 1, by rw [hb]; rfl⟩

theorem rscale_real {n : ℕ} (f : Fin n → EReal) : ∃ σ : ℝ, 0 < σ ∧ rscale f = (σ : EReal) := by
  obtain ⟨e, he⟩ := qexp_real (rowmax f)
  refine ⟨(2 : ℝ) ^ e, by positivity, ?_⟩
  unfold rscale qscale
  rw [he]
  rfl

/-- The softmax's scale. -/
theorem ofBits_score : Ideal.ofBits FTy.f32 0x3DB504F3#32 = ((11863283 / 134217728 : ℝ) : EReal) := by
  simp [Ideal.ofBits, Ideal.ieee, -EReal.coe_mul]; norm_num

/-- The kernel's attention for query `s` of head `h`, over the keys up to the end of its block. -/
theorem out_eq (I : In) (b : Fin 2) (h : Fin 28) (s : Fin 1024) (d : Fin 128) {n : ℕ} (hn : n ≤ 1024) (hs : s.val < n) (X : Fin n → EReal) (m : EReal) (v : Fin n → EReal)
    (hX : ∀ k : Fin n, X k = if k.val ≤ s.val then (∑ d, rcode (I.k b (In.grp h) (Fin.castLE hn k)) d * rcode (I.q b h s) d) * rscale (I.k b (In.grp h) (Fin.castLE hn k)) else ⊥)
    (hm : m = rscale (I.q b h s) * (((11863283 / 134217728) * (Real.log 2)⁻¹ : ℝ) : EReal))
    (hv : ∀ k : Fin n, v k = I.v b (Fin.castLE hn k) ⟨128 * (In.grp h).val + d.val, by have := (In.grp h).isLt; omega⟩) :
    attendRow X m v = I.out b h s d := by
  obtain ⟨σ, hσ, eσ⟩ := rscale_real (I.q b h s)
  choose τ hτ eτ using fun l => rscale_real (I.k b (In.grp h) l)
  choose p ep using fun d => code_real (I.q b h s d) (qinv (rowmax (I.q b h s)))
  choose c ec using fun l d => code_real (I.k b (In.grp h) l d) (qinv (rowmax (I.k b (In.grp h) l)))
  have hq : ∀ d, rcode (I.q b h s) d = ((p d : ℝ) : EReal) := ep
  have hk : ∀ l d, rcode (I.k b (In.grp h) l) d = ((c l d : ℝ) : EReal) := ec
  have raw : ∀ l, ∑ d, rcode (I.k b (In.grp h) l) d * rcode (I.q b h s) d = ((∑ d, c l d * p d : ℝ) : EReal) := fun l => by
    simp only [hq, hk, ← EReal.coe_mul, sum_coe]
  have raw' : ∀ l, ∑ d, rcode (I.q b h s) d * rcode (I.k b (In.grp h) l) d = ((∑ d, c l d * p d : ℝ) : EReal) := fun l => by
    simp only [hq, hk, ← EReal.coe_mul, sum_coe, mul_comm (p _)]
  have key := attend_eq hn s.val hs (fun l => (∑ d, c l d * p d) * τ l) σ (11863283 / 134217728) hσ (by norm_num)
    (fun l => I.v b l ⟨128 * (In.grp h).val + d.val, by have := (In.grp h).isLt; omega⟩)
  have eX : X = fun k : Fin n => if k.val ≤ s.val then (((fun l => (∑ d, c l d * p d) * τ l) (Fin.castLE hn k) : ℝ) : EReal) else ⊥ := funext fun k => by
    rw [hX, raw, eτ, ← EReal.coe_mul]
  have ex : I.score b h s = fun l : Fin 1024 => if l.val ≤ s.val then (((fun l => (∑ d, c l d * p d) * τ l) l * σ * (11863283 / 134217728) : ℝ) : EReal) else ⊥ := funext fun l => by
    unfold In.score
    rw [raw', eτ, eσ, ofBits_score, ← EReal.coe_mul, ← EReal.coe_mul, ← EReal.coe_mul, mul_right_comm _ σ]
  unfold In.out
  rw [ex, ← key, ← eX, hm, eσ, ← EReal.coe_mul, funext hv]

end Cert.Hand

end
-- ==== Proof.KIVal1.lean ====
module

public import proofs.«01_k».proof.Proof.KIPieces
public import proofs.«01_k».proof.Proof.KIArr0
public import proofs.«01_k».proof.Proof.Softmax

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Cert.Hand
open scoped BigOperators

variable (V : (c : Dev nD) → (b : Ref sig .tc) → Buf (Elt Idealize.ShloMosaic.Ideal) ((c : Thread nD τ).loc b))

/-! ## What one point of the second region writes, as the attention of the specification -/

/-- The arrays that the second region reads, when the first has prepared them from the inputs `I`. -/
structure Reads1 (c : Dev nD) (I : In) : Prop where
  xc : ∀ b s k, V c main_v15_0 (ix3 b s k) = rcode (I.x b s) k
  w : ∀ k n, V c main_arg1 (ix2 k n) = I.w k n
  ws : ∀ n, V c main_v0 (ix2 0 n) = I.ws n
  bs : ∀ n, V c main_v1 (ix2 0 n) = I.bs n
  xs : ∀ b s d, V c main_v15_2 (ix3 b s d) = rscale (I.x b s)
  cos : ∀ b s d, V c main_v15_3 (ix3 b s d) = I.cos b s d
  sin : ∀ b s (d : Fin 128), V c main_v15_4 (ix3 b s d) = if d.val < 64 then 0 - I.sin b s d else I.sin b s d
  kc : ∀ b g s d, V c main_v15_6 (ix4 b g s d) = rcode (I.k b g s) d
  kr : ∀ b g s d, V c main_v15_8 (ix4 b g s d) = rscale (I.k b g s)
  vt : ∀ b n s, V c main_v15_9 (ix3 b n s) = I.v b s n

/-- The sequence at point `t`, and its query head of the pair. -/
def bAt (t : Fin cfg1.N) : Fin 2 := ⟨t.val % 2, by omega⟩
def hAt (t : Fin cfg1.N) (h : Fin 2) : Fin 28 := ⟨2 * (t.val / 2) + h.val, by have : t.val < 28 := t.isLt; omega⟩

theorem off1_1 : ∀ t : Fin cfg1.N, k1_off1 (grid1.coords t) = ![t.val % 2, 0, 0] := by decide
theorem off1_2 : ∀ t : Fin cfg1.N, k1_off2 (grid1.coords t) = ![t.val % 2, 0, 0] := by decide
theorem off1_k : ∀ (t : Fin cfg1.N) (h : Fin 2), k1_off4 (grid1.coords t) (BitVec.ofNat 32 h.val) = ![t.val % 2, (2 * (t.val / 2) + h.val) / 7, 0, 0] ∧
    k1_off6 (grid1.coords t) (BitVec.ofNat 32 h.val) = ![t.val % 2, (2 * (t.val / 2) + h.val) / 7, 0, 0] ∧
    k1_off8 (grid1.coords t) (BitVec.ofNat 32 h.val) = ![t.val % 2, (2 * (t.val / 2) + h.val) / 7, 0, 0] ∧
    k1_off10 (grid1.coords t) (BitVec.ofNat 32 h.val) = ![t.val % 2, (2 * (t.val / 2) + h.val) / 7, 0, 0] := by decide +kernel
theorem off1_v : ∀ (t : Fin cfg1.N) (h : Fin 2), k1_off5 (grid1.coords t) (BitVec.ofNat 32 h.val) = ![t.val % 2, 128 * ((2 * (t.val / 2) + h.val) / 7), 0] ∧
    k1_off7 (grid1.coords t) (BitVec.ofNat 32 h.val) = ![t.val % 2, 128 * ((2 * (t.val / 2) + h.val) / 7), 0] ∧
    k1_off9 (grid1.coords t) (BitVec.ofNat 32 h.val) = ![t.val % 2, 128 * ((2 * (t.val / 2) + h.val) / 7), 0] ∧
    k1_off11 (grid1.coords t) (BitVec.ofNat 32 h.val) = ![t.val % 2, 128 * ((2 * (t.val / 2) + h.val) / 7), 0] := by decide +kernel

theorem idx1 : ∀ t : Fin cfg1.N, win1_0.index t = ![0, 0, 0] ∧ win1_1.index t = ![0, t.val / 2] ∧ win1_2.index t = ![0, t.val / 2] ∧ win1_3.index t = ![0, t.val / 2] ∧
    win1_4.index t = ![0, 0, 0] ∧ win1_5.index t = ![0, 0, 0] ∧ win1_6.index t = ![0, 0, 0] ∧ win1_7.index t = ![0, 0, 0, 0] ∧ win1_8.index t = ![0, 0, 0, 0] ∧
    win1_9.index t = ![0, 0, 0] :=
  (by decide +kernel : ∀ t : Fin grid1.N, _)

section
variable (c : Dev nD) (t : Fin cfg1.N) {I : In} (R : Reads1 V c I)

/-- A whole window read at a sequence. -/
theorem ld3 {e : EltTy} {n m : ℕ} (A : Vec Idealize.ShloMosaic.Ideal (⟨3, ![2, n, m]⟩ : Shape) e) (off : Fin 3 → ℕ) (inb) (b : Fin 2) (ho : off = ![b.val, 0, 0]) (s : Fin n) (k : Fin m) :
    View.ld A (Rect.unit (s := ⟨3, ![2, n, m]⟩) off ![1, n, m] inb) (ix3 0 s k) = A (ix3 b s k) := by
  subst ho
  refine View.ld_unit_apply_of _ _ _ _ _ _ fun a => ?_
  match a with
  | ⟨0, _⟩ => rfl
  | ⟨1, _⟩ => exact (Nat.zero_add _).symm
  | ⟨2, _⟩ => exact (Nat.zero_add _).symm

include R

theorem rX (s : Fin 1024) (k : Fin 3584) : X1 V c t (ix3 0 s k) = rcode (I.x (bAt t) s) k := by
  refine (ld3 (iblk1 V c 0 t) _ _ (bAt t) (off1_1 t) s k).trans (Eq.trans ?_ (R.xc (bAt t) s k))
  blk_ext [iblk1, idx1 t]

theorem rXS (s : Fin 1024) (d : Fin 128) : XS1 V c t (ix3 0 s d) = rscale (I.x (bAt t) s) := by
  refine (ld3 (iblk1 V c 4 t) _ _ (bAt t) (off1_2 t) s d).trans (Eq.trans ?_ (R.xs (bAt t) s d))
  blk_ext [iblk1, idx1 t]

theorem rC (s : Fin 1024) (d : Fin 128) : C1 V c t (ix3 0 s d) = I.cos (bAt t) s d := by
  refine (ld3 (iblk1 V c 5 t) _ _ (bAt t) (off1_2 t) s d).trans (Eq.trans ?_ (R.cos (bAt t) s d))
  blk_ext [iblk1, idx1 t]

theorem rS (s : Fin 1024) (d : Fin 128) : S1 V c t (ix3 0 s d) = if d.val < 64 then 0 - I.sin (bAt t) s d else I.sin (bAt t) s d := by
  refine (ld3 (iblk1 V c 6 t) _ _ (bAt t) (off1_2 t) s d).trans (Eq.trans ?_ (R.sin (bAt t) s d))
  blk_ext [iblk1, idx1 t]

theorem rW (k : Fin 3584) (n : Fin 256) : iblk1 V c 1 t (ix2 k n) = I.w k ⟨256 * (t.val / 2) + n.val, by have : t.val < 28 := t.isLt; omega⟩ := by
  refine Eq.trans ?_ (R.w k _)
  have : t.val < 28 := t.isLt
  blk_ext [iblk1, idx1 t]

theorem rWs (n : Fin 256) : iblk1 V c 2 t (ix2 0 n) = I.ws ⟨256 * (t.val / 2) + n.val, by have : t.val < 28 := t.isLt; omega⟩ := by
  refine Eq.trans ?_ (R.ws _)
  have : t.val < 28 := t.isLt
  blk_ext [iblk1, idx1 t]

theorem rBs (n : Fin 256) : iblk1 V c 3 t (ix2 0 n) = I.bs ⟨256 * (t.val / 2) + n.val, by have : t.val < 28 := t.isLt; omega⟩ := by
  refine Eq.trans ?_ (R.bs _)
  have : t.val < 28 := t.isLt
  blk_ext [iblk1, idx1 t]

theorem rK (b : Fin 2) (g : Fin 4) (s : Fin 1024) (d : Fin 128) : iblk1 V c 7 t (ix4 b g s d) = rcode (I.k b g s) d := by
  refine Eq.trans ?_ (R.kc b g s d)
  blk_ext [iblk1, idx1 t]

theorem rKr (b : Fin 2) (g : Fin 4) (s : Fin 1024) (d : Fin 128) : iblk1 V c 8 t (ix4 b g s d) = rscale (I.k b g s) := by
  refine Eq.trans ?_ (R.kr b g s d)
  blk_ext [iblk1, idx1 t]

theorem rV (b : Fin 2) (n : Fin 512) (s : Fin 1024) : iblk1 V c 9 t (ix3 b n s) = I.v b s n := by
  refine Eq.trans ?_ (R.vt b n s)
  blk_ext [iblk1, idx1 t]

/-- The rows of the pair's first head, -/
theorem H0_row (s : Fin 1024) : (fun d => H0 V c t (ix2 s d)) = I.q (bAt t) (hAt t 0) s := by
  have ew : ∀ d : Fin 128, View.ld (iblk1 V c 2 t) (Rect.unit ![0, 0] S1x128.size inb_S1x256_S1x128_0_0) (ix2 0 d) = iblk1 V c 2 t (ix2 0 ⟨0 + d.val, by omega⟩) := fun d =>
    View.ld_unit_apply_of _ _ _ _ _ _ fun a => by
      match a with
      | ⟨0, _⟩ => rfl
      | ⟨1, _⟩ => rfl
  have eb : ∀ d : Fin 128, View.ld (iblk1 V c 3 t) (Rect.unit ![0, 0] S1x128.size inb_S1x256_S1x128_0_0) (ix2 0 d) = iblk1 V c 3 t (ix2 0 ⟨0 + d.val, by omega⟩) := fun d =>
    View.ld_unit_apply_of _ _ _ _ _ _ fun a => by
      match a with
      | ⟨0, _⟩ => rfl
      | ⟨1, _⟩ => rfl
  rw [H0, headF_row _ _ (by omega), ropeRoll_eq _ _ _ _ (fun d => rS V c t R s d)]
  simp only [rX V c t R, rXS V c t R, rC V c t R, ew, eb, rW V c t R, rWs V c t R, rBs V c t R]
  refine congrArg (fun f => rope f (I.cos (bAt t) s) (I.sin (bAt t) s)) (funext fun d => ?_)
  have e : (⟨256 * (t.val / 2) + (0 + d.val), by have : t.val < 28 := t.isLt; omega⟩ : Fin 4608) = ⟨128 * (hAt t 0).val + d.val, by omega⟩ :=
    Fin.ext (by show 256 * (t.val / 2) + (0 + d.val) = 128 * (2 * (t.val / 2) + 0) + d.val; omega)
  rw [e]
  rfl

/-- and of its second. -/
theorem H1_row (s : Fin 1024) : (fun d => H1 V c t (ix2 s d)) = I.q (bAt t) (hAt t 1) s := by
  have ew : ∀ d : Fin 128, View.ld (iblk1 V c 2 t) (Rect.unit ![0, 128] S1x128.size inb_S1x256_S1x128_0_128) (ix2 0 d) = iblk1 V c 2 t (ix2 0 ⟨128 + d.val, by omega⟩) := fun d =>
    View.ld_unit_apply_of _ _ _ _ _ _ fun a => by
      match a with
      | ⟨0, _⟩ => rfl
      | ⟨1, _⟩ => rfl
  have eb : ∀ d : Fin 128, View.ld (iblk1 V c 3 t) (Rect.unit ![0, 128] S1x128.size inb_S1x256_S1x128_0_128) (ix2 0 d) = iblk1 V c 3 t (ix2 0 ⟨128 + d.val, by omega⟩) := fun d =>
    View.ld_unit_apply_of _ _ _ _ _ _ fun a => by
      match a with
      | ⟨0, _⟩ => rfl
      | ⟨1, _⟩ => rfl
  rw [H1, headF_row _ _ (by omega), ropeRoll_eq _ _ _ _ (fun d => rS V c t R s d)]
  simp only [rX V c t R, rXS V c t R, rC V c t R, ew, eb, rW V c t R, rWs V c t R, rBs V c t R]
  refine congrArg (fun f => rope f (I.cos (bAt t) s) (I.sin (bAt t) s)) (funext fun d => ?_)
  have e : (⟨256 * (t.val / 2) + (128 + d.val), by have : t.val < 28 := t.isLt; omega⟩ : Fin 4608) = ⟨128 * (hAt t 1).val + d.val, by omega⟩ :=
    Fin.ext (by show 256 * (t.val / 2) + (128 + d.val) = 128 * (2 * (t.val / 2) + 1) + d.val; omega)
  rw [e]
  rfl

/-! ### The windows of codes and of scales -/

theorem canon1_11 (h : Fin 2) (s : Fin 1024) (d : Fin 128) : View.canon (L1_11 V c t) (ix4 0 h s d) = rcode (I.q (bAt t) (hAt t h) s) d := by
  refine View.canon_eq_of_allAt _ _ _ (cover1_11 V c t (ix4 0 h s d)) ?_
  rw [pieces1_11]
  have key : ∀ (j : Fin 2) (f : FVec Idealize.ShloMosaic.Ideal S1024x128 .f32), (∀ s, (fun d => f (ix2 s d)) = I.q (bAt t) (hAt t j) s) →
      View.TileAt (Val := Elt Idealize.ShloMosaic.Ideal) (e := .fp8e4m3) (S := S1x2x1024x128) (ix4 0 h s d) ![0, j.val, 0, 0] ![1, 1, 1024, 128] (k1_pay36 (codeOf f)) (rcode (I.q (bAt t) (hAt t h) s) d) := by
    intro j f hf x hx
    have e1 : h.val = j.val + (x 1).val := hx 1
    have e2 : s.val = 0 + (x 2).val := hx 2
    have e3 : d.val = 0 + (x 3).val := hx 3
    have b1 : (x 1).val < 1 := (x 1).isLt
    have b0 : (x 0).val < 1 := (x 0).isLt
    obtain rfl : h = j := Fin.ext (by omega)
    rw [← hf, ← qcode_apply]
    refine congrArg _ ((eq_ix4 x).trans ?_)
    have c0 : x 0 = (0 : Fin 1) := Fin.ext (by show (x 0).val = 0; omega)
    have c1 : x 1 = (0 : Fin 1) := Fin.ext (by show (x 1).val = 0; omega)
    have c2 : x 2 = s := Fin.ext (by omega)
    have c3 : x 3 = d := Fin.ext (by omega)
    rw [c0, c1, c2, c3]
  exact View.allAt_cons_unit _ _ _ _ _ (key 1 _ (H1_row V c t R)) (View.allAt_cons_unit _ _ _ _ _ (key 0 _ (H0_row V c t R)) (View.allAt_nil _ _))

/-- Every piece of the window of scales that point `t` writes. -/
theorem pieces1_12_at (h b : Fin 2) (s : Fin 1024) : View.AllAt (L1_12 V c t) (ix3 h b s) (rscale (I.q b (hAt t h) s)) := by
  rw [pieces1_12]
  have key : ∀ (j : Fin 2) (off : Fin 3 → ℕ) (ho : off = ![j.val, t.val % 2, 0]) (f : FVec Idealize.ShloMosaic.Ideal S1024x128 .f32), (∀ s, (fun d => f (ix2 s d)) = I.q (bAt t) (hAt t j) s) →
      View.TileAt (Val := Elt Idealize.ShloMosaic.Ideal) (e := .f32) (S := S2x2x1024) (ix3 h b s) off ![1, 1, 1024] (k1_pay38 (scaleV1 (colMax1 f))) (rscale (I.q b (hAt t h) s)) := by
    intro j off ho f hf x hx
    subst ho
    have e0 : h.val = j.val + (x 0).val := hx 0
    have e1 : b.val = t.val % 2 + (x 1).val := hx 1
    have e2 : s.val = 0 + (x 2).val := hx 2
    have b1 : (x 1).val < 1 := (x 1).isLt
    have b0 : (x 0).val < 1 := (x 0).isLt
    obtain rfl : h = j := Fin.ext (by omega)
    obtain rfl : b = bAt t := Fin.ext (by show b.val = t.val % 2; omega)
    rw [← hf, ← qscale_apply]
    refine congrArg _ ((eq_ix3 x).trans ?_)
    have c0 : x 0 = (0 : Fin 1) := Fin.ext (by show (x 0).val = 0; omega)
    have c1 : x 1 = (0 : Fin 1) := Fin.ext (by show (x 1).val = 0; omega)
    have c2 : x 2 = s := Fin.ext (by omega)
    rw [c0, c1, c2]
  exact View.allAt_cons_unit _ _ _ _ _ (key 1 _ (off1' t) _ (H1_row V c t R)) (View.allAt_cons_unit _ _ _ _ _ (key 0 _ (off1 t) _ (H0_row V c t R)) (View.allAt_nil _ _))

/-! ### The window of outputs -/

omit R in
theorem ld4 {e : EltTy} {n : ℕ} (A : Vec Idealize.ShloMosaic.Ideal S2x4x1024x128 e) (off : Fin 4 → ℕ) (inb) (b : Fin 2) (g : Fin 4) (ho : off = ![b.val, g.val, 0, 0]) (hn : n ≤ 1024) (s : Fin n) (d : Fin 128) :
    View.ld A (Rect.unit (s := S2x4x1024x128) off ![1, 1, n, 128] inb) (ix4 0 0 s d) = A (ix4 b g (Fin.castLE hn s) d) := by
  subst ho
  refine View.ld_unit_apply_of _ _ _ _ _ _ fun a => ?_
  match a with
  | ⟨0, _⟩ => rfl
  | ⟨1, _⟩ => rfl
  | ⟨2, _⟩ => exact (Nat.zero_add _).symm
  | ⟨3, _⟩ => exact (Nat.zero_add _).symm

omit R in
theorem ldv {e : EltTy} {n : ℕ} (A : Vec Idealize.ShloMosaic.Ideal S2x512x1024 e) (off : Fin 3 → ℕ) (inb) (b : Fin 2) (g : Fin 4) (ho : off = ![b.val, 128 * g.val, 0]) (hn : n ≤ 1024) (d : Fin 128) (s : Fin n) :
    View.ld A (Rect.unit (s := S2x512x1024) off ![1, 128, n] inb) (ix3 0 d s) = A (ix3 b ⟨128 * g.val + d.val, by omega⟩ (Fin.castLE hn s)) := by
  subst ho
  refine View.ld_unit_apply_of _ _ _ _ _ _ fun a => ?_
  match a with
  | ⟨0, _⟩ => rfl
  | ⟨1, _⟩ => rfl
  | ⟨2, _⟩ => exact (Nat.zero_add _).symm

omit R in
/-- One entry of a block of outputs: the queries of a block attend to the keys up to the block's end, which is all that the mask leaves them. -/
theorem attend_out {I : In} (b : Fin 2) (h : Fin 28) (f : FVec Idealize.ShloMosaic.Ideal S1024x128 .f32) (hf : ∀ s, (fun d => f (ix2 s d)) = I.q b h s)
    (kc : Vec Idealize.ShloMosaic.Ideal S2x4x1024x128 .fp8e4m3) (kr : Vec Idealize.ShloMosaic.Ideal S2x4x1024x128 .f32) (vt : Vec Idealize.ShloMosaic.Ideal S2x512x1024 .bf16)
    (hkc : ∀ b g s d, kc (ix4 b g s d) = rcode (I.k b g s) d) (hkr : ∀ b g s d, kr (ix4 b g s d) = rscale (I.k b g s)) (hvt : ∀ b n s, vt (ix3 b n s) = I.v b s n)
    {n : ℕ} (hn : n ≤ 1024) (s : Fin 1024) (hs : s.val < n) (d e : Fin 128)
    (offk : Fin 4 → ℕ) (offv : Fin 3 → ℕ) (inbk inbr) (inbv) (hk : offk = ![b.val, (In.grp h).val, 0, 0]) (hv : offv = ![b.val, 128 * (In.grp h).val, 0])
    (kc' : Vec Idealize.ShloMosaic.Ideal (⟨4, ![1, 1, n, 128]⟩ : Shape) .fp8e4m3) (kr' : Vec Idealize.ShloMosaic.Ideal (⟨4, ![1, 1, n, 128]⟩ : Shape) .f32) (vt' : Vec Idealize.ShloMosaic.Ideal (⟨3, ![1, 128, n]⟩ : Shape) .bf16)
    (ekc : kc' = View.ld kc (Rect.unit (s := S2x4x1024x128) offk ![1, 1, n, 128] inbk)) (ekr : kr' = View.ld kr (Rect.unit (s := S2x4x1024x128) offk ![1, 1, n, 128] inbr))
    (evt : vt' = View.ld vt (Rect.unit (s := S2x512x1024) offv ![1, 128, n] inbv)) :
    attendRow (fun k : Fin n => if k.val ≤ s.val then (∑ d, kc' (ix4 0 0 k d) * codeOf f (ix2 s d)) * kr' (ix4 0 0 k e) else ⊥) (expOf f (ix2 0 s))
      (fun k => vt' (ix3 0 d k)) = I.out b h s d := by
  subst ekc ekr evt
  refine out_eq I b h s d hn hs _ _ _ (fun k => ?_) ?_ (fun k => ?_)
  · refine if_congr Iff.rfl ?_ rfl
    rw [ld4 kr _ _ b (In.grp h) hk hn, hkr]
    congr 1
    refine Finset.sum_congr rfl fun x _ => ?_
    rw [ld4 kc _ _ b (In.grp h) hk hn, hkc, ← hf, ← codeV1_apply]
  · refine (expRow_apply _ s).trans ?_
    rw [scaleV1_colMax, hf]
  · rw [ldv vt _ _ b (In.grp h) hv hn, hvt]

omit R in
theorem tile_out (I : In) (h : Fin 2) (w : S1x256x128.Idx → EReal) (o : ℕ) (ho : o + 256 ≤ 1024) (hw : ∀ (q : Fin 256) (d : Fin 128), w (ix3 0 q d) = I.out (bAt t) (hAt t h) ⟨o + q.val, by omega⟩ d)
    (s : Fin 1024) (n : Fin 256) (p : ℕ) (hp : p = 128 * h.val) :
    View.TileAt (Val := Elt Idealize.ShloMosaic.Ideal) (e := .bf16) (S := S1x1024x256) (ix3 0 s n) ![0, o, p] ![1, 256, 128] w
      (I.out (bAt t) (hAt t ⟨n.val / 128, by omega⟩) s ⟨n.val % 128, by omega⟩ : EReal) := by
  intro x hx
  subst hp
  have e1 : s.val = o + (x 1).val := hx 1
  have e2 : n.val = 128 * h.val + (x 2).val := hx 2
  have b0 : (x 0).val < 1 := (x 0).isLt
  have b2 : (x 2).val < 128 := (x 2).isLt
  have c0 : x 0 = (0 : Fin 1) := Fin.ext (by show (x 0).val = 0; omega)
  have eh : (⟨n.val / 128, by omega⟩ : Fin 2) = h := Fin.ext (by show n.val / 128 = h.val; omega)
  have ed : (⟨n.val % 128, by omega⟩ : Fin 128) = x 2 := Fin.ext (by show n.val % 128 = (x 2).val; omega)
  have es : s = ⟨o + (x 1).val, by omega⟩ := Fin.ext e1
  rw [eh, ed]
  refine Eq.trans (congrArg w ((eq_ix3 x).trans (by rw [c0]))) ((hw (x 1) (x 2)).trans ?_)
  rw [es]

theorem canon1_10 (s : Fin 1024) (n : Fin 256) : View.canon (L1_10 V c t) (ix3 0 s n) = (I.out (bAt t) (hAt t ⟨n.val / 128, by omega⟩) s ⟨n.val % 128, by omega⟩ : EReal) := by
  refine View.canon_eq_of_allAt _ _ _ (cover1_10 V c t (ix3 0 s n)) ?_
  rw [pieces1_10]
  have k256 : ∀ (h : Fin 2) (f) (hf : ∀ s, (fun d => f (ix2 s d)) = I.q (bAt t) (hAt t h) s) (q : Fin 256) (d : Fin 128), B256 (grid1.coords t) h f (iblk1 V c 7 t) (iblk1 V c 8 t) (iblk1 V c 9 t) (ix3 0 q d) = I.out (bAt t) (hAt t h) ⟨0 + q.val, by omega⟩ d := fun h f hf q d =>
    (tile256_apply _ _ _ _ _ q d).trans (attend_out (bAt t) (hAt t h) f hf (iblk1 V c 7 t) (iblk1 V c 8 t) (iblk1 V c 9 t) (rK V c t R) (rKr V c t R) (rV V c t R) (by omega) ⟨0 + q.val, by omega⟩ (by dsimp only; omega) d _ _ _ _ _ _ (off1_k t h).1 (off1_v t h).1 _ _ _ rfl rfl rfl)
  have k512 : ∀ (h : Fin 2) (f) (hf : ∀ s, (fun d => f (ix2 s d)) = I.q (bAt t) (hAt t h) s) (q : Fin 256) (d : Fin 128), B512 (grid1.coords t) h f (iblk1 V c 7 t) (iblk1 V c 8 t) (iblk1 V c 9 t) (ix3 0 q d) = I.out (bAt t) (hAt t h) ⟨256 + q.val, by omega⟩ d := fun h f hf q d =>
    (tile512_apply _ _ _ _ _ q d).trans (attend_out (bAt t) (hAt t h) f hf (iblk1 V c 7 t) (iblk1 V c 8 t) (iblk1 V c 9 t) (rK V c t R) (rKr V c t R) (rV V c t R) (by omega) ⟨256 + q.val, by omega⟩ (by dsimp only; omega) d _ _ _ _ _ _ (off1_k t h).2.1 (off1_v t h).2.1 _ _ _ rfl rfl rfl)
  have k768 : ∀ (h : Fin 2) (f) (hf : ∀ s, (fun d => f (ix2 s d)) = I.q (bAt t) (hAt t h) s) (q : Fin 256) (d : Fin 128), B768 (grid1.coords t) h f (iblk1 V c 7 t) (iblk1 V c 8 t) (iblk1 V c 9 t) (ix3 0 q d) = I.out (bAt t) (hAt t h) ⟨512 + q.val, by omega⟩ d := fun h f hf q d =>
    (tile768_apply _ _ _ _ _ q d).trans (attend_out (bAt t) (hAt t h) f hf (iblk1 V c 7 t) (iblk1 V c 8 t) (iblk1 V c 9 t) (rK V c t R) (rKr V c t R) (rV V c t R) (by omega) ⟨512 + q.val, by omega⟩ (by dsimp only; omega) d _ _ _ _ _ _ (off1_k t h).2.2.1 (off1_v t h).2.2.1 _ _ _ rfl rfl rfl)
  have k1024 : ∀ (h : Fin 2) (f) (hf : ∀ s, (fun d => f (ix2 s d)) = I.q (bAt t) (hAt t h) s) (q : Fin 256) (d : Fin 128), B1024 (grid1.coords t) h f (iblk1 V c 7 t) (iblk1 V c 8 t) (iblk1 V c 9 t) (ix3 0 q d) = I.out (bAt t) (hAt t h) ⟨768 + q.val, by omega⟩ d := fun h f hf q d =>
    (tile1024_apply _ _ _ _ _ q d).trans (attend_out (bAt t) (hAt t h) f hf (iblk1 V c 7 t) (iblk1 V c 8 t) (iblk1 V c 9 t) (rK V c t R) (rKr V c t R) (rV V c t R) (by omega) ⟨768 + q.val, by omega⟩ (by dsimp only; omega) d _ _ _ _ _ _ (off1_k t h).2.2.2 (off1_v t h).2.2.2 _ _ _ rfl rfl rfl)
  have r0 := H0_row V c t R
  have r1 := H1_row V c t R
  exact View.allAt_cons_unit _ _ _ _ _ (tile_out t I 1 _ 768 (by omega) (k1024 1 _ r1) s n 128 rfl) (View.allAt_cons_unit _ _ _ _ _ (tile_out t I 1 _ 512 (by omega) (k768 1 _ r1) s n 128 rfl)
    (View.allAt_cons_unit _ _ _ _ _ (tile_out t I 1 _ 256 (by omega) (k512 1 _ r1) s n 128 rfl) (View.allAt_cons_unit _ _ _ _ _ (tile_out t I 1 _ 0 (by omega) (k256 1 _ r1) s n 128 rfl)
    (View.allAt_cons_unit _ _ _ _ _ (tile_out t I 0 _ 768 (by omega) (k1024 0 _ r0) s n 0 rfl) (View.allAt_cons_unit _ _ _ _ _ (tile_out t I 0 _ 512 (by omega) (k768 0 _ r0) s n 0 rfl)
    (View.allAt_cons_unit _ _ _ _ _ (tile_out t I 0 _ 256 (by omega) (k512 0 _ r0) s n 0 rfl) (View.allAt_cons_unit _ _ _ _ _ (tile_out t I 0 _ 0 (by omega) (k256 0 _ r0) s n 0 rfl) (View.allAt_nil _ _))))))))
end

end Cert.KernelIdeal.Hand

end
-- ==== Proof.KIArr1.lean ====
module

public import proofs.«01_k».proof.Proof.KIVal1

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Cert.Hand
open scoped BigOperators

variable (V : (c : Dev nD) → (b : Ref sig .tc) → Buf (Elt Idealize.ShloMosaic.Ideal) ((c : Thread nD τ).loc b))

/-! ## The arrays after the second region -/

theorem idx1' : ∀ t : Fin cfg1.N, win1_10.index t = ![t.val % 2, 0, t.val / 2] ∧ win1_11.index t = ![t.val % 2, t.val / 2, 0, 0] ∧ win1_12.index t = ![t.val / 2, 0, 0] :=
  (by decide +kernel : ∀ t : Fin grid1.N, _)

/-- A piece accumulated up to point `n` was written since the last start. -/
theorem mem_of_accum' {α : Type} {N P : ℕ} {L : Fin N → List α} {p : α} : ∀ n, p ∈ accum N P L n → ∃ u, p ∈ L u ∧ u.val / P = n / P := by
  intro n
  induction n with
  | zero =>
    intro h
    unfold accum at h
    split at h
    · exact ⟨_, h, rfl⟩
    · exact absurd h List.not_mem_nil
  | succ n ih =>
    intro h
    unfold accum at h
    split at h
    · split at h
      · exact ⟨_, h, rfl⟩
      · rename_i hm
        rcases List.mem_append.mp h with h | h
        · exact ⟨_, h, rfl⟩
        · obtain ⟨u, hu, e⟩ := ih h
          refine ⟨u, hu, e.trans ?_⟩
          rw [Nat.succ_div, if_neg (fun hd => hm (Nat.mod_eq_zero_of_dvd hd)), Nat.add_zero]
    · exact absurd h List.not_mem_nil

section
variable (c : Dev nD) {I : In} (R : Reads1 V c I)
include R

theorem arr1_11 : (dat1 V c).arrAt 11 cfg1.N = fun j => (rcode (I.q (j 0) (j 1) (j 2)) (j 3) : EReal) := by
  refine (dat1 V c).arrAt_eq_of_covers 11 _ (by decide +kernel) fun t hf y => ?_
  obtain ⟨h, s, d, rfl⟩ : ∃ (a : Fin 2) (b : Fin 1024) (d : Fin 128), y = ix4 (0 : Fin 1) a b d := idx4 y
  blk_simp
  rw [after1_11]
  refine (canon1_11 V c t R h s d).trans ?_
  have hb : bAt t = (win1_11.blk t).view.emb (ix4 0 h s d) 0 := Fin.ext (by show t.val % 2 = _; (blk_simp [idx1' t]) <;> omega)
  have hh : hAt t h = (win1_11.blk t).view.emb (ix4 0 h s d) 1 := Fin.ext (by show 2 * (t.val / 2) + h.val = _; (blk_simp [idx1' t]) <;> omega)
  have hs : s = (win1_11.blk t).view.emb (ix4 0 h s d) 2 := Fin.ext (by (blk_simp [idx1' t]) <;> omega)
  have hd : d = (win1_11.blk t).view.emb (ix4 0 h s d) 3 := Fin.ext (by (blk_simp [idx1' t]) <;> omega)
  exact congr (congrArg rcode (congr (congr (congrArg _ hb) hh) hs)) hd

theorem arr1_12 : (dat1 V c).arrAt 12 cfg1.N = fun j => (rscale (I.q (j 1) (j 0) (j 2)) : EReal) := by
  refine (dat1 V c).arrAt_eq_of_covers 12 _ (by decide +kernel) fun t hf y => ?_
  obtain ⟨h, b, s, rfl⟩ : ∃ (h b : Fin 2) (s : Fin 1024), y = ix3 h b s := ⟨y 0, y 1, y 2, eq_ix3 y⟩
  blk_simp
  rw [after1_12]
  have hh : hAt t h = (win1_12.blk t).view.emb (ix3 h b s) 0 := Fin.ext (by show 2 * (t.val / 2) + h.val = _; (blk_simp [idx1' t]) <;> omega)
  have hb : b = (win1_12.blk t).view.emb (ix3 h b s) 1 := Fin.ext (by (blk_simp [idx1' t]) <;> omega)
  have hs : s = (win1_12.blk t).view.emb (ix3 h b s) 2 := Fin.ext (by (blk_simp [idx1' t]) <;> omega)
  refine (?_ : View.canon (acc1 V c t.val) (ix3 h b s) = rscale (I.q b (hAt t h) s)).trans (congrArg rscale (congr (congr (congrArg _ hb) hh) hs))
  refine View.canon_eq_of_allAt _ _ _ (coverAcc1 V c t ((flush1_12 t).mp hf) (ix3 h b s)) fun p hp => ?_
  obtain ⟨u, hu, e⟩ := mem_of_accum' _ hp
  have eh : hAt u h = hAt t h := Fin.ext (by show 2 * (u.val / 2) + h.val = 2 * (t.val / 2) + h.val; rw [e])
  rw [← eh]
  exact pieces1_12_at V c u R h b s p hu

theorem arr1_10 : (dat1 V c).arrAt 10 cfg1.N = fun j : S2x1024x3584.Idx => (I.out (j 0) ⟨(j 2).val / 128, by have : (j 2).val < 3584 := (j 2).isLt; omega⟩ (j 1) ⟨(j 2).val % 128, by omega⟩ : EReal) := by
  refine (dat1 V c).arrAt_eq_of_covers 10 _ (by decide +kernel) fun t hf y => ?_
  obtain ⟨s, n, rfl⟩ : ∃ (s : Fin 1024) (n : Fin 256), y = ix3 (0 : Fin 1) s n := idx3 y
  blk_simp
  rw [after1_10]
  refine (canon1_10 V c t R s n).trans ?_
  have e2 : win1_10.index t 2 * 256 + n.val = 256 * (t.val / 2) + n.val := by rw [(idx1' t).1]; show t.val / 2 * 256 + n.val = _; omega
  have ht : t.val < 28 := t.isLt
  have hb : bAt t = (win1_10.blk t).view.emb (ix3 0 s n) 0 := Fin.ext (by show t.val % 2 = _; (blk_simp [idx1' t]) <;> omega)
  have hs : s = (win1_10.blk t).view.emb (ix3 0 s n) 1 := Fin.ext (by (blk_simp [idx1' t]) <;> omega)
  have hh : hAt t ⟨n.val / 128, by omega⟩ = ⟨(win1_10.index t 2 * 256 + n.val) / 128, by omega⟩ :=
    Fin.ext (by show 2 * (t.val / 2) + n.val / 128 = _ / 128; omega)
  have hd : (⟨n.val % 128, by omega⟩ : Fin 128) = ⟨(win1_10.index t 2 * 256 + n.val) % 128, by omega⟩ := Fin.ext (by show n.val % 128 = _ % 128; omega)
  exact congr (congr (congr (congrArg I.out hb) hh) hs) hd
end

end Cert.KernelIdeal.Hand

end
-- ==== Proof.KIPost.lean ====
module

public import proofs.«01_k».proof.Proof.KIFrame
public import proofs.«01_k».proof.Proof.KIArr0
public import proofs.«01_k».proof.Proof.KIArr1
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Cert.Hand
open scoped BigOperators

/-- The rotary frequencies. -/
abbrev freqV : FVec Idealize.ShloMosaic.Ideal S64 .f32 :=
  Host.divf (broadcastInDim S64 ![] bcast_S_S64 (constant S_ .f32 0x3F800000#32))
    (Host.powf (broadcastInDim S64 ![] bcast_S_S64 (constant S_ .f32 0x49742400#32))
      (Host.divf (addf (broadcastInDim S64 ![] bcast_S_S64 (constant S_ .f32 0x00000000#32))
          (mulf (broadcastInDim S64 ![] bcast_S_S64 (constant S_ .f32 0x40000000#32)) (sitofp .f32 (iotaInDim S64 32 0))))
        (broadcastInDim S64 ![] bcast_S_S64 (constant S_ .f32 0x43000000#32))))

section
variable (m : (ℓ : Loc nD τ sig) → Buf (Elt Idealize.ShloMosaic.Ideal) ℓ) (c : Dev nD)

/-! What the host's lines before and after the calls hand over. -/

theorem v0_at (n : Fin 4608) : V1 m c main_v0 (ix2 0 n) = m ((c : Thread nD τ).loc main_arg2) (ix1 n) := by
  unfold_abbrev_sides
  after_results
  pointwise
  blk_ext []
theorem v1_at (n : Fin 4608) : V1 m c main_v1 (ix2 0 n) = m ((c : Thread nD τ).loc main_arg3) (ix1 n) := by
  unfold_abbrev_sides
  after_results
  pointwise
  blk_ext []
theorem v14_at (i : Fin 64) (j : Fin 128) : V1 m c main_v14 (ix2 i j) = freqV (ix1 i) := by
  unfold_abbrev_sides
  after_results
  pointwise
theorem v17_at (b : Fin 2) (s : Fin 1024) (h : Fin 28) (d : Fin 128) : W4 m c (Proc.devRef .tc main_v17) (ix4 b s h d) = W3 m c (Proc.devRef .tc main_v16_1) (ix4 b h s d) := by
  unfold_abbrev_sides
  after_results
  pointwise
theorem v18_at (b : Fin 2) (s : Fin 1024) (h : Fin 28) : W4 m c (Proc.devRef .tc main_v18) (ix3 b s h) = W3 m c (Proc.devRef .tc main_v16_2) (ix3 h b s) := by
  unfold_abbrev_sides
  after_results
  pointwise
theorem v19_at (b : Fin 2) (s : Fin 1024) (g : Fin 4) : W4 m c (Proc.devRef .tc main_v19) (ix3 b s g) = W3 m c (Proc.devRef .tc main_v15_7) (ix3 b g s) := by
  unfold_abbrev_sides
  after_results
  pointwise

/-- What the second call reads is what the first call left, and the arguments. -/
theorem reads1 : Reads1 (V2 m) c (I0 (V1 m) c) where
  xc b s k := congrFun ((W2_arr m c 9).trans (arr9 (V1 m) c)) (ix3 b s k)
  w k n := congrFun (W2_of m c main_arg1 (by decide +kernel)) (ix2 k n)
  ws n := congrFun (W2_of m c main_v0 (by decide +kernel)) (ix2 0 n)
  bs n := congrFun (W2_of m c main_v1 (by decide +kernel)) (ix2 0 n)
  xs b s d := congrFun ((W2_arr m c 11).trans (arr11 (V1 m) c)) (ix3 b s d)
  cos b s d := congrFun ((W2_arr m c 12).trans (arr12 (V1 m) c)) (ix3 b s d)
  sin b s d := congrFun ((W2_arr m c 13).trans (arr13 (V1 m) c)) (ix3 b s d)
  kc b g s d := congrFun ((W2_arr m c 15).trans (arr15 (V1 m) c)) (ix4 b g s d)
  kr b g s d := congrFun ((W2_arr m c 17).trans (arr17 (V1 m) c)) (ix4 b g s d)
  vt b n s := congrFun ((W2_arr m c 18).trans (arr18 (V1 m) c)) (ix3 b n s)

/-! ## What the kernel's results hold -/

theorem res0 : W4 m c (Proc.devRef .tc main_v16_0) = fun j : S2x1024x3584.Idx =>
    ((I0 (V1 m) c).out (j 0) ⟨(j 2).val / 128, by have : (j 2).val < 3584 := (j 2).isLt; omega⟩ (j 1) ⟨(j 2).val % 128, by omega⟩ : EReal) :=
  (W4_of m c main_v16_0 (by decide)).trans ((W3_arr m c 10).trans (arr1_10 (V2 m) c (reads1 m c)))
theorem res1 : W4 m c (Proc.devRef .tc main_v15_0) = fun j : S2x1024x3584.Idx => (rcode ((I0 (V1 m) c).x (j 0) (j 1)) (j 2) : EReal) :=
  (W4_of m c main_v15_0 (by decide)).trans ((W3_of m c main_v15_0 (by decide +kernel)).trans ((W2_arr m c 9).trans (arr9 (V1 m) c)))
theorem res2 : W4 m c (Proc.devRef .tc main_v15_1) = fun j : S2x1024.Idx => (rscale ((I0 (V1 m) c).x (j 0) (j 1)) : EReal) :=
  (W4_of m c main_v15_1 (by decide)).trans ((W3_of m c main_v15_1 (by decide +kernel)).trans ((W2_arr m c 10).trans (arr10 (V1 m) c)))
theorem res3 : W4 m c (Proc.devRef .tc main_v17) = fun j : S2x1024x28x128.Idx => (rcode ((I0 (V1 m) c).q (j 0) (j 2) (j 1)) (j 3) : EReal) := by
  funext j
  obtain ⟨b, s, h, d, rfl⟩ : ∃ (b : Fin 2) (s : Fin 1024) (h : Fin 28) (d : Fin 128), j = ix4 b s h d := ⟨j 0, j 1, j 2, j 3, eq_ix4 j⟩
  exact (v17_at m c b s h d).trans (congrFun ((W3_arr m c 11).trans (arr1_11 (V2 m) c (reads1 m c))) (ix4 b h s d))
theorem res4 : W4 m c (Proc.devRef .tc main_v18) = fun j : S2x1024x28.Idx => (rscale ((I0 (V1 m) c).q (j 0) (j 2) (j 1)) : EReal) := by
  funext j
  obtain ⟨b, s, h, rfl⟩ : ∃ (b : Fin 2) (s : Fin 1024) (h : Fin 28), j = ix3 b s h := ⟨j 0, j 1, j 2, eq_ix3 j⟩
  exact (v18_at m c b s h).trans (congrFun ((W3_arr m c 12).trans (arr1_12 (V2 m) c (reads1 m c))) (ix3 h b s))
theorem res5 : W4 m c (Proc.devRef .tc main_v15_5) = fun j : S2x1024x4x128.Idx => (rcode ((I0 (V1 m) c).k (j 0) (j 2) (j 1)) (j 3) : EReal) :=
  (W4_of m c main_v15_5 (by decide)).trans ((W3_of m c main_v15_5 (by decide +kernel)).trans ((W2_arr m c 14).trans (arr14 (V1 m) c)))
theorem res6 : W4 m c (Proc.devRef .tc main_v19) = fun j : S2x1024x4.Idx => (rscale ((I0 (V1 m) c).k (j 0) (j 2) (j 1)) : EReal) := by
  funext j
  obtain ⟨b, s, g, rfl⟩ : ∃ (b : Fin 2) (s : Fin 1024) (g : Fin 4), j = ix3 b s g := ⟨j 0, j 1, j 2, eq_ix3 j⟩
  exact (v19_at m c b s g).trans (congrFun ((W3_of m c main_v15_7 (by decide +kernel)).trans ((W2_arr m c 16).trans (arr16 (V1 m) c))) (ix3 b g s))
end

end Cert.KernelIdeal.Hand

end
-- ==== Proof.RVec.lean ====
module

public import proofs.«01_k».proof.Proof.Spec
public import proofs.«01_k».proof.Proof.Gen.ReferenceIdeal.Skeleton

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI Cert.Hand
open scoped BigOperators

/-! ## The exponent of a row's scale -/

/-- The exponent of the scale, of every row maximum in `a`. -/
noncomputable def expV {s : Shape} (a : FVec Idealize.ShloMosaic.Ideal s .f32) : FVec Idealize.ShloMosaic.Ideal s .f32 :=
  select (cmpf .oeq a (broadcast s (Scalar.ofBits .f32 0x00000000#32))) (broadcast s (Scalar.ofBits .f32 0x00000000#32))
    (addf (minimumf (broadcast s (Scalar.ofBits .f32 0x42EE0000#32)) (maximumf (broadcast s (Scalar.ofBits .f32 0xC2FE0000#32))
      (floor (divf (log (mulf a (broadcast s (Scalar.ofBits .f32 0x3B124925#32)))) (log (broadcast s (Scalar.ofBits .f32 0x40000000#32)))))))
      (broadcast s (Scalar.ofBits .f32 0x3F800000#32)))

theorem expV_apply {s : Shape} (a : FVec Idealize.ShloMosaic.Ideal s .f32) (j : s.Idx) : expV a j = qexp (a j) := by
  unfold qexp cinv
  pointwise [expV]

/-- The scales, and the inverse scales. -/
noncomputable def scaleV {s : Shape} (a : FVec Idealize.ShloMosaic.Ideal s .f32) : FVec Idealize.ShloMosaic.Ideal s .f32 := exp2 (expV a)
noncomputable def invV {s : Shape} (a : FVec Idealize.ShloMosaic.Ideal s .f32) : FVec Idealize.ShloMosaic.Ideal s .f32 :=
  exp2 (subf (broadcast s (Scalar.ofBits .f32 0x00000000#32)) (expV a))

theorem scaleV_apply {s : Shape} (a : FVec Idealize.ShloMosaic.Ideal s .f32) (j : s.Idx) : scaleV a j = qscale (a j) := by
  unfold qscale
  rw [← expV_apply]
  unfold scaleV
  generalize expV a = w
  pointwise
  rfl

theorem invV_apply {s : Shape} (a : FVec Idealize.ShloMosaic.Ideal s .f32) (j : s.Idx) : invV a j = qinv (a j) := by
  unfold qinv
  rw [← expV_apply]
  unfold invV
  generalize expV a = w
  pointwise
  rfl

/-! ## The layer's input -/

noncomputable def maxX (x : Vec Idealize.ShloMosaic.Ideal S2x1024x3584 .bf16) : FVec Idealize.ShloMosaic.Ideal S2x1024 .f32 :=
  multiReduction .maximumf [2] S2x1024 (absf (k0_pay2 x)) 0xFF800000#32 reduces_S2x1024x3584_S2x1024 (.inl rfl) rfl

theorem maxX_apply (x : Vec Idealize.ShloMosaic.Ideal S2x1024x3584 .bf16) (b : Fin 2) (s : Fin 1024) : maxX x (ix2 b s) = rowmax fun k => x (ix3 b s k) := by
  unfold rowmax
  rw [← qexp_ofBits_bot]
  pointwise [maxX, k0_pay2]
  rfl

theorem pay4_apply (x : Vec Idealize.ShloMosaic.Ideal S2x1024x3584 .bf16) (b : Fin 2) (s : Fin 1024) :
    k0_pay4 (F := Idealize.ShloMosaic.Ideal) x (ix2 b s) = rscale fun k => x (ix3 b s k) := by
  have e : k0_pay4 (F := Idealize.ShloMosaic.Ideal) x = scaleV (maxX x) := rfl
  rw [e, scaleV_apply, maxX_apply]; rfl

theorem pay5_apply (x : Vec Idealize.ShloMosaic.Ideal S2x1024x3584 .bf16) (b : Fin 2) (s : Fin 1024) (d : Fin 3584) :
    k0_pay5 (F := Idealize.ShloMosaic.Ideal) x (ix3 b s d) = rcode (fun k => x (ix3 b s k)) d := by
  have e : k0_pay5 (F := Idealize.ShloMosaic.Ideal) x = truncf .fp8e4m3 (minimumf (broadcast S2x1024x3584 (Scalar.ofBits .f32 0x43E00000#32))
      (maximumf (broadcast S2x1024x3584 (Scalar.ofBits .f32 0xC3E00000#32)) (mulf (k0_pay2 x)
        (broadcastTo S2x1024x3584 (shapeCast S2x1024x1 (invV (maxX x)) shapeCasts_S2x1024_S2x1024x1) broadcasts_S2x1024x1_S2x1024x3584)))) bitsLt_fp8e4m3_f32 := rfl
  have h : invV (maxX x) (ix2 b s) = qinv (rowmax fun k => x (ix3 b s k)) := by rw [invV_apply, maxX_apply]
  rw [e]
  unfold rcode code
  rw [← h]
  generalize invV (maxX x) = w
  pointwise [k0_pay2]

theorem pay6_apply (x : Vec Idealize.ShloMosaic.Ideal S2x1024x3584 .bf16) (b : Fin 2) (s : Fin 1024) (d : Fin 3584) :
    k0_pay6 (F := Idealize.ShloMosaic.Ideal) x (ix2 ⟨b.val * 1024 + s.val, by omega⟩ d) = rcode (fun k => x (ix3 b s k)) d := by
  rw [← pay5_apply]
  unfold k0_pay6
  generalize k0_pay5 x = w
  pointwise

/-! ## The projection -/

theorem pay7_apply (x : Vec Idealize.ShloMosaic.Ideal S2x1024x3584 .bf16) (w : Vec Idealize.ShloMosaic.Ideal S3584x4608 .fp8e4m3) (ws bs : Vec Idealize.ShloMosaic.Ideal S4608 .f32)
    (b : Fin 2) (s : Fin 1024) (n : Fin 4608) :
    k0_pay7 (F := Idealize.ShloMosaic.Ideal) (k0_pay4 x) (k0_pay6 x) w ws bs (ix3 b s n) = ycol (fun k => x (ix3 b s k)) (fun k => w (ix2 k n)) (ws (ix1 n)) (bs (ix1 n)) := by
  have e : ∀ (v21 : FVec Idealize.ShloMosaic.Ideal S2x1024 .f32) (v35 : FVec Idealize.ShloMosaic.Ideal S2048x3584 .fp8e4m3),
      k0_pay7 (F := Idealize.ShloMosaic.Ideal) v21 v35 w ws bs (ix3 b s n) =
        (∑ k, v35 (ix2 ⟨b.val * 1024 + s.val, by omega⟩ k) * w (ix2 k n)) * v21 (ix2 b s) * ws (ix1 n) + bs (ix1 n) := by
    intro v21 v35
    pointwise [k0_pay7]
  rw [e, pay4_apply]
  simp only [pay6_apply]
  rfl

/-! ## The queries -/

noncomputable def ropeQ (y : FVec Idealize.ShloMosaic.Ideal S2x1024x4608 .f32) (c sn : Vec Idealize.ShloMosaic.Ideal S2x1024x128 .f32) : FVec Idealize.ShloMosaic.Ideal S2x1024x28x128 .f32 :=
  addf (mulf (shapeCast S2x1024x28x128 (extractStridedSlice S2x1024x3584 ![0, 0, 0] y slices_S2x1024x4608_o0_0_0_S2x1024x3584) shapeCasts_S2x1024x3584_S2x1024x28x128)
      (broadcastTo S2x1024x28x128 (k0_pay10 c) broadcasts_S2x1024x1x128_S2x1024x28x128))
    (mulf (concatenate S2x1024x28x128 3 [⟨S2x1024x28x64, subf (broadcast S2x1024x28x64 (Scalar.ofBits .f32 0x00000000#32))
        (extractStridedSlice S2x1024x28x64 ![0, 0, 0, 64] (shapeCast S2x1024x28x128 (extractStridedSlice S2x1024x3584 ![0, 0, 0] y slices_S2x1024x4608_o0_0_0_S2x1024x3584) shapeCasts_S2x1024x3584_S2x1024x28x128) slices_S2x1024x28x128_o0_0_0_64_S2x1024x28x64)⟩,
        ⟨S2x1024x28x64, extractStridedSlice S2x1024x28x64 ![0, 0, 0, 0] (shapeCast S2x1024x28x128 (extractStridedSlice S2x1024x3584 ![0, 0, 0] y slices_S2x1024x4608_o0_0_0_S2x1024x3584) shapeCasts_S2x1024x3584_S2x1024x28x128) slices_S2x1024x28x128_o0_0_0_0_S2x1024x28x64⟩] concatenates_S2x1024x28x64_S2x1024x28x64_S2x1024x28x128_d3)
      (broadcastTo S2x1024x28x128 (k0_pay11 sn) broadcasts_S2x1024x1x128_S2x1024x28x128))

theorem ropeQ_apply (y : FVec Idealize.ShloMosaic.Ideal S2x1024x4608 .f32) (c sn : Vec Idealize.ShloMosaic.Ideal S2x1024x128 .f32) (b : Fin 2) (s : Fin 1024) (h : Fin 28) (d : Fin 128) :
    ropeQ y c sn (ix4 b s h d) = rope (fun d => y (ix3 b s ⟨128 * h.val + d.val, by omega⟩)) (fun d => c (ix3 b s d)) (fun d => sn (ix3 b s d)) d := by
  unfold rope
  pointwise [ropeQ, k0_pay10, k0_pay11]
  simp only [Nat.mul_comm h.val 128]

noncomputable def maxQ (f : FVec Idealize.ShloMosaic.Ideal S2x1024x28x128 .f32) : FVec Idealize.ShloMosaic.Ideal S2x1024x28 .f32 :=
  multiReduction .maximumf [3] S2x1024x28 (absf f) 0xFF800000#32 reduces_S2x1024x28x128_S2x1024x28 (.inl rfl) rfl

theorem maxQ_apply (f : FVec Idealize.ShloMosaic.Ideal S2x1024x28x128 .f32) (b : Fin 2) (s : Fin 1024) (h : Fin 28) : maxQ f (ix3 b s h) = rowmax fun d => f (ix4 b s h d) := by
  unfold rowmax
  rw [← qexp_ofBits_bot]
  pointwise [maxQ]
  rfl

noncomputable def codeQ (f : FVec Idealize.ShloMosaic.Ideal S2x1024x28x128 .f32) (v : FVec Idealize.ShloMosaic.Ideal S2x1024x28 .f32) : FVec Idealize.ShloMosaic.Ideal S2x1024x28x128 .fp8e4m3 :=
  truncf .fp8e4m3 (minimumf (broadcast S2x1024x28x128 (Scalar.ofBits .f32 0x43E00000#32)) (maximumf (broadcast S2x1024x28x128 (Scalar.ofBits .f32 0xC3E00000#32))
    (mulf f (broadcastTo S2x1024x28x128 (shapeCast S2x1024x28x1 (invV v) shapeCasts_S2x1024x28_S2x1024x28x1) broadcasts_S2x1024x28x1_S2x1024x28x128)))) bitsLt_fp8e4m3_f32

theorem codeQ_apply (f : FVec Idealize.ShloMosaic.Ideal S2x1024x28x128 .f32) (b : Fin 2) (s : Fin 1024) (h : Fin 28) (d : Fin 128) :
    codeQ f (maxQ f) (ix4 b s h d) = rcode (fun d => f (ix4 b s h d)) d := by
  have h : invV (maxQ f) (ix3 b s h) = qinv (rowmax fun d => f (ix4 b s h d)) := by rw [invV_apply, maxQ_apply]
  unfold rcode code
  rw [← h]
  unfold codeQ
  generalize invV (maxQ f) = w
  pointwise

/-! ## The keys -/

theorem pay8_apply (y : FVec Idealize.ShloMosaic.Ideal S2x1024x4608 .f32) (b : Fin 2) (s : Fin 1024) (h : Fin 4) (d : Fin 128) :
    shapeCast S2x1024x4x128 (extractStridedSlice S2x1024x512 ![0, 0, 3584] y slices_S2x1024x4608_o0_0_3584_S2x1024x512) shapeCasts_S2x1024x512_S2x1024x4x128 (ix4 b s h d) =
      y (ix3 b s ⟨3584 + (128 * h.val + d.val), by omega⟩) := by
  pointwise
  simp only [Nat.mul_comm h.val 128]

theorem pay18_apply (f : FVec Idealize.ShloMosaic.Ideal S2x1024x4x128 .f32) (c sn : Vec Idealize.ShloMosaic.Ideal S2x1024x128 .f32) (b : Fin 2) (s : Fin 1024) (h : Fin 4) (d : Fin 128) :
    k0_pay18 (F := Idealize.ShloMosaic.Ideal) f (k0_pay10 c) (k0_pay11 sn) (ix4 b s h d) = rope (fun d => f (ix4 b s h d)) (fun d => c (ix3 b s d)) (fun d => sn (ix3 b s d)) d := by
  unfold rope
  pointwise [k0_pay18, k0_pay10, k0_pay11]

noncomputable def maxK (f : FVec Idealize.ShloMosaic.Ideal S2x1024x4x128 .f32) : FVec Idealize.ShloMosaic.Ideal S2x1024x4 .f32 :=
  multiReduction .maximumf [3] S2x1024x4 (absf f) 0xFF800000#32 reduces_S2x1024x4x128_S2x1024x4 (.inl rfl) rfl

theorem maxK_apply (f : FVec Idealize.ShloMosaic.Ideal S2x1024x4x128 .f32) (b : Fin 2) (s : Fin 1024) (h : Fin 4) : maxK f (ix3 b s h) = rowmax fun d => f (ix4 b s h d) := by
  unfold rowmax
  rw [← qexp_ofBits_bot]
  pointwise [maxK]
  rfl

noncomputable def codeK (f : FVec Idealize.ShloMosaic.Ideal S2x1024x4x128 .f32) (v : FVec Idealize.ShloMosaic.Ideal S2x1024x4 .f32) : FVec Idealize.ShloMosaic.Ideal S2x1024x4x128 .fp8e4m3 :=
  truncf .fp8e4m3 (minimumf (broadcast S2x1024x4x128 (Scalar.ofBits .f32 0x43E00000#32)) (maximumf (broadcast S2x1024x4x128 (Scalar.ofBits .f32 0xC3E00000#32))
    (mulf f (broadcastTo S2x1024x4x128 (shapeCast S2x1024x4x1 (invV v) shapeCasts_S2x1024x4_S2x1024x4x1) broadcasts_S2x1024x4x1_S2x1024x4x128)))) bitsLt_fp8e4m3_f32

theorem codeK_apply (f : FVec Idealize.ShloMosaic.Ideal S2x1024x4x128 .f32) (b : Fin 2) (s : Fin 1024) (h : Fin 4) (d : Fin 128) :
    codeK f (maxK f) (ix4 b s h d) = rcode (fun d => f (ix4 b s h d)) d := by
  have h : invV (maxK f) (ix3 b s h) = qinv (rowmax fun d => f (ix4 b s h d)) := by rw [invV_apply, maxK_apply]
  unfold rcode code
  rw [← h]
  unfold codeK
  generalize invV (maxK f) = w
  pointwise

/-! ## The values -/

theorem pay9_apply (y : FVec Idealize.ShloMosaic.Ideal S2x1024x4608 .f32) (b : Fin 2) (s : Fin 1024) (h : Fin 4) (d : Fin 128) :
    (truncf .bf16 (shapeCast S2x1024x4x128 (extractStridedSlice S2x1024x512 ![0, 0, 4096] y slices_S2x1024x4608_o0_0_4096_S2x1024x512) shapeCasts_S2x1024x512_S2x1024x4x128) bitsLt_bf16_f32 : FVec Idealize.ShloMosaic.Ideal S2x1024x4x128 .bf16) (ix4 b s h d) =
      y (ix3 b s ⟨4096 + (128 * h.val + d.val), by omega⟩) := by
  pointwise
  simp only [Nat.mul_comm h.val 128]

theorem pay24_apply (v : FVec Idealize.ShloMosaic.Ideal S2x1024x4x128 .bf16) (b : Fin 2) (s : Fin 1024) (h : Fin 4) (d : Fin 128) :
    k0_pay24 (F := Idealize.ShloMosaic.Ideal) v (ix3 ⟨b.val * 4 + h.val, by omega⟩ s d) = v (ix4 b s h d) := by
  pointwise [k0_pay24]

end Cert.ReferenceIdeal.Hand

end
-- ==== Proof.RAtt.lean ====
module

public import proofs.«01_k».proof.Proof.RVec

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI Cert.Hand
open scoped BigOperators

/-! ## The reference's attention -/

/-- A comparison of two numbers below 1024. -/
theorem sel_le {α : Type} (a b : ℕ) (ha : a < 1024) (hb : b < 1024) (x y : α) :
    Scalar.select (IntOp.cmpi CmpIPredicate.sle (BitVec.ofNat 32 a) (BitVec.ofNat 32 b)) x y = if a ≤ b then x else y := by
  have e : ∀ n : ℕ, n < 1024 → (BitVec.ofNat 32 n).toInt = (n : ℤ) := fun n h => by
    rw [BitVec.toInt_eq_toNat_of_lt] <;> rw [BitVec.toNat_ofNat, Nat.mod_eq_of_lt (by omega)] <;> omega
  unfold Scalar.select IntOp.cmpi
  by_cases h : a ≤ b
  · have : (BitVec.ofNat 32 a).toInt ≤ (BitVec.ofNat 32 b).toInt := by rw [e a ha, e b hb]; exact_mod_cast h
    simp [BitVec.sle, h, this]
  · have : ¬ (BitVec.ofNat 32 a).toInt ≤ (BitVec.ofNat 32 b).toInt := by rw [e a ha, e b hb]; exact_mod_cast h
    simp [BitVec.sle, h, this]

/-- The scaled scores, the keys after the query masked. -/
noncomputable def scoreV (v163 : FVec Idealize.ShloMosaic.Ideal S2x4x7x1024x1024 .f32) (v164 : FVec Idealize.ShloMosaic.Ideal S2x4x1x1x1024 .f32) : FVec Idealize.ShloMosaic.Ideal S2x4x7x1024x1024 .f32 :=
  select (broadcastTo S2x4x7x1024x1024 (shapeCast S1x1x1x1024x1024 (cmpi .sle (iota .tc S1024x1024 32 [1] iota_S1024x1024_d1_w32) (iota .tc S1024x1024 32 [0] iota_S1024x1024_d0_w32)) shapeCasts_S1024x1024_S1x1x1x1024x1024) broadcasts_S1x1x1x1024x1024_S2x4x7x1024x1024)
    (mulf (mulf v163 (broadcastTo S2x4x7x1024x1024 v164 broadcasts_S2x4x1x1x1024_S2x4x7x1024x1024)) (broadcast S2x4x7x1024x1024 (Scalar.ofBits .f32 0x3DB504F3#32)))
    (broadcast S2x4x7x1024x1024 (Scalar.ofBits .f32 0xFF800000#32))

theorem scoreV_apply (v163 : FVec Idealize.ShloMosaic.Ideal S2x4x7x1024x1024 .f32) (v164 : FVec Idealize.ShloMosaic.Ideal S2x4x1x1x1024 .f32) (b : Fin 2) (g : Fin 4) (u : Fin 7) (s l : Fin 1024) :
    scoreV v163 v164 (ix5 b g u s l) = if l.val ≤ s.val then v163 (ix5 b g u s l) * v164 (ix5 b g 0 0 l) * Ideal.ofBits .f32 0x3DB504F3#32 else ⊥ := by
  rw [← sel_le l.val s.val l.isLt s.isLt, ← qexp_ofBits_bot]
  pointwise [scoreV]

/-- The largest score of each query, -/
noncomputable def redV (X : FVec Idealize.ShloMosaic.Ideal S2x4x7x1024x1024 .f32) : FVec Idealize.ShloMosaic.Ideal S2x4x7x1024 .f32 :=
  multiReduction .maximumf [4] S2x4x7x1024 X 0xFF800000#32 reduces_S2x4x7x1024x1024_S2x4x7x1024 (.inl rfl) rfl

theorem redV_apply (X : FVec Idealize.ShloMosaic.Ideal S2x4x7x1024x1024 .f32) (b : Fin 2) (g : Fin 4) (u : Fin 7) (s : Fin 1024) :
    redV X (ix4 b g u s) = Finset.univ.fold max ⊥ fun l => X (ix5 b g u s l) := by
  rw [← qexp_ofBits_bot]
  pointwise [redV]

/-- started at the smallest value, -/
noncomputable def topV (X : FVec Idealize.ShloMosaic.Ideal S2x4x7x1024x1024 .f32) : FVec Idealize.ShloMosaic.Ideal S2x4x7x1024 .f32 :=
  maximumf (broadcast S2x4x7x1024 (Scalar.ofBits .f32 0xFF800000#32)) (redV X)

theorem max_bot {s : Shape} (w : FVec Idealize.ShloMosaic.Ideal s .f32) (j : s.Idx) : maximumf (broadcast s (Scalar.ofBits .f32 0xFF800000#32)) w j = w j := by
  have e : maximumf (broadcast s (Scalar.ofBits .f32 0xFF800000#32)) w j = max (Ideal.ofBits .f32 0xFF800000#32) (w j) := by pointwise
  rw [e, qexp_ofBits_bot]
  exact max_eq_right bot_le

theorem topV_apply (X : FVec Idealize.ShloMosaic.Ideal S2x4x7x1024x1024 .f32) (b : Fin 2) (g : Fin 4) (u : Fin 7) (s : Fin 1024) :
    topV X (ix4 b g u s) = Finset.univ.fold max ⊥ fun l => X (ix5 b g u s l) :=
  (max_bot (redV X) _).trans (redV_apply X b g u s)

/-- the exponentials, -/
noncomputable def powV (X : FVec Idealize.ShloMosaic.Ideal S2x4x7x1024x1024 .f32) (M : FVec Idealize.ShloMosaic.Ideal S2x4x7x1024 .f32) : FVec Idealize.ShloMosaic.Ideal S2x4x7x1024x1024 .f32 :=
  exp (subf X (broadcastTo S2x4x7x1024x1024 (shapeCast S2x4x7x1024x1 M shapeCasts_S2x4x7x1024_S2x4x7x1024x1) broadcasts_S2x4x7x1024x1_S2x4x7x1024x1024))

theorem powV_apply (X : FVec Idealize.ShloMosaic.Ideal S2x4x7x1024x1024 .f32) (M : FVec Idealize.ShloMosaic.Ideal S2x4x7x1024 .f32) (b : Fin 2) (g : Fin 4) (u : Fin 7) (s l : Fin 1024) :
    powV X M (ix5 b g u s l) = Ideal.exp (X (ix5 b g u s l) - M (ix4 b g u s)) := by
  pointwise [powV]

/-- the probabilities, -/
noncomputable def probV (E : FVec Idealize.ShloMosaic.Ideal S2x4x7x1024x1024 .f32) : FVec Idealize.ShloMosaic.Ideal S2x4x7x1024x1024 .bf16 :=
  truncf .bf16 (divf E (broadcastTo S2x4x7x1024x1024 (shapeCast S2x4x7x1024x1 (multiReduction .add [4] S2x4x7x1024 E 0x00000000#32 reduces_S2x4x7x1024x1024_S2x4x7x1024 (.inl rfl) rfl) shapeCasts_S2x4x7x1024_S2x4x7x1024x1) broadcasts_S2x4x7x1024x1_S2x4x7x1024x1024)) bitsLt_bf16_f32

theorem probV_apply (E : FVec Idealize.ShloMosaic.Ideal S2x4x7x1024x1024 .f32) (b : Fin 2) (g : Fin 4) (u : Fin 7) (s l : Fin 1024) :
    probV E (ix5 b g u s l) = Ideal.div (E (ix5 b g u s l)) (∑ l', E (ix5 b g u s l')) := by
  pointwise [probV]

/-- and the outputs, the heads side by side. -/
noncomputable def outV (P : FVec Idealize.ShloMosaic.Ideal S2x4x7x1024x1024 .bf16) (v158 : FVec Idealize.ShloMosaic.Ideal S8x1024x128 .bf16) : FVec Idealize.ShloMosaic.Ideal S2x1024x3584 .bf16 :=
  shapeCast S2x1024x3584 (transpose S2x1024x4x7x128 [0, 3, 1, 2, 4] (truncf .bf16 (shapeCast S2x4x7x1024x128 (matmul (φ₁ := .bf16) (φ₂ := .bf16) dot_S8x7168x1024_S8x1024x128_S8x7168x128_2_1_1_2_0_0 none
      (shapeCast S8x7168x1024 P shapeCasts_S2x4x7x1024x1024_S8x7168x1024) v158 (constant S8x7168x128 .f32 0x00000000#32)) shapeCasts_S8x7168x128_S2x4x7x1024x128) bitsLt_bf16_f32) transposes_S2x4x7x1024x128_p0_3_1_2_4_S2x1024x4x7x128)
    shapeCasts_S2x1024x4x7x128_S2x1024x3584

theorem outV_apply (P : FVec Idealize.ShloMosaic.Ideal S2x4x7x1024x1024 .bf16) (v158 : FVec Idealize.ShloMosaic.Ideal S8x1024x128 .bf16) (b : Fin 2) (s : Fin 1024) (n : Fin 3584) :
    outV P v158 (ix3 b s n) = ∑ l, P (ix5 b ⟨n.val / 896, by omega⟩ ⟨n.val / 128 % 7, by omega⟩ s l) * v158 (ix3 ⟨b.val * 4 + n.val / 896, by omega⟩ l ⟨n.val % 128, by omega⟩) := by
  have e : outV P v158 (ix3 b s n) = ∑ l, P (ix5 b ⟨(b.val * 4 + n.val / 896) % 4, by omega⟩ ⟨(n.val / 128 % 7 * 1024 + s.val) / 1024, by omega⟩ s l) * v158 (ix3 ⟨b.val * 4 + n.val / 896, by omega⟩ l ⟨n.val % 128, by omega⟩) := by
    pointwise [outV]
  have e1 : (⟨(b.val * 4 + n.val / 896) % 4, by omega⟩ : Fin 4) = ⟨n.val / 896, by omega⟩ := Fin.ext (by dsimp only; omega)
  have e2 : (⟨(n.val / 128 % 7 * 1024 + s.val) / 1024, by omega⟩ : Fin 7) = ⟨n.val / 128 % 7, by omega⟩ := Fin.ext (by dsimp only; omega)
  rw [e, e1, e2]

theorem pay1_apply (v158 : FVec Idealize.ShloMosaic.Ideal S8x1024x128 .bf16) (v163 : FVec Idealize.ShloMosaic.Ideal S2x4x7x1024x1024 .f32) (v164 : FVec Idealize.ShloMosaic.Ideal S2x4x1x1x1024 .f32) (b : Fin 2) (s : Fin 1024) (n : Fin 3584) :
    k0_pay1 (F := Idealize.ShloMosaic.Ideal) v158 v163 v164 (ix3 b s n) =
      softRow (fun l : Fin 1024 => if l.val ≤ s.val then v163 (ix5 b ⟨n.val / 896, by omega⟩ ⟨n.val / 128 % 7, by omega⟩ s l) * v164 (ix5 b ⟨n.val / 896, by omega⟩ 0 0 l) * Ideal.ofBits .f32 0x3DB504F3#32 else ⊥)
        (fun l => v158 (ix3 ⟨b.val * 4 + n.val / 896, by omega⟩ l ⟨n.val % 128, by omega⟩)) := by
  have e : k0_pay1 (F := Idealize.ShloMosaic.Ideal) v158 v163 v164 = outV (probV (powV (scoreV v163 v164) (topV (scoreV v163 v164)))) v158 := rfl
  rw [e, outV_apply]
  simp only [probV_apply, powV_apply, topV_apply, scoreV_apply]
  rfl

/-- The raw scores, times the queries' scales. -/
theorem pay25_apply (v92 : FVec Idealize.ShloMosaic.Ideal S2x1024x28 .f32) (v103 : FVec Idealize.ShloMosaic.Ideal S2x1024x28x128 .fp8e4m3) (v113 : FVec Idealize.ShloMosaic.Ideal S2x1024x4x128 .f32) (v115 v128 : FVec Idealize.ShloMosaic.Ideal S2x1024x4 .f32)
    (b : Fin 2) (g : Fin 4) (u : Fin 7) (s l : Fin 1024) :
    k0_pay25 (F := Idealize.ShloMosaic.Ideal) v92 v103 v113 v115 v128 (ix5 b g u s l) =
      (∑ x, v103 (ix4 b s ⟨g.val * 7 + u.val, by omega⟩ x) * k0_pay23 v113 v115 v128 (ix4 b l g x)) * v92 (ix3 b s ⟨g.val * 7 + u.val, by omega⟩) := by
  unfold k0_pay25
  generalize k0_pay23 v113 v115 v128 = w
  pointwise

theorem pay26_apply (v115 v128 : FVec Idealize.ShloMosaic.Ideal S2x1024x4 .f32) (b : Fin 2) (g : Fin 4) (l : Fin 1024) :
    k0_pay26 (F := Idealize.ShloMosaic.Ideal) v115 v128 (ix5 b g 0 0 l) = k0_pay22 v115 v128 (ix3 b l g) := by
  unfold k0_pay26
  generalize k0_pay22 v115 v128 = w
  pointwise

end Cert.ReferenceIdeal.Hand

end
-- ==== Proof.RVal.lean ====
module

public import proofs.«01_k».proof.Proof.RAtt
public import proofs.«01_k».proof.Proof.Gen.ReferenceIdeal.Frame
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI Cert.Hand
open scoped BigOperators

/-! ## The reference's results, entry by entry -/

/-- The layer's inputs, from the arrays that the reference's kernel reads. -/
def IR (x0 : Vec Idealize.ShloMosaic.Ideal S2x1024x3584 .bf16) (x1 : Vec Idealize.ShloMosaic.Ideal S3584x4608 .fp8e4m3) (x2 x3 : Vec Idealize.ShloMosaic.Ideal S4608 .f32) (x4 x5 : Vec Idealize.ShloMosaic.Ideal S2x1024x128 .f32) : In where
  x b s k := x0 (ix3 b s k)
  w k n := x1 (ix2 k n)
  ws n := x2 (ix1 n)
  bs n := x3 (ix1 n)
  cos b s d := x4 (ix3 b s d)
  sin b s d := x5 (ix3 b s d)

section
variable (x0 : Vec Idealize.ShloMosaic.Ideal S2x1024x3584 .bf16) (x1 : Vec Idealize.ShloMosaic.Ideal S3584x4608 .fp8e4m3) (x2 x3 : Vec Idealize.ShloMosaic.Ideal S4608 .f32) (x4 x5 : Vec Idealize.ShloMosaic.Ideal S2x1024x128 .f32)

/-- The projection, -/
def yR : FVec Idealize.ShloMosaic.Ideal S2x1024x4608 .f32 := k0_pay7 (k0_pay4 x0) (k0_pay6 x0) x1 x2 x3

theorem yR_apply (b : Fin 2) (s : Fin 1024) (n : Fin 4608) : yR x0 x1 x2 x3 (ix3 b s n) = (IR x0 x1 x2 x3 x4 x5).y b s n := pay7_apply x0 x1 x2 x3 b s n

/-- the queries, -/
def qR : FVec Idealize.ShloMosaic.Ideal S2x1024x28x128 .f32 := ropeQ (yR x0 x1 x2 x3) x4 x5

theorem qR_row (b : Fin 2) (s : Fin 1024) (h : Fin 28) : (fun d => qR x0 x1 x2 x3 x4 x5 (ix4 b s h d)) = (IR x0 x1 x2 x3 x4 x5).q b h s := by
  funext d
  unfold qR
  rw [ropeQ_apply]
  simp only [yR_apply x0 x1 x2 x3 x4 x5]
  rfl

/-- the keys, -/
def kR : FVec Idealize.ShloMosaic.Ideal S2x1024x4x128 .f32 :=
  k0_pay18 (shapeCast S2x1024x4x128 (extractStridedSlice S2x1024x512 ![0, 0, 3584] (yR x0 x1 x2 x3) slices_S2x1024x4608_o0_0_3584_S2x1024x512) shapeCasts_S2x1024x512_S2x1024x4x128) (k0_pay10 x4) (k0_pay11 x5)

theorem kR_row (b : Fin 2) (s : Fin 1024) (g : Fin 4) : (fun d => kR x0 x1 x2 x3 x4 x5 (ix4 b s g d)) = (IR x0 x1 x2 x3 x4 x5).k b g s := by
  funext d
  unfold kR
  rw [pay18_apply]
  simp only [pay8_apply, yR_apply x0 x1 x2 x3 x4 x5]
  rfl

/-- and the values. -/
def vR : FVec Idealize.ShloMosaic.Ideal S2x1024x4x128 .bf16 :=
  truncf .bf16 (shapeCast S2x1024x4x128 (extractStridedSlice S2x1024x512 ![0, 0, 4096] (yR x0 x1 x2 x3) slices_S2x1024x4608_o0_0_4096_S2x1024x512) shapeCasts_S2x1024x512_S2x1024x4x128) bitsLt_bf16_f32

theorem vR_apply (b : Fin 2) (s : Fin 1024) (g : Fin 4) (d : Fin 128) : vR x0 x1 x2 x3 (ix4 b s g d) = (IR x0 x1 x2 x3 x4 x5).v b s ⟨128 * g.val + d.val, by omega⟩ := by
  unfold vR
  rw [pay9_apply, yR_apply x0 x1 x2 x3 x4 x5]
  rfl

/-! The kernel's values over whole inputs. -/

/-- A load of a whole input reads it. -/
theorem ld0 (x : Vec Idealize.ShloMosaic.Ideal S2x1024x3584 .bf16) : View.ld x r0_0 = x := View.ld_unit_lit' _ x (by decide)
theorem ld2 (x : Vec Idealize.ShloMosaic.Ideal S3584x4608 .fp8e4m3) : View.ld x r0_2 = x := View.ld_unit_lit' _ x (by decide)
theorem ld3 (x : Vec Idealize.ShloMosaic.Ideal S4608 .f32) : View.ld x r0_3 = x := View.ld_unit_lit' _ x (by decide)
theorem ld4 (x : Vec Idealize.ShloMosaic.Ideal S2x1024x128 .f32) : View.ld x r0_4 = x := View.ld_unit_lit' _ x (by decide)

theorem p34 : k0_pay34 x0 x1 x2 x3 x4 x5 = scaleV (maxQ (qR x0 x1 x2 x3 x4 x5)) :=
  (rfl : _ = scaleV (maxQ (qR (View.ld x0 r0_0) (View.ld x1 r0_2) (View.ld x2 r0_3) (View.ld x3 r0_3) (View.ld x4 r0_4) (View.ld x5 r0_4)))).trans (by rw [ld0, ld2, ld3, ld3, ld4, ld4])
theorem p35 : k0_pay35 x0 x1 x2 x3 x4 x5 = codeQ (qR x0 x1 x2 x3 x4 x5) (maxQ (qR x0 x1 x2 x3 x4 x5)) :=
  (rfl : _ = codeQ (qR (View.ld x0 r0_0) (View.ld x1 r0_2) (View.ld x2 r0_3) (View.ld x3 r0_3) (View.ld x4 r0_4) (View.ld x5 r0_4)) (maxQ (qR (View.ld x0 r0_0) (View.ld x1 r0_2) (View.ld x2 r0_3) (View.ld x3 r0_3) (View.ld x4 r0_4) (View.ld x5 r0_4)))).trans (by rw [ld0, ld2, ld3, ld3, ld4, ld4])
theorem p23 : k0_pay23 (k0_pay36 x0 x1 x2 x3 x4 x5) (k0_pay37 x0 x1 x2 x3 x4 x5) (k0_pay38 x0 x1 x2 x3 x4 x5) = codeK (kR x0 x1 x2 x3 x4 x5) (maxK (kR x0 x1 x2 x3 x4 x5)) :=
  (rfl : _ = codeK (kR (View.ld x0 r0_0) (View.ld x1 r0_2) (View.ld x2 r0_3) (View.ld x3 r0_3) (View.ld x4 r0_4) (View.ld x5 r0_4)) (maxK (kR (View.ld x0 r0_0) (View.ld x1 r0_2) (View.ld x2 r0_3) (View.ld x3 r0_3) (View.ld x4 r0_4) (View.ld x5 r0_4)))).trans (by rw [ld0, ld2, ld3, ld3, ld4, ld4])
theorem p22 : k0_pay22 (k0_pay37 x0 x1 x2 x3 x4 x5) (k0_pay38 x0 x1 x2 x3 x4 x5) = scaleV (maxK (kR x0 x1 x2 x3 x4 x5)) :=
  (rfl : _ = scaleV (maxK (kR (View.ld x0 r0_0) (View.ld x1 r0_2) (View.ld x2 r0_3) (View.ld x3 r0_3) (View.ld x4 r0_4) (View.ld x5 r0_4)))).trans (by rw [ld0, ld2, ld3, ld3, ld4, ld4])
theorem p9 : k0_pay9 (k0_pay27 x0 x1 x2 x3 x4 x5) (k0_pay28 x0 x1 x2 x3 x4 x5) (View.ld x1 r0_2) (View.ld x2 r0_3) (View.ld x3 r0_3) = vR x0 x1 x2 x3 :=
  (rfl : _ = vR (View.ld x0 r0_0) (View.ld x1 r0_2) (View.ld x2 r0_3) (View.ld x3 r0_3)).trans (by rw [ld0, ld2, ld3, ld3])

theorem row6 (b : Fin 2) (s : Fin 1024) (n : Fin 3584) : out0_6 x0 x1 x2 x3 x4 x5 (ix3 b s n) =
    ((IR x0 x1 x2 x3 x4 x5).out b ⟨n.val / 128, by omega⟩ s ⟨n.val % 128, by omega⟩ : EReal) := by
  refine (congrFun (View.canon_cons_unit_lit' _ _ _ (by decide)) _).trans ((pay1_apply _ _ _ b s n).trans ?_)
  have eg : In.grp ⟨n.val / 128, by omega⟩ = ⟨n.val / 896, by omega⟩ := Fin.ext (by show n.val / 128 / 7 = n.val / 896; omega)
  have eh : (⟨n.val / 896 * 7 + n.val / 128 % 7, by omega⟩ : Fin 28) = ⟨n.val / 128, by omega⟩ := Fin.ext (by show n.val / 896 * 7 + n.val / 128 % 7 = n.val / 128; omega)
  unfold In.out In.score
  rw [p9]
  refine congr (congrArg softRow (funext fun l => if_congr Iff.rfl ?_ rfl)) (funext fun l => ?_)
  · rw [pay25_apply, pay26_apply, p22, p23, p34, p35]
    dsimp only
    rw [eh, eg, scaleV_apply, scaleV_apply, maxQ_apply, maxK_apply, qR_row, kR_row]
    simp only [codeQ_apply, codeK_apply, qR_row, kR_row]
    rfl
  · exact (pay24_apply (vR x0 x1 x2 x3) b l ⟨n.val / 896, by omega⟩ ⟨n.val % 128, by omega⟩).trans ((vR_apply x0 x1 x2 x3 x4 x5 b l ⟨n.val / 896, by omega⟩ ⟨n.val % 128, by omega⟩).trans
      (congrArg ((IR x0 x1 x2 x3 x4 x5).v b l) (Fin.ext (by show 128 * (n.val / 896) + n.val % 128 = 128 * (n.val / 128 / 7) + n.val % 128; omega))))

theorem row7 (b : Fin 2) (s : Fin 1024) (d : Fin 3584) : out0_7 x0 x1 x2 x3 x4 x5 (ix3 b s d) = (rcode ((IR x0 x1 x2 x3 x4 x5).x b s) d : EReal) := by
  refine (congrFun (View.canon_cons_unit_lit' _ _ _ (by decide)) _).trans ?_
  rw [ld0, pay5_apply]
  rfl

theorem row8 (b : Fin 2) (s : Fin 1024) : out0_8 x0 x1 x2 x3 x4 x5 (ix2 b s) = (rscale ((IR x0 x1 x2 x3 x4 x5).x b s) : EReal) := by
  refine (congrFun (View.canon_cons_unit_lit' _ _ _ (by decide)) _).trans ?_
  rw [ld0, pay4_apply]
  rfl

theorem row9 (b : Fin 2) (s : Fin 1024) (h : Fin 28) (d : Fin 128) : out0_9 x0 x1 x2 x3 x4 x5 (ix4 b s h d) = (rcode ((IR x0 x1 x2 x3 x4 x5).q b h s) d : EReal) := by
  refine (congrFun (View.canon_cons_unit_lit' _ _ _ (by decide)) _).trans ?_
  rw [p35, codeQ_apply, qR_row]

theorem row10 (b : Fin 2) (s : Fin 1024) (h : Fin 28) : out0_10 x0 x1 x2 x3 x4 x5 (ix3 b s h) = (rscale ((IR x0 x1 x2 x3 x4 x5).q b h s) : EReal) := by
  refine (congrFun (View.canon_cons_unit_lit' _ _ _ (by decide)) _).trans ?_
  rw [p34, scaleV_apply, maxQ_apply, qR_row]
  rfl

theorem row11 (b : Fin 2) (s : Fin 1024) (g : Fin 4) (d : Fin 128) : out0_11 x0 x1 x2 x3 x4 x5 (ix4 b s g d) = (rcode ((IR x0 x1 x2 x3 x4 x5).k b g s) d : EReal) := by
  refine (congrFun (View.canon_cons_unit_lit' _ _ _ (by decide)) _).trans ?_
  rw [p23, codeK_apply, kR_row]

theorem row12 (b : Fin 2) (s : Fin 1024) (g : Fin 4) : out0_12 x0 x1 x2 x3 x4 x5 (ix3 b s g) = (rscale ((IR x0 x1 x2 x3 x4 x5).k b g s) : EReal) := by
  refine (congrFun (View.canon_cons_unit_lit' _ _ _ (by decide)) _).trans ?_
  rw [p22, scaleV_apply, maxK_apply, kR_row]
  rfl
end

end Cert.ReferenceIdeal.Hand

end
-- ==== Proof.RArr.lean ====
module

public import proofs.«01_k».proof.Proof.RVal
public import proofs.«01_k».proof.Proof.Gen.ReferenceIdeal.Frame
public import Idealize.ShloMosaic.Lib.Pipeline.ValueKit
public import Idealize.ShloMosaic.Lib.Claim

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI Cert.Hand
open scoped BigOperators

/-! The host's cosines and sines. -/

/-- Three stacked arrays, equal part by part. -/
theorem cat3_congr {a a' : Vec Idealize.ShloMosaic.Ideal S2x1024x16 .i32} {b b' d d' : Vec Idealize.ShloMosaic.Ideal S2x1024x24 .i32} (ha : a = a') (hb : b = b') (hd : d = d') :
    (concatenate S2x1024x64 2 [⟨S2x1024x16, a⟩, ⟨S2x1024x24, b⟩, ⟨S2x1024x24, d⟩] concatenates_S2x1024x16_S2x1024x24_S2x1024x24_S2x1024x64_d2 : Vec Idealize.ShloMosaic.Ideal S2x1024x64 .i32) =
    concatenate S2x1024x64 2 [⟨S2x1024x16, a'⟩, ⟨S2x1024x24, b'⟩, ⟨S2x1024x24, d'⟩] concatenates_S2x1024x16_S2x1024x24_S2x1024x24_S2x1024x64_d2 := by rw [ha, hb, hd]

/-- The position of each pair: three sections of the position ids, -/
theorem t3 (m : (ℓ : Loc nD τ sig) → Buf (Elt Idealize.ShloMosaic.Ideal) ℓ) (c : Dev nD) : V (F := Idealize.ShloMosaic.Ideal) m c main_v23 =
    concatenate S2x1024x64 2 [⟨S2x1024x16, V (F := Idealize.ShloMosaic.Ideal) m c main_v14⟩, ⟨S2x1024x24, V (F := Idealize.ShloMosaic.Ideal) m c main_v18⟩, ⟨S2x1024x24, V (F := Idealize.ShloMosaic.Ideal) m c main_v22⟩] concatenates_S2x1024x16_S2x1024x24_S2x1024x24_S2x1024x64_d2 := by
  unfold_abbrev_sides
  after_results
  refine cat3_congr ?_ ?_ ?_ <;> dsimp only [Matrix.cons_val_zero, Matrix.cons_val_one, Matrix.cons_val] <;> unfold_abbrev_sides <;> after_results

/-- The rotary frequencies. -/
abbrev freqV : FVec Idealize.ShloMosaic.Ideal S64 .f32 :=
  Host.divf (broadcastInDim S64 ![] bcast_S_S64 (constant S_ .f32 0x3F800000#32))
    (Host.powf (broadcastInDim S64 ![] bcast_S_S64 (constant S_ .f32 0x49742400#32))
      (Host.divf (addf (broadcastInDim S64 ![] bcast_S_S64 (constant S_ .f32 0x00000000#32))
          (mulf (broadcastInDim S64 ![] bcast_S_S64 (constant S_ .f32 0x40000000#32)) (sitofp .f32 (iotaInDim S64 32 0))))
        (broadcastInDim S64 ![] bcast_S_S64 (constant S_ .f32 0x43000000#32))))

section
variable (m : (ℓ : Loc nD τ sig) → Buf (Elt Idealize.ShloMosaic.Ideal) ℓ) (c : Dev nD)
/-- each read at its token. -/
theorem t14 (b : Fin 2) (s : Fin 1024) (i : Fin 16) : V (F := Idealize.ShloMosaic.Ideal) m c main_v14 (ix3 b s i) = m ((c : Thread nD τ).loc main_arg4) (ix3 0 b s) := by
  entry_read
  pointwise
  blk_ext []
theorem t18 (b : Fin 2) (s : Fin 1024) (i : Fin 24) : V (F := Idealize.ShloMosaic.Ideal) m c main_v18 (ix3 b s i) = m ((c : Thread nD τ).loc main_arg4) (ix3 1 b s) := by
  entry_read
  pointwise
  blk_ext []
theorem t22 (b : Fin 2) (s : Fin 1024) (i : Fin 24) : V (F := Idealize.ShloMosaic.Ideal) m c main_v22 (ix3 b s i) = m ((c : Thread nD τ).loc main_arg4) (ix3 2 b s) := by
  entry_read
  pointwise
  blk_ext []
theorem t23 (b : Fin 2) (s : Fin 1024) (i : Fin 64) : V (F := Idealize.ShloMosaic.Ideal) m c main_v23 (ix3 b s i) =
    section3 (m ((c : Thread nD τ).loc main_arg4) (ix3 0 b s)) (m ((c : Thread nD τ).loc main_arg4) (ix3 1 b s)) (m ((c : Thread nD τ).loc main_arg4) (ix3 2 b s)) i := by
  rw [t3]
  pointwise
  unfold section3
  by_cases h : i.val < 16
  · rw [dif_pos h, if_pos h, t14]
  · rw [dif_neg h, if_neg h]
    by_cases h' : i.val - 16 < 24
    · rw [dif_pos h', if_pos h', t18]
    · rw [dif_neg h', if_neg h', t22]
/-- The angle of pair `i`. -/
abbrev angV : FVec Idealize.ShloMosaic.Ideal S2x1024x64 .f32 :=
  mulf (sitofp .f32 (V (F := Idealize.ShloMosaic.Ideal) m c main_v23 : Vec Idealize.ShloMosaic.Ideal S2x1024x64 .i32)) (broadcastInDim S2x1024x64 ![0, 1, 2] bcast_S1x1x64_S2x1024x64_0_1_2 (broadcastInDim S1x1x64 ![2] bcast_S64_S1x1x64_2 freqV))
theorem cat2_congr {a a' : FVec Idealize.ShloMosaic.Ideal S2x1024x64 .f32} (h : a = a') :
    (concatenate S2x1024x128 2 [⟨S2x1024x64, a⟩, ⟨S2x1024x64, a⟩] concatenates_S2x1024x64_S2x1024x64_S2x1024x128_d2 : FVec Idealize.ShloMosaic.Ideal S2x1024x128 .f32) =
    concatenate S2x1024x128 2 [⟨S2x1024x64, a'⟩, ⟨S2x1024x64, a'⟩] concatenates_S2x1024x64_S2x1024x64_S2x1024x128_d2 := by rw [h]
/-- The cosines and the sines, each twice over. -/
theorem t30 : V (F := Idealize.ShloMosaic.Ideal) m c main_v30 = concatenate S2x1024x128 2 [⟨S2x1024x64, Host.cos (angV m c)⟩, ⟨S2x1024x64, Host.cos (angV m c)⟩] concatenates_S2x1024x64_S2x1024x64_S2x1024x128_d2 := by
  unfold_abbrev_sides
  after_results
  refine cat2_congr (congrArg Host.cos (congrArg (fun p => mulf (sitofp .f32 p) _) (Eq.trans ?_ (t3 m c).symm)))
  refine cat3_congr ?_ ?_ ?_ <;> dsimp only [Matrix.cons_val_zero, Matrix.cons_val_one, Matrix.cons_val] <;> unfold_abbrev_sides <;> after_results
theorem t31 : V (F := Idealize.ShloMosaic.Ideal) m c main_v31 = concatenate S2x1024x128 2 [⟨S2x1024x64, Host.sin (angV m c)⟩, ⟨S2x1024x64, Host.sin (angV m c)⟩] concatenates_S2x1024x64_S2x1024x64_S2x1024x128_d2 := by
  unfold_abbrev_sides
  after_results
  refine cat2_congr (congrArg Host.sin (congrArg (fun p => mulf (sitofp .f32 p) _) (Eq.trans ?_ (t3 m c).symm)))
  refine cat3_congr ?_ ?_ ?_ <;> dsimp only [Matrix.cons_val_zero, Matrix.cons_val_one, Matrix.cons_val] <;> unfold_abbrev_sides <;> after_results
theorem cat2_apply (a : FVec Idealize.ShloMosaic.Ideal S2x1024x64 .f32) (b : Fin 2) (s : Fin 1024) (d : Fin 128) :
    (concatenate S2x1024x128 2 [⟨S2x1024x64, a⟩, ⟨S2x1024x64, a⟩] concatenates_S2x1024x64_S2x1024x64_S2x1024x128_d2 : FVec Idealize.ShloMosaic.Ideal S2x1024x128 .f32) (ix3 b s d) =
      twice (fun i => a (ix3 b s i)) d := by
  unfold twice
  pointwise
theorem angV_apply (b : Fin 2) (s : Fin 1024) (i : Fin 64) : angV m c (ix3 b s i) =
    FloatOps.sitofp (F := Idealize.ShloMosaic.Ideal) .f32 (section3 (m ((c : Thread nD τ).loc main_arg4) (ix3 0 b s)) (m ((c : Thread nD τ).loc main_arg4) (ix3 1 b s)) (m ((c : Thread nD τ).loc main_arg4) (ix3 2 b s)) i) * freqV (ix1 i) := by
  rw [← t23]
  pointwise [angV]
end

section
variable (m : (ℓ : Loc nD τ sig) → Buf (Elt Idealize.ShloMosaic.Ideal) ℓ) (c : Dev nD)

/-- The layer's inputs, read off the arrays as the kernel finds them. -/
def IV : In where
  x b s k := V m c main_arg0 (ix3 b s k)
  w k n := V m c main_arg1 (ix2 k n)
  ws n := V m c main_arg2 (ix1 n)
  bs n := V m c main_arg3 (ix1 n)
  cos b s d := V m c main_v30 (ix3 b s d)
  sin b s d := V m c main_v31 (ix3 b s d)

/-- The grid has one point and every block is its whole array. -/
theorem idxR : ∀ t : Fin cfg0.N, win0_0.index t = ![0, 0, 0] ∧ win0_1.index t = ![0, 0] ∧ win0_2.index t = ![0] ∧ win0_3.index t = ![0] ∧
    win0_4.index t = ![0, 0, 0] ∧ win0_5.index t = ![0, 0, 0] ∧ win0_6.index t = ![0, 0, 0] ∧ win0_7.index t = ![0, 0, 0] ∧ win0_8.index t = ![0, 0] ∧
    win0_9.index t = ![0, 0, 0, 0] ∧ win0_10.index t = ![0, 0, 0] ∧ win0_11.index t = ![0, 0, 0, 0] ∧ win0_12.index t = ![0, 0, 0] :=
  (by decide +kernel : ∀ t : Fin grid0.N, _)

theorem ib0 (t : Fin cfg0.N) : iblk m c 0 t = V m c main_arg0 := by
  funext j
  blk_ext [iblk, idxR t]
theorem ib1 (t : Fin cfg0.N) : iblk m c 1 t = V m c main_arg1 := by
  funext j
  blk_ext [iblk, idxR t]
theorem ib2 (t : Fin cfg0.N) : iblk m c 2 t = V m c main_arg2 := by
  funext j
  blk_ext [iblk, idxR t]
theorem ib3 (t : Fin cfg0.N) : iblk m c 3 t = V m c main_arg3 := by
  funext j
  blk_ext [iblk, idxR t]
theorem ib4 (t : Fin cfg0.N) : iblk m c 4 t = V m c main_v30 := by
  funext j
  blk_ext [iblk, idxR t]
theorem ib5 (t : Fin cfg0.N) : iblk m c 5 t = V m c main_v31 := by
  funext j
  blk_ext [iblk, idxR t]

theorem cos_at (b : Fin 2) (s : Fin 1024) (d : Fin 128) : V m c main_v30 (ix3 b s d) = twice (fun i => Ideal.cos (angV m c (ix3 b s i))) d := by
  rw [t30, cat2_apply]
  rfl
theorem sin_at (b : Fin 2) (s : Fin 1024) (d : Fin 128) : V m c main_v31 (ix3 b s d) = twice (fun i => Ideal.sin (angV m c (ix3 b s i))) d := by
  rw [t31, cat2_apply]
  rfl

theorem IR_eq : IR (V m c main_arg0) (V m c main_arg1) (V m c main_arg2) (V m c main_arg3) (V m c main_v30) (V m c main_v31) = IV m c := rfl

/-! ## What the reference's results hold -/

theorem arrR6 : (dats m 0 c).arrAt 6 cfg0.N = fun j : S2x1024x3584.Idx => ((IV m c).out (j 0) ⟨(j 2).val / 128, by have h : (j 2).val < 3584 := (j 2).isLt; omega⟩ (j 1) ⟨(j 2).val % 128, by omega⟩ : EReal) := by
  refine (dats m 0 c).arrAt_eq_of_after_last 6 t0_0 (by decide +kernel) _ fun j => ?_
  rw [after0_6, ib0, ib1, ib2, ib3, ib4, ib5]
  obtain ⟨b, s, d, rfl⟩ : ∃ (b : Fin 2) (s : Fin 1024) (d : Fin 3584), j = ix3 b s d := ⟨j 0, j 1, j 2, eq_ix3 j⟩
  blk_simp
  exact row6 _ _ _ _ _ _ b s d

theorem arrR7 : (dats m 0 c).arrAt 7 cfg0.N = fun j : S2x1024x3584.Idx => (rcode ((IV m c).x (j 0) (j 1)) (j 2) : EReal) := by
  refine (dats m 0 c).arrAt_eq_of_after_last 7 t0_0 (by decide +kernel) _ fun j => ?_
  rw [after0_7, ib0, ib1, ib2, ib3, ib4, ib5]
  obtain ⟨b, s, d, rfl⟩ : ∃ (b : Fin 2) (s : Fin 1024) (d : Fin 3584), j = ix3 b s d := ⟨j 0, j 1, j 2, eq_ix3 j⟩
  blk_simp
  exact row7 _ _ _ _ _ _ b s d

theorem arrR8 : (dats m 0 c).arrAt 8 cfg0.N = fun j : S2x1024.Idx => (rscale ((IV m c).x (j 0) (j 1)) : EReal) := by
  refine (dats m 0 c).arrAt_eq_of_after_last 8 t0_0 (by decide +kernel) _ fun j => ?_
  rw [after0_8, ib0, ib1, ib2, ib3, ib4, ib5]
  obtain ⟨b, s, rfl⟩ : ∃ (b : Fin 2) (s : Fin 1024), j = ix2 b s := ⟨j 0, j 1, eq_ix2 j⟩
  blk_simp
  exact row8 _ _ _ _ _ _ b s

theorem arrR9 : (dats m 0 c).arrAt 9 cfg0.N = fun j : S2x1024x28x128.Idx => (rcode ((IV m c).q (j 0) (j 2) (j 1)) (j 3) : EReal) := by
  refine (dats m 0 c).arrAt_eq_of_after_last 9 t0_0 (by decide +kernel) _ fun j => ?_
  rw [after0_9, ib0, ib1, ib2, ib3, ib4, ib5]
  obtain ⟨b, s, d, e, rfl⟩ : ∃ (b : Fin 2) (s : Fin 1024) (d : Fin 28) (e : Fin 128), j = ix4 b s d e := ⟨j 0, j 1, j 2, j 3, eq_ix4 j⟩
  blk_simp
  exact row9 _ _ _ _ _ _ b s d e

theorem arrR10 : (dats m 0 c).arrAt 10 cfg0.N = fun j : S2x1024x28.Idx => (rscale ((IV m c).q (j 0) (j 2) (j 1)) : EReal) := by
  refine (dats m 0 c).arrAt_eq_of_after_last 10 t0_0 (by decide +kernel) _ fun j => ?_
  rw [after0_10, ib0, ib1, ib2, ib3, ib4, ib5]
  obtain ⟨b, s, d, rfl⟩ : ∃ (b : Fin 2) (s : Fin 1024) (d : Fin 28), j = ix3 b s d := ⟨j 0, j 1, j 2, eq_ix3 j⟩
  blk_simp
  exact row10 _ _ _ _ _ _ b s d

theorem arrR11 : (dats m 0 c).arrAt 11 cfg0.N = fun j : S2x1024x4x128.Idx => (rcode ((IV m c).k (j 0) (j 2) (j 1)) (j 3) : EReal) := by
  refine (dats m 0 c).arrAt_eq_of_after_last 11 t0_0 (by decide +kernel) _ fun j => ?_
  rw [after0_11, ib0, ib1, ib2, ib3, ib4, ib5]
  obtain ⟨b, s, d, e, rfl⟩ : ∃ (b : Fin 2) (s : Fin 1024) (d : Fin 4) (e : Fin 128), j = ix4 b s d e := ⟨j 0, j 1, j 2, j 3, eq_ix4 j⟩
  blk_simp
  exact row11 _ _ _ _ _ _ b s d e

theorem arrR12 : (dats m 0 c).arrAt 12 cfg0.N = fun j : S2x1024x4.Idx => (rscale ((IV m c).k (j 0) (j 2) (j 1)) : EReal) := by
  refine (dats m 0 c).arrAt_eq_of_after_last 12 t0_0 (by decide +kernel) _ fun j => ?_
  rw [after0_12, ib0, ib1, ib2, ib3, ib4, ib5]
  obtain ⟨b, s, d, rfl⟩ : ∃ (b : Fin 2) (s : Fin 1024) (d : Fin 4), j = ix3 b s d := ⟨j 0, j 1, j 2, eq_ix3 j⟩
  blk_simp
  exact row12 _ _ _ _ _ _ b s d

end

end Cert.ReferenceIdeal.Hand

end
-- ==== Proof.Value.lean ====
module

public import proofs.«01_k».proof.Defs
public import proofs.«01_k».proof.Proof.Gen.KernelIdeal
public import proofs.«01_k».proof.Proof.Gen.ReferenceIdeal
public import proofs.«01_k».proof.Proof.KIPost
public import proofs.«01_k».proof.Proof.RArr

@[expose] public section

set_option maxRecDepth 16384

noncomputable section

namespace Cert.Hand

open Idealize.ShloMosaic Idealize.ShloMosaic.TcCoe Idealize.ShloMosaic.Tactic
open Idealize.SL Idealize.SL.RA Idealize.SL.BI Cert.Hand
open scoped BigOperators

section
variable (m : (ℓ : Loc Cert.KernelIdeal.nD Cert.KernelIdeal.τ Cert.KernelIdeal.sig) → Buf (Elt Idealize.ShloMosaic.Ideal) ℓ)
  (m' : (ℓ : Loc Cert.ReferenceIdeal.nD Cert.ReferenceIdeal.τ Cert.ReferenceIdeal.sig) → Buf (Elt Idealize.ShloMosaic.Ideal) ℓ)
  (c : Dev Cert.KernelIdeal.nD)

/-- The two programs start from the same arguments. -/
structure Agree : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

/-- Inputs are equal when their parts are. -/
theorem In.ext' {I J : In} (hx : I.x = J.x) (hw : I.w = J.w) (hs : I.ws = J.ws) (hb : I.bs = J.bs) (hc : I.cos = J.cos) (hn : I.sin = J.sin) : I = J := by
  cases I; cases J; cases hx; cases hw; cases hs; cases hb; cases hc; cases hn; rfl

theorem freq_same : Cert.ReferenceIdeal.Hand.freqV = Cert.KernelIdeal.Hand.freqV := rfl

theorem ang_same (h : Agree m m' c) (b : Fin 2) (s : Fin 1024) (i : Fin 64) :
    Cert.KernelIdeal.Hand.ang (Cert.KernelIdeal.Hand.V1 m) c b s i = Cert.ReferenceIdeal.Hand.angV m' c (ix3 b s i) := by
  rw [Cert.ReferenceIdeal.Hand.angV_apply, h.a4, freq_same]
  have e : Cert.KernelIdeal.Hand.V1 m c Cert.KernelIdeal.main_arg4 = m ((c.tc : Thread Cert.KernelIdeal.nD Cert.KernelIdeal.τ).loc Cert.KernelIdeal.main_arg4) :=
    Cert.KernelIdeal.Hand.W1_args m c Cert.KernelIdeal.main_arg4 (by decide)
  unfold Cert.KernelIdeal.Hand.ang
  rw [Cert.KernelIdeal.Hand.v14_at, e]

/-- The layer's inputs are the same in both. -/
theorem inputs_same (h : Agree m m' c) : Cert.KernelIdeal.Hand.I0 (Cert.KernelIdeal.Hand.V1 m) c = Cert.ReferenceIdeal.Hand.IV m' c := by
  refine In.ext' ?_ ?_ ?_ ?_ ?_ ?_
  · funext b s k
    exact congrFun ((Cert.KernelIdeal.Hand.W1_args m c Cert.KernelIdeal.main_arg0 (by decide)).trans (h.a0.symm.trans (Cert.ReferenceIdeal.Gen.V_main_arg0 m' c).symm)) (ix3 b s k)
  · funext k n
    exact congrFun ((Cert.KernelIdeal.Hand.W1_args m c Cert.KernelIdeal.main_arg1 (by decide)).trans (h.a1.symm.trans (Cert.ReferenceIdeal.Gen.V_main_arg1 m' c).symm)) (ix2 k n)
  · funext n
    exact (Cert.KernelIdeal.Hand.v0_at m c n).trans (congrFun (h.a2.symm.trans (Cert.ReferenceIdeal.Gen.V_main_arg2 m' c).symm) (ix1 n))
  · funext n
    exact (Cert.KernelIdeal.Hand.v1_at m c n).trans (congrFun (h.a3.symm.trans (Cert.ReferenceIdeal.Gen.V_main_arg3 m' c).symm) (ix1 n))
  · funext b s d
    exact (congrFun (congrArg twice (funext fun i => congrArg Ideal.cos (ang_same m m' c h b s i))) d).trans (Cert.ReferenceIdeal.Hand.cos_at m' c b s d).symm
  · funext b s d
    exact (congrFun (congrArg twice (funext fun i => congrArg Ideal.sin (ang_same m m' c h b s i))) d).trans (Cert.ReferenceIdeal.Hand.sin_at m' c b s d).symm
/-! Result by result, the reference leaves what the kernel leaves. -/

theorem same0 (h : Agree m m' c) : (Cert.ReferenceIdeal.Gen.dats m' 0 c).arrAt 6 Cert.ReferenceIdeal.cfg0.N = Cert.KernelIdeal.Hand.W4 m c (Proc.devRef .tc Cert.KernelIdeal.main_v16_0) := by
  refine (Cert.ReferenceIdeal.Hand.arrR6 m' c).trans (Eq.trans ?_ (Cert.KernelIdeal.Hand.res0 m c).symm)
  rw [inputs_same m m' c h]
theorem same1 (h : Agree m m' c) : (Cert.ReferenceIdeal.Gen.dats m' 0 c).arrAt 7 Cert.ReferenceIdeal.cfg0.N = Cert.KernelIdeal.Hand.W4 m c (Proc.devRef .tc Cert.KernelIdeal.main_v15_0) := by
  refine (Cert.ReferenceIdeal.Hand.arrR7 m' c).trans (Eq.trans ?_ (Cert.KernelIdeal.Hand.res1 m c).symm)
  rw [inputs_same m m' c h]
theorem same2 (h : Agree m m' c) : (Cert.ReferenceIdeal.Gen.dats m' 0 c).arrAt 8 Cert.ReferenceIdeal.cfg0.N = Cert.KernelIdeal.Hand.W4 m c (Proc.devRef .tc Cert.KernelIdeal.main_v15_1) := by
  refine (Cert.ReferenceIdeal.Hand.arrR8 m' c).trans (Eq.trans ?_ (Cert.KernelIdeal.Hand.res2 m c).symm)
  rw [inputs_same m m' c h]
theorem same3 (h : Agree m m' c) : (Cert.ReferenceIdeal.Gen.dats m' 0 c).arrAt 9 Cert.ReferenceIdeal.cfg0.N = Cert.KernelIdeal.Hand.W4 m c (Proc.devRef .tc Cert.KernelIdeal.main_v17) := by
  refine (Cert.ReferenceIdeal.Hand.arrR9 m' c).trans (Eq.trans ?_ (Cert.KernelIdeal.Hand.res3 m c).symm)
  rw [inputs_same m m' c h]
theorem same4 (h : Agree m m' c) : (Cert.ReferenceIdeal.Gen.dats m' 0 c).arrAt 10 Cert.ReferenceIdeal.cfg0.N = Cert.KernelIdeal.Hand.W4 m c (Proc.devRef .tc Cert.KernelIdeal.main_v18) := by
  refine (Cert.ReferenceIdeal.Hand.arrR10 m' c).trans (Eq.trans ?_ (Cert.KernelIdeal.Hand.res4 m c).symm)
  rw [inputs_same m m' c h]
theorem same5 (h : Agree m m' c) : (Cert.ReferenceIdeal.Gen.dats m' 0 c).arrAt 11 Cert.ReferenceIdeal.cfg0.N = Cert.KernelIdeal.Hand.W4 m c (Proc.devRef .tc Cert.KernelIdeal.main_v15_5) := by
  refine (Cert.ReferenceIdeal.Hand.arrR11 m' c).trans (Eq.trans ?_ (Cert.KernelIdeal.Hand.res5 m c).symm)
  rw [inputs_same m m' c h]
theorem same6 (h : Agree m m' c) : (Cert.ReferenceIdeal.Gen.dats m' 0 c).arrAt 12 Cert.ReferenceIdeal.cfg0.N = Cert.KernelIdeal.Hand.W4 m c (Proc.devRef .tc Cert.KernelIdeal.main_v19) := by
  refine (Cert.ReferenceIdeal.Hand.arrR12 m' c).trans (Eq.trans ?_ (Cert.KernelIdeal.Hand.res6 m c).symm)
  rw [inputs_same m m' c h]
end

/-- Over the reals the kernel and the reference leave the same results. -/
theorem algebraic : Cert.algebraic_KernelIdeal_ReferenceIdeal (hKernelIdeal := Cert.KernelIdeal.Gen.facts) (hReferenceIdeal := Cert.ReferenceIdeal.Gen.facts) := by
  intro m g m' g' _ hagree
  have ha : ∀ c : Dev Cert.KernelIdeal.nD, Agree m m' c := fun c =>
    ⟨(hagree c).1, (hagree c).2.1, (hagree c).2.2.1, (hagree c).2.2.2.1, (hagree c).2.2.2.2⟩
  refine ⟨fun c => Cert.KernelIdeal.Hand.W4 m c (Proc.devRef .tc Cert.KernelIdeal.main_v16_0), fun c => Cert.KernelIdeal.Hand.W4 m c (Proc.devRef .tc Cert.KernelIdeal.main_v15_0),
    fun c => Cert.KernelIdeal.Hand.W4 m c (Proc.devRef .tc Cert.KernelIdeal.main_v15_1), fun c => Cert.KernelIdeal.Hand.W4 m c (Proc.devRef .tc Cert.KernelIdeal.main_v17),
    fun c => Cert.KernelIdeal.Hand.W4 m c (Proc.devRef .tc Cert.KernelIdeal.main_v18), fun c => Cert.KernelIdeal.Hand.W4 m c (Proc.devRef .tc Cert.KernelIdeal.main_v15_5),
    fun c => Cert.KernelIdeal.Hand.W4 m c (Proc.devRef .tc Cert.KernelIdeal.main_v19), ?_, ?_⟩
  · refine (θ_run _ _ _).mono (fun r h c => ?_) (Cert.KernelIdeal.Hand.run_W4 m g)
    have hm := fun b hb => h.1 c _ (Cert.KernelIdeal.Hand.mem_uc b hb)
    exact ⟨hm _ (by decide), hm _ (by decide), hm _ (by decide), hm _ (by decide), hm _ (by decide), hm _ (by decide), hm _ (by decide),
      (hm _ (by decide)).trans (Cert.KernelIdeal.Hand.W4_main_arg0 m c), (hm _ (by decide)).trans (Cert.KernelIdeal.Hand.W4_main_arg1 m c),
      (hm _ (by decide)).trans (Cert.KernelIdeal.Hand.W4_main_arg2 m c), (hm _ (by decide)).trans (Cert.KernelIdeal.Hand.W4_main_arg3 m c),
      (hm _ (by decide)).trans (Cert.KernelIdeal.Hand.W4_main_arg4 m c)⟩
  · refine (θ_run _ _ _).mono (fun r h c => ?_) (θ_run_and (Cert.ReferenceIdeal.Gen.run_main m' g') (Cert.ReferenceIdeal.Gen.unchanged m' g'))
    exact ⟨((h.1 c).1 6).trans (same0 m m' c (ha c)), ((h.1 c).1 7).trans (same1 m m' c (ha c)), ((h.1 c).1 8).trans (same2 m m' c (ha c)),
      ((h.1 c).1 9).trans (same3 m m' c (ha c)), ((h.1 c).1 10).trans (same4 m m' c (ha c)), ((h.1 c).1 11).trans (same5 m m' c (ha c)),
      ((h.1 c).1 12).trans (same6 m m' c (ha c)), h.2 c⟩

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KFrame
public import proofs.«01_k».proof.Proof.KIFrame
public import proofs.«01_k».proof.Proof.Value
public import Idealize.ShloMosaic.PureOps.IdealRules
public import Idealize.ShloMosaic.Adequacy
public import Idealize.ShloMosaic.Init

@[expose] public section

noncomputable section

namespace Cert.Proof

open Idealize.ShloMosaic Idealize.SL.Sem Cert.Kernel

/-- The frames of the kernel, its idealization and the reference, the named constant, and the equality of all seven results over the reals. -/
theorem claim : Cert.Claim :=
  ⟨Cert.Kernel.Gen.facts, Cert.KernelIdeal.Gen.facts, Cert.ReferenceIdeal.Gen.facts,
    fun m ρ _ => Cert.Kernel.Hand.frame m ρ,
    fun m ρ _ => Cert.KernelIdeal.Hand.frame m ρ,
    fun m ρ _ => Cert.ReferenceIdeal.Gen.frame m ρ,
    IdealRules.named_const.statement Cert.KernelIdeal.κ "score_log2e" .f32 0x3E0293EE#32 _ rfl,
    Cert.Hand.algebraic⟩

end Cert.Proof

end
